-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 65536, 8, 128]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 65536, 8, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x512x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x512x1024 : Shape := ⟨3, ![1, 512, 1024]⟩
abbrev S1024x1024 : Shape := ⟨2, ![1024, 1024]⟩
abbrev S1x65536x8x128 : Shape := ⟨4, ![1, 65536, 8, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x65536x8x128 : S_.BroadcastsInDim S1x65536x8x128 (![] : Fin 0 → Fin S1x65536x8x128.rank)
  reducesTo_S1x65536x8x128_S_d0_1_2_3 : S1x65536x8x128.ReducesTo [0, 1, 2, 3] S_

variable [Facts]

def fn {F : FTy → Type} [FloatOps F] (main_arg0 : FVec F S1x512x1024 .f32) (main_arg1 : FVec F S1024x1024 .f32) (main_arg2 : FVec F S1x65536x8x128 .f32) (main_arg3 : FVec F S1x65536x8x128 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x65536x8x128 .f32 := Host.absf main_arg2
  let main_cst_2 : FVec F S_ .f32 := constant S_ .f32 0x7F800000#32
  let main_v10 : FVec F S1x65536x8x128 .f32 := broadcastInDim S1x65536x8x128 ![] bcast_S_S1x65536x8x128 main_cst_2
  let main_v11 : IVec S1x65536x8x128 1 := cmpf .olt main_v9 main_v10
  let main_c_3 : IVec S_ 1 := constantI S_ 1 1#1
  let main_v12 : IVec S_ 1 := (fun x v => Host.reduce IntOp.andi x v reducesTo_S1x65536x8x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S512x1024 : Shape := ⟨2, ![512, 1024]⟩
abbrev S32x16x1152 : Shape := ⟨3, ![32, 16, 1152]⟩
abbrev S2x16x1152 : Shape := ⟨3, ![2, 16, 1152]⟩
abbrev S2x16x1024 : Shape := ⟨3, ![2, 16, 1024]⟩
abbrev S2 : Shape := ⟨1, ![2]⟩
abbrev S_ : Shape := ⟨0, ![]⟩
abbrev S512x128 : Shape := ⟨2, ![512, 128]⟩
abbrev S1x2048x1x128 : Shape := ⟨4, ![1, 2048, 1, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S512x8 : Shape := ⟨2, ![512, 8]⟩
abbrev S512x120 : Shape := ⟨2, ![512, 120]⟩
abbrev S512x1152 : Shape := ⟨2, ![512, 1152]⟩
abbrev S1 : Shape := ⟨1, ![1]⟩
abbrev S1x16x1152 : Shape := ⟨3, ![1, 16, 1152]⟩
abbrev S16x1152 : Shape := ⟨2, ![16, 1152]⟩
abbrev S16x1024 : Shape := ⟨2, ![16, 1024]⟩
abbrev S16x8x128 : Shape := ⟨3, ![16, 8, 128]⟩
abbrev S16x8 : Shape := ⟨2, ![16, 8]⟩
abbrev S16x8x1 : Shape := ⟨3, ![16, 8, 1]⟩
abbrev S1x16x1024 : Shape := ⟨3, ![1, 16, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x8x128, .f32⟩
  | .local _ .vmem, ⟨4, _⟩ => ⟨S1x2048x8x128, .f32⟩
  | .local _ .vmem, ⟨5, _⟩ => ⟨S512x1024, .f32⟩
  | .local _ .vmem, ⟨6, _⟩ => ⟨S32x16x1152, .f32⟩
  | .local _ .vmem, ⟨7, _⟩ => ⟨S2x16x1152, .f32⟩
  | .local _ .vmem, ⟨8, _⟩ => ⟨S2x16x1152, .f32⟩
  | .local _ .vmem, ⟨9, _⟩ => ⟨S2x16x1024, .f32⟩
  | .local _ .vmem, ⟨10, _⟩ => ⟨S2x16x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 5 22 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8 : BitVec 32 := 1#32
  let v11 : BitVec 32 := Scalar.muli v4 c1_i32_8
  let v12 : BitVec 32 := Scalar.addi c0_i32_9 v11
  v12.toNat
def k0_off1 (d0 : Dev nD) (c0_i32_107 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v123 : BitVec 32 := Scalar.addi v2 c17_i32
  let v124 : BitVec 32 := Scalar.subi v123 c0_i32_107
  let c32_i32_108 : BitVec 32 := 32#32
  let v125 : BitVec 32 := Scalar.addi v124 c32_i32_108
  let c32_i32_109 : BitVec 32 := 32#32
  let v126 : BitVec 32 := Scalar.remsi v125 c32_i32_109
  let c0_i32_117 : BitVec 32 := 0#32
  let c0_i32_118 : BitVec 32 := 0#32
  ![v126.toNat, 0, 0]
def k0_dev3 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_113 : BitVec 32 := 1#32
  let v127 : BitVec 32 := Scalar.muli v4 c1_i32_113
  let v128 : BitVec 32 := Scalar.addi c0_i32_114 v127
  v128.toNat
def k0_off2 (d0 : Dev nD) (c0_i32_119 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v137 : BitVec 32 := Scalar.subi v2 c14_i32
  let v138 : BitVec 32 := Scalar.addi v137 c0_i32_119
  let c32_i32_120 : BitVec 32 := 32#32
  let v139 : BitVec 32 := Scalar.addi v138 c32_i32_120
  let c32_i32_121 : BitVec 32 := 32#32
  let v140 : BitVec 32 := Scalar.remsi v139 c32_i32_121
  let c0_i32_129 : BitVec 32 := 0#32
  let c0_i32_130 : BitVec 32 := 0#32
  ![v140.toNat, 0, 0]
def k0_dev4 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_125 : BitVec 32 := 1#32
  let v141 : BitVec 32 := Scalar.muli v7 c1_i32_125
  let v142 : BitVec 32 := Scalar.addi c0_i32_126 v141
  v142.toNat
def k0_off3 (d0 : Dev nD) (c0_i32_148 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v165 : BitVec 32 := Scalar.addi v2 c16_i32
  let v166 : BitVec 32 := Scalar.subi v165 c0_i32_148
  let c32_i32_149 : BitVec 32 := 32#32
  let v167 : BitVec 32 := Scalar.addi v166 c32_i32_149
  let c32_i32_150 : BitVec 32 := 32#32
  let v168 : BitVec 32 := Scalar.remsi v167 c32_i32_150
  let v169 : Index := Scalar.indexCast v168
  let c0_151 : Index := 0#32
  let c0_152 : Index := 0#32
  ![v169.toNat, 0, 0]
def k0_dev5 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_159 : BitVec 32 := 1#32
  let v177 : BitVec 32 := Scalar.muli v7 c1_i32_159
  let v178 : BitVec 32 := Scalar.addi c0_i32_160 v177
  v178.toNat
def k0_off4 (d0 : Dev nD) (c0_i32_178 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v193 : BitVec 32 := Scalar.subi v2 c13_i32
  let v194 : BitVec 32 := Scalar.addi v193 c0_i32_178
  let c32_i32_179 : BitVec 32 := 32#32
  let v195 : BitVec 32 := Scalar.addi v194 c32_i32_179
  let c32_i32_180 : BitVec 32 := 32#32
  let v196 : BitVec 32 := Scalar.remsi v195 c32_i32_180
  let v197 : Index := Scalar.indexCast v196
  let c0_181 : Index := 0#32
  let c0_182 : Index := 0#32
  ![v197.toNat, 0, 0]
def k0_dev6 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_189 : BitVec 32 := 1#32
  let v205 : BitVec 32 := Scalar.muli v4 c1_i32_189
  let v206 : BitVec 32 := Scalar.addi c0_i32_190 v205
  v206.toNat
def k0_dev7 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_198 : BitVec 32 := 1#32
  let v211 : BitVec 32 := Scalar.muli v4 c1_i32_198
  let v212 : BitVec 32 := Scalar.addi c0_i32_199 v211
  v212.toNat
def k0_dev8 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_211 : BitVec 32 := 1#32
  let v225 : BitVec 32 := Scalar.muli v7 c1_i32_211
  let v226 : BitVec 32 := Scalar.addi c0_i32_212 v225
  v226.toNat
def k0_dev9 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_246 : BitVec 32 := 1#32
  let v261 : BitVec 32 := Scalar.muli v7 c1_i32_246
  let v262 : BitVec 32 := Scalar.addi c0_i32_247 v261
  v262.toNat
def k0_dev10 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_277 : BitVec 32 := 1#32
  let v289 : BitVec 32 := Scalar.muli v4 c1_i32_277
  let v290 : BitVec 32 := Scalar.addi c0_i32_278 v289
  v290.toNat
def k0_dev11 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_290 : BitVec 32 := 1#32
  let v295 : BitVec 32 := Scalar.muli v4 c1_i32_290
  let v296 : BitVec 32 := Scalar.addi c0_i32_291 v295
  v296.toNat
def k0_dev12 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_303 : BitVec 32 := 1#32
  let v309 : BitVec 32 := Scalar.muli v7 c1_i32_303
  let v310 : BitVec 32 := Scalar.addi c0_i32_304 v309
  v310.toNat
def k0_dev13 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_338 : BitVec 32 := 1#32
  let v345 : BitVec 32 := Scalar.muli v7 c1_i32_338
  let v346 : BitVec 32 := Scalar.addi c0_i32_339 v345
  v346.toNat
def k0_dev14 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_369 : BitVec 32 := 1#32
  let v373 : BitVec 32 := Scalar.muli v4 c1_i32_369
  let v374 : BitVec 32 := Scalar.addi c0_i32_370 v373
  v374.toNat
def k0_dev15 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_381 : BitVec 32 := 1#32
  let v379 : BitVec 32 := Scalar.muli v4 c1_i32_381
  let v380 : BitVec 32 := Scalar.addi c0_i32_382 v379
  v380.toNat
def k0_dev16 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_394 : BitVec 32 := 1#32
  let v393 : BitVec 32 := Scalar.muli v7 c1_i32_394
  let v394 : BitVec 32 := Scalar.addi c0_i32_395 v393
  v394.toNat
def k0_dev17 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_429 : BitVec 32 := 1#32
  let v429 : BitVec 32 := Scalar.muli v7 c1_i32_429
  let v430 : BitVec 32 := Scalar.addi c0_i32_430 v429
  v430.toNat
def k0_dev18 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_460 : BitVec 32 := 1#32
  let v457 : BitVec 32 := Scalar.muli v4 c1_i32_460
  let v458 : BitVec 32 := Scalar.addi c0_i32_461 v457
  v458.toNat
def k0_dev19 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_472 : BitVec 32 := 1#32
  let v463 : BitVec 32 := Scalar.muli v4 c1_i32_472
  let v464 : BitVec 32 := Scalar.addi c0_i32_473 v463
  v464.toNat
def k0_dev20 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_485 : BitVec 32 := 1#32
  let v477 : BitVec 32 := Scalar.muli v7 c1_i32_485
  let v478 : BitVec 32 := Scalar.addi c0_i32_486 v477
  v478.toNat
def k0_dev21 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_520 : BitVec 32 := 1#32
  let v513 : BitVec 32 := Scalar.muli v7 c1_i32_520
  let v514 : BitVec 32 := Scalar.addi c0_i32_521 v513
  v514.toNat
def k0_dev22 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_551 : BitVec 32 := 1#32
  let v541 : BitVec 32 := Scalar.muli v4 c1_i32_551
  let v542 : BitVec 32 := Scalar.addi c0_i32_552 v541
  v542.toNat
def k0_dev23 (d0 : Dev nD) : Nat :=
  let c0_i32_564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_563 : BitVec 32 := 1#32
  let v547 : BitVec 32 := Scalar.muli v4 c1_i32_563
  let v548 : BitVec 32 := Scalar.addi c0_i32_564 v547
  v548.toNat
def k0_dev24 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_576 : BitVec 32 := 1#32
  let v561 : BitVec 32 := Scalar.muli v7 c1_i32_576
  let v562 : BitVec 32 := Scalar.addi c0_i32_577 v561
  v562.toNat
def k0_dev25 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_611 : BitVec 32 := 1#32
  let v597 : BitVec 32 := Scalar.muli v7 c1_i32_611
  let v598 : BitVec 32 := Scalar.addi c0_i32_612 v597
  v598.toNat
def k0_dev26 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_642 : BitVec 32 := 1#32
  let v625 : BitVec 32 := Scalar.muli v4 c1_i32_642
  let v626 : BitVec 32 := Scalar.addi c0_i32_643 v625
  v626.toNat
def k0_dev27 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_654 : BitVec 32 := 1#32
  let v631 : BitVec 32 := Scalar.muli v4 c1_i32_654
  let v632 : BitVec 32 := Scalar.addi c0_i32_655 v631
  v632.toNat
def k0_dev28 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_667 : BitVec 32 := 1#32
  let v645 : BitVec 32 := Scalar.muli v7 c1_i32_667
  let v646 : BitVec 32 := Scalar.addi c0_i32_668 v645
  v646.toNat
def k0_dev29 (d0 : Dev nD) : Nat :=
  let c0_i32_703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_702 : BitVec 32 := 1#32
  let v681 : BitVec 32 := Scalar.muli v7 c1_i32_702
  let v682 : BitVec 32 := Scalar.addi c0_i32_703 v681
  v682.toNat
def k0_dev30 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_733 : BitVec 32 := 1#32
  let v709 : BitVec 32 := Scalar.muli v4 c1_i32_733
  let v710 : BitVec 32 := Scalar.addi c0_i32_734 v709
  v710.toNat
def k0_dev31 (d0 : Dev nD) : Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_745 : BitVec 32 := 1#32
  let v715 : BitVec 32 := Scalar.muli v4 c1_i32_745
  let v716 : BitVec 32 := Scalar.addi c0_i32_746 v715
  v716.toNat
def k0_dev32 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_758 : BitVec 32 := 1#32
  let v729 : BitVec 32 := Scalar.muli v7 c1_i32_758
  let v730 : BitVec 32 := Scalar.addi c0_i32_759 v729
  v730.toNat
def k0_dev33 (d0 : Dev nD) : Nat :=
  let c0_i32_794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_793 : BitVec 32 := 1#32
  let v765 : BitVec 32 := Scalar.muli v7 c1_i32_793
  let v766 : BitVec 32 := Scalar.addi c0_i32_794 v765
  v766.toNat
def k0_dev34 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_824 : BitVec 32 := 1#32
  let v793 : BitVec 32 := Scalar.muli v4 c1_i32_824
  let v794 : BitVec 32 := Scalar.addi c0_i32_825 v793
  v794.toNat
def k0_dev35 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_836 : BitVec 32 := 1#32
  let v799 : BitVec 32 := Scalar.muli v4 c1_i32_836
  let v800 : BitVec 32 := Scalar.addi c0_i32_837 v799
  v800.toNat
def k0_dev36 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_849 : BitVec 32 := 1#32
  let v813 : BitVec 32 := Scalar.muli v7 c1_i32_849
  let v814 : BitVec 32 := Scalar.addi c0_i32_850 v813
  v814.toNat
def k0_dev37 (d0 : Dev nD) : Nat :=
  let c0_i32_885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_884 : BitVec 32 := 1#32
  let v849 : BitVec 32 := Scalar.muli v7 c1_i32_884
  let v850 : BitVec 32 := Scalar.addi c0_i32_885 v849
  v850.toNat
def k0_dev38 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_915 : BitVec 32 := 1#32
  let v877 : BitVec 32 := Scalar.muli v4 c1_i32_915
  let v878 : BitVec 32 := Scalar.addi c0_i32_916 v877
  v878.toNat
def k0_dev39 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_927 : BitVec 32 := 1#32
  let v883 : BitVec 32 := Scalar.muli v4 c1_i32_927
  let v884 : BitVec 32 := Scalar.addi c0_i32_928 v883
  v884.toNat
def k0_dev40 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_940 : BitVec 32 := 1#32
  let v897 : BitVec 32 := Scalar.muli v7 c1_i32_940
  let v898 : BitVec 32 := Scalar.addi c0_i32_941 v897
  v898.toNat
def k0_dev41 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_975 : BitVec 32 := 1#32
  let v933 : BitVec 32 := Scalar.muli v7 c1_i32_975
  let v934 : BitVec 32 := Scalar.addi c0_i32_976 v933
  v934.toNat
def k0_dev42 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1006 : BitVec 32 := 1#32
  let v961 : BitVec 32 := Scalar.muli v4 c1_i32_1006
  let v962 : BitVec 32 := Scalar.addi c0_i32_1007 v961
  v962.toNat
def k0_dev43 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1018 : BitVec 32 := 1#32
  let v967 : BitVec 32 := Scalar.muli v4 c1_i32_1018
  let v968 : BitVec 32 := Scalar.addi c0_i32_1019 v967
  v968.toNat
def k0_dev44 (d0 : Dev nD) : Nat :=
  let c0_i32_1032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1031 : BitVec 32 := 1#32
  let v981 : BitVec 32 := Scalar.muli v7 c1_i32_1031
  let v982 : BitVec 32 := Scalar.addi c0_i32_1032 v981
  v982.toNat
def k0_dev45 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1066 : BitVec 32 := 1#32
  let v1017 : BitVec 32 := Scalar.muli v7 c1_i32_1066
  let v1018 : BitVec 32 := Scalar.addi c0_i32_1067 v1017
  v1018.toNat
def k0_dev46 (d0 : Dev nD) : Nat :=
  let c0_i32_1098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1097 : BitVec 32 := 1#32
  let v1045 : BitVec 32 := Scalar.muli v4 c1_i32_1097
  let v1046 : BitVec 32 := Scalar.addi c0_i32_1098 v1045
  v1046.toNat
def k0_dev47 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1109 : BitVec 32 := 1#32
  let v1051 : BitVec 32 := Scalar.muli v4 c1_i32_1109
  let v1052 : BitVec 32 := Scalar.addi c0_i32_1110 v1051
  v1052.toNat
def k0_dev48 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1122 : BitVec 32 := 1#32
  let v1065 : BitVec 32 := Scalar.muli v7 c1_i32_1122
  let v1066 : BitVec 32 := Scalar.addi c0_i32_1123 v1065
  v1066.toNat
def k0_dev49 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1157 : BitVec 32 := 1#32
  let v1101 : BitVec 32 := Scalar.muli v7 c1_i32_1157
  let v1102 : BitVec 32 := Scalar.addi c0_i32_1158 v1101
  v1102.toNat
def k0_dev50 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1188 : BitVec 32 := 1#32
  let v1129 : BitVec 32 := Scalar.muli v4 c1_i32_1188
  let v1130 : BitVec 32 := Scalar.addi c0_i32_1189 v1129
  v1130.toNat
def k0_dev51 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1200 : BitVec 32 := 1#32
  let v1135 : BitVec 32 := Scalar.muli v4 c1_i32_1200
  let v1136 : BitVec 32 := Scalar.addi c0_i32_1201 v1135
  v1136.toNat
def k0_dev52 (d0 : Dev nD) : Nat :=
  let c0_i32_1214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1213 : BitVec 32 := 1#32
  let v1149 : BitVec 32 := Scalar.muli v7 c1_i32_1213
  let v1150 : BitVec 32 := Scalar.addi c0_i32_1214 v1149
  v1150.toNat
def k0_dev53 (d0 : Dev nD) : Nat :=
  let c0_i32_1249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1248 : BitVec 32 := 1#32
  let v1185 : BitVec 32 := Scalar.muli v7 c1_i32_1248
  let v1186 : BitVec 32 := Scalar.addi c0_i32_1249 v1185
  v1186.toNat
def k0_dev54 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1279 : BitVec 32 := 1#32
  let v1213 : BitVec 32 := Scalar.muli v4 c1_i32_1279
  let v1214 : BitVec 32 := Scalar.addi c0_i32_1280 v1213
  v1214.toNat
def k0_dev55 (d0 : Dev nD) : Nat :=
  let c0_i32_1293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1292 : BitVec 32 := 1#32
  let v1219 : BitVec 32 := Scalar.muli v4 c1_i32_1292
  let v1220 : BitVec 32 := Scalar.addi c0_i32_1293 v1219
  v1220.toNat
def k0_dev56 (d0 : Dev nD) : Nat :=
  let c0_i32_1306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1305 : BitVec 32 := 1#32
  let v1233 : BitVec 32 := Scalar.muli v7 c1_i32_1305
  let v1234 : BitVec 32 := Scalar.addi c0_i32_1306 v1233
  v1234.toNat
def k0_dev57 (d0 : Dev nD) : Nat :=
  let c0_i32_1341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1340 : BitVec 32 := 1#32
  let v1269 : BitVec 32 := Scalar.muli v7 c1_i32_1340
  let v1270 : BitVec 32 := Scalar.addi c0_i32_1341 v1269
  v1270.toNat
def k0_dev58 (d0 : Dev nD) : Nat :=
  let c0_i32_1382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1381 : BitVec 32 := 1#32
  let v1301 : BitVec 32 := Scalar.muli v4 c1_i32_1381
  let v1302 : BitVec 32 := Scalar.addi c0_i32_1382 v1301
  v1302.toNat
def k0_dev59 (d0 : Dev nD) : Nat :=
  let c0_i32_1395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1394 : BitVec 32 := 1#32
  let v1315 : BitVec 32 := Scalar.muli v7 c1_i32_1394
  let v1316 : BitVec 32 := Scalar.addi c0_i32_1395 v1315
  v1316.toNat
def k0_dev60 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1464 : BitVec 32 := 1#32
  let v1381 : BitVec 32 := Scalar.muli v4 c1_i32_1464
  let v1382 : BitVec 32 := Scalar.addi c0_i32_1465 v1381
  v1382.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1498 : BitVec 32 := 1#32
  let v1417 : BitVec 32 := Scalar.addi v2 c1_i32_1498
  let c32_i32_1499 : BitVec 32 := 32#32
  let v1418 : BitVec 32 := Scalar.remsi v1417 c32_i32_1499
  let v1419 : Index := Scalar.indexCast v1418
  let c0_1500 : Index := 0#32
  let c0_1501 : Index := 0#32
  ![v1419.toNat, 0, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1498 : BitVec 32 := 1#32
  let v1417 : BitVec 32 := Scalar.addi v2 c1_i32_1498
  let c32_i32_1499 : BitVec 32 := 32#32
  let v1418 : BitVec 32 := Scalar.remsi v1417 c32_i32_1499
  let c16_i32_1505 : BitVec 32 := 16#32
  let v1432 : BitVec 32 := Scalar.muli v1418 c16_i32_1505
  let v1433 : Index := Scalar.indexCast v1432
  let c0_1506 : Index := 0#32
  ![v1433.toNat, 0]
def k0_off7 (d0 : Dev nD) (c0_i32_1508 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1507 : BitVec 32 := 1#32
  let v1435 : BitVec 32 := Scalar.addi v2 c1_i32_1507
  let v1436 : BitVec 32 := Scalar.subi v1435 c0_i32_1508
  let c32_i32_1509 : BitVec 32 := 32#32
  let v1437 : BitVec 32 := Scalar.addi v1436 c32_i32_1509
  let c32_i32_1510 : BitVec 32 := 32#32
  let v1438 : BitVec 32 := Scalar.remsi v1437 c32_i32_1510
  let c16_i32_1511 : BitVec 32 := 16#32
  let v1439 : BitVec 32 := Scalar.muli v1438 c16_i32_1511
  let c0_i32_1519 : BitVec 32 := 0#32
  ![v1439.toNat, 0]
def k0_dev61 (d0 : Dev nD) : Nat :=
  let c0_i32_1516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1515 : BitVec 32 := 1#32
  let v1440 : BitVec 32 := Scalar.muli v4 c1_i32_1515
  let v1441 : BitVec 32 := Scalar.addi c0_i32_1516 v1440
  v1441.toNat
def k0_off8 (d0 : Dev nD) (c0_i32_1521 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1520 : BitVec 32 := 1#32
  let v1449 : BitVec 32 := Scalar.addi v2 c1_i32_1520
  let v1450 : BitVec 32 := Scalar.addi v1449 c0_i32_1521
  let c32_i32_1522 : BitVec 32 := 32#32
  let v1451 : BitVec 32 := Scalar.remsi v1450 c32_i32_1522
  let c16_i32_1523 : BitVec 32 := 16#32
  let v1452 : BitVec 32 := Scalar.muli v1451 c16_i32_1523
  let c0_i32_1531 : BitVec 32 := 0#32
  ![v1452.toNat, 0]
def k0_dev62 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1527 : BitVec 32 := 1#32
  let v1453 : BitVec 32 := Scalar.muli v7 c1_i32_1527
  let v1454 : BitVec 32 := Scalar.addi c0_i32_1528 v1453
  v1454.toNat
def k0_off9 (d0 : Dev nD) (c0_i32_1547 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1474 : BitVec 32 := Scalar.subi v2 c0_i32_1547
  let c32_i32_1548 : BitVec 32 := 32#32
  let v1475 : BitVec 32 := Scalar.addi v1474 c32_i32_1548
  let c32_i32_1549 : BitVec 32 := 32#32
  let v1476 : BitVec 32 := Scalar.remsi v1475 c32_i32_1549
  let c16_i32_1553 : BitVec 32 := 16#32
  let v1479 : BitVec 32 := Scalar.muli v1476 c16_i32_1553
  let v1480 : Index := Scalar.indexCast v1479
  let c0_1554 : Index := 0#32
  ![v1480.toNat, 0]
def k0_dev63 (d0 : Dev nD) : Nat :=
  let c0_i32_1557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1556 : BitVec 32 := 1#32
  let v1482 : BitVec 32 := Scalar.muli v7 c1_i32_1556
  let v1483 : BitVec 32 := Scalar.addi c0_i32_1557 v1482
  v1483.toNat
def k0_off10 (d0 : Dev nD) (c0_i32_1574 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1573 : BitVec 32 := 2#32
  let v1496 : BitVec 32 := Scalar.addi v2 c2_i32_1573
  let v1497 : BitVec 32 := Scalar.addi v1496 c0_i32_1574
  let c32_i32_1575 : BitVec 32 := 32#32
  let v1498 : BitVec 32 := Scalar.remsi v1497 c32_i32_1575
  let c16_i32_1579 : BitVec 32 := 16#32
  let v1501 : BitVec 32 := Scalar.muli v1498 c16_i32_1579
  let v1502 : Index := Scalar.indexCast v1501
  let c0_1580 : Index := 0#32
  ![v1502.toNat, 0]
def k0_dev64 (d0 : Dev nD) : Nat :=
  let c0_i32_1583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1582 : BitVec 32 := 1#32
  let v1504 : BitVec 32 := Scalar.muli v4 c1_i32_1582
  let v1505 : BitVec 32 := Scalar.addi c0_i32_1583 v1504
  v1505.toNat
def k0_dev65 (d0 : Dev nD) : Nat :=
  let c0_i32_1593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1592 : BitVec 32 := 1#32
  let v1511 : BitVec 32 := Scalar.muli v4 c1_i32_1592
  let v1512 : BitVec 32 := Scalar.addi c0_i32_1593 v1511
  v1512.toNat
def k0_dev66 (d0 : Dev nD) : Nat :=
  let c0_i32_1605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1604 : BitVec 32 := 1#32
  let v1524 : BitVec 32 := Scalar.muli v7 c1_i32_1604
  let v1525 : BitVec 32 := Scalar.addi c0_i32_1605 v1524
  v1525.toNat
def k0_dev67 (d0 : Dev nD) : Nat :=
  let c0_i32_1634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1633 : BitVec 32 := 1#32
  let v1553 : BitVec 32 := Scalar.muli v7 c1_i32_1633
  let v1554 : BitVec 32 := Scalar.addi c0_i32_1634 v1553
  v1554.toNat
def k0_dev68 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1659 : BitVec 32 := 1#32
  let v1575 : BitVec 32 := Scalar.muli v4 c1_i32_1659
  let v1576 : BitVec 32 := Scalar.addi c0_i32_1660 v1575
  v1576.toNat
def k0_dev69 (d0 : Dev nD) : Nat :=
  let c0_i32_1674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1673 : BitVec 32 := 1#32
  let v1582 : BitVec 32 := Scalar.muli v4 c1_i32_1673
  let v1583 : BitVec 32 := Scalar.addi c0_i32_1674 v1582
  v1583.toNat
def k0_dev70 (d0 : Dev nD) : Nat :=
  let c0_i32_1686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1685 : BitVec 32 := 1#32
  let v1595 : BitVec 32 := Scalar.muli v7 c1_i32_1685
  let v1596 : BitVec 32 := Scalar.addi c0_i32_1686 v1595
  v1596.toNat
def k0_dev71 (d0 : Dev nD) : Nat :=
  let c0_i32_1715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1714 : BitVec 32 := 1#32
  let v1624 : BitVec 32 := Scalar.muli v7 c1_i32_1714
  let v1625 : BitVec 32 := Scalar.addi c0_i32_1715 v1624
  v1625.toNat
def k0_dev72 (d0 : Dev nD) : Nat :=
  let c0_i32_1741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1740 : BitVec 32 := 1#32
  let v1646 : BitVec 32 := Scalar.muli v4 c1_i32_1740
  let v1647 : BitVec 32 := Scalar.addi c0_i32_1741 v1646
  v1647.toNat
def k0_dev73 (d0 : Dev nD) : Nat :=
  let c0_i32_1755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1754 : BitVec 32 := 1#32
  let v1653 : BitVec 32 := Scalar.muli v4 c1_i32_1754
  let v1654 : BitVec 32 := Scalar.addi c0_i32_1755 v1653
  v1654.toNat
def k0_dev74 (d0 : Dev nD) : Nat :=
  let c0_i32_1767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1766 : BitVec 32 := 1#32
  let v1666 : BitVec 32 := Scalar.muli v7 c1_i32_1766
  let v1667 : BitVec 32 := Scalar.addi c0_i32_1767 v1666
  v1667.toNat
def k0_dev75 (d0 : Dev nD) : Nat :=
  let c0_i32_1796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1795 : BitVec 32 := 1#32
  let v1695 : BitVec 32 := Scalar.muli v7 c1_i32_1795
  let v1696 : BitVec 32 := Scalar.addi c0_i32_1796 v1695
  v1696.toNat
def k0_dev76 (d0 : Dev nD) : Nat :=
  let c0_i32_1822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1821 : BitVec 32 := 1#32
  let v1717 : BitVec 32 := Scalar.muli v4 c1_i32_1821
  let v1718 : BitVec 32 := Scalar.addi c0_i32_1822 v1717
  v1718.toNat
def k0_dev77 (d0 : Dev nD) : Nat :=
  let c0_i32_1836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1835 : BitVec 32 := 1#32
  let v1724 : BitVec 32 := Scalar.muli v4 c1_i32_1835
  let v1725 : BitVec 32 := Scalar.addi c0_i32_1836 v1724
  v1725.toNat
def k0_dev78 (d0 : Dev nD) : Nat :=
  let c0_i32_1848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1847 : BitVec 32 := 1#32
  let v1737 : BitVec 32 := Scalar.muli v7 c1_i32_1847
  let v1738 : BitVec 32 := Scalar.addi c0_i32_1848 v1737
  v1738.toNat
def k0_dev79 (d0 : Dev nD) : Nat :=
  let c0_i32_1877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1876 : BitVec 32 := 1#32
  let v1766 : BitVec 32 := Scalar.muli v7 c1_i32_1876
  let v1767 : BitVec 32 := Scalar.addi c0_i32_1877 v1766
  v1767.toNat
def k0_dev80 (d0 : Dev nD) : Nat :=
  let c0_i32_1903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1902 : BitVec 32 := 1#32
  let v1788 : BitVec 32 := Scalar.muli v4 c1_i32_1902
  let v1789 : BitVec 32 := Scalar.addi c0_i32_1903 v1788
  v1789.toNat
def k0_dev81 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1916 : BitVec 32 := 1#32
  let v1795 : BitVec 32 := Scalar.muli v4 c1_i32_1916
  let v1796 : BitVec 32 := Scalar.addi c0_i32_1917 v1795
  v1796.toNat
def k0_dev82 (d0 : Dev nD) : Nat :=
  let c0_i32_1929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1928 : BitVec 32 := 1#32
  let v1808 : BitVec 32 := Scalar.muli v7 c1_i32_1928
  let v1809 : BitVec 32 := Scalar.addi c0_i32_1929 v1808
  v1809.toNat
def k0_dev83 (d0 : Dev nD) : Nat :=
  let c0_i32_1958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1957 : BitVec 32 := 1#32
  let v1837 : BitVec 32 := Scalar.muli v7 c1_i32_1957
  let v1838 : BitVec 32 := Scalar.addi c0_i32_1958 v1837
  v1838.toNat
def k0_dev84 (d0 : Dev nD) : Nat :=
  let c0_i32_1984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1983 : BitVec 32 := 1#32
  let v1859 : BitVec 32 := Scalar.muli v4 c1_i32_1983
  let v1860 : BitVec 32 := Scalar.addi c0_i32_1984 v1859
  v1860.toNat
def k0_dev85 (d0 : Dev nD) : Nat :=
  let c0_i32_1998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1997 : BitVec 32 := 1#32
  let v1866 : BitVec 32 := Scalar.muli v4 c1_i32_1997
  let v1867 : BitVec 32 := Scalar.addi c0_i32_1998 v1866
  v1867.toNat
def k0_dev86 (d0 : Dev nD) : Nat :=
  let c0_i32_2010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2009 : BitVec 32 := 1#32
  let v1879 : BitVec 32 := Scalar.muli v7 c1_i32_2009
  let v1880 : BitVec 32 := Scalar.addi c0_i32_2010 v1879
  v1880.toNat
def k0_dev87 (d0 : Dev nD) : Nat :=
  let c0_i32_2039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2038 : BitVec 32 := 1#32
  let v1908 : BitVec 32 := Scalar.muli v7 c1_i32_2038
  let v1909 : BitVec 32 := Scalar.addi c0_i32_2039 v1908
  v1909.toNat
def k0_dev88 (d0 : Dev nD) : Nat :=
  let c0_i32_2065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2064 : BitVec 32 := 1#32
  let v1930 : BitVec 32 := Scalar.muli v4 c1_i32_2064
  let v1931 : BitVec 32 := Scalar.addi c0_i32_2065 v1930
  v1931.toNat
def k0_dev89 (d0 : Dev nD) : Nat :=
  let c0_i32_2079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2078 : BitVec 32 := 1#32
  let v1937 : BitVec 32 := Scalar.muli v4 c1_i32_2078
  let v1938 : BitVec 32 := Scalar.addi c0_i32_2079 v1937
  v1938.toNat
def k0_dev90 (d0 : Dev nD) : Nat :=
  let c0_i32_2091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2090 : BitVec 32 := 1#32
  let v1950 : BitVec 32 := Scalar.muli v7 c1_i32_2090
  let v1951 : BitVec 32 := Scalar.addi c0_i32_2091 v1950
  v1951.toNat
def k0_dev91 (d0 : Dev nD) : Nat :=
  let c0_i32_2120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2119 : BitVec 32 := 1#32
  let v1979 : BitVec 32 := Scalar.muli v7 c1_i32_2119
  let v1980 : BitVec 32 := Scalar.addi c0_i32_2120 v1979
  v1980.toNat
def k0_dev92 (d0 : Dev nD) : Nat :=
  let c0_i32_2146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2145 : BitVec 32 := 1#32
  let v2001 : BitVec 32 := Scalar.muli v4 c1_i32_2145
  let v2002 : BitVec 32 := Scalar.addi c0_i32_2146 v2001
  v2002.toNat
def k0_dev93 (d0 : Dev nD) : Nat :=
  let c0_i32_2160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2159 : BitVec 32 := 1#32
  let v2008 : BitVec 32 := Scalar.muli v4 c1_i32_2159
  let v2009 : BitVec 32 := Scalar.addi c0_i32_2160 v2008
  v2009.toNat
def k0_dev94 (d0 : Dev nD) : Nat :=
  let c0_i32_2172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2171 : BitVec 32 := 1#32
  let v2021 : BitVec 32 := Scalar.muli v7 c1_i32_2171
  let v2022 : BitVec 32 := Scalar.addi c0_i32_2172 v2021
  v2022.toNat
def k0_dev95 (d0 : Dev nD) : Nat :=
  let c0_i32_2201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2200 : BitVec 32 := 1#32
  let v2050 : BitVec 32 := Scalar.muli v7 c1_i32_2200
  let v2051 : BitVec 32 := Scalar.addi c0_i32_2201 v2050
  v2051.toNat
def k0_dev96 (d0 : Dev nD) : Nat :=
  let c0_i32_2227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2226 : BitVec 32 := 1#32
  let v2072 : BitVec 32 := Scalar.muli v4 c1_i32_2226
  let v2073 : BitVec 32 := Scalar.addi c0_i32_2227 v2072
  v2073.toNat
def k0_dev97 (d0 : Dev nD) : Nat :=
  let c0_i32_2241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2240 : BitVec 32 := 1#32
  let v2079 : BitVec 32 := Scalar.muli v4 c1_i32_2240
  let v2080 : BitVec 32 := Scalar.addi c0_i32_2241 v2079
  v2080.toNat
def k0_dev98 (d0 : Dev nD) : Nat :=
  let c0_i32_2253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2252 : BitVec 32 := 1#32
  let v2092 : BitVec 32 := Scalar.muli v7 c1_i32_2252
  let v2093 : BitVec 32 := Scalar.addi c0_i32_2253 v2092
  v2093.toNat
def k0_dev99 (d0 : Dev nD) : Nat :=
  let c0_i32_2282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2281 : BitVec 32 := 1#32
  let v2121 : BitVec 32 := Scalar.muli v7 c1_i32_2281
  let v2122 : BitVec 32 := Scalar.addi c0_i32_2282 v2121
  v2122.toNat
def k0_dev100 (d0 : Dev nD) : Nat :=
  let c0_i32_2308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2307 : BitVec 32 := 1#32
  let v2143 : BitVec 32 := Scalar.muli v4 c1_i32_2307
  let v2144 : BitVec 32 := Scalar.addi c0_i32_2308 v2143
  v2144.toNat
def k0_dev101 (d0 : Dev nD) : Nat :=
  let c0_i32_2322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2321 : BitVec 32 := 1#32
  let v2150 : BitVec 32 := Scalar.muli v4 c1_i32_2321
  let v2151 : BitVec 32 := Scalar.addi c0_i32_2322 v2150
  v2151.toNat
def k0_dev102 (d0 : Dev nD) : Nat :=
  let c0_i32_2334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2333 : BitVec 32 := 1#32
  let v2163 : BitVec 32 := Scalar.muli v7 c1_i32_2333
  let v2164 : BitVec 32 := Scalar.addi c0_i32_2334 v2163
  v2164.toNat
def k0_dev103 (d0 : Dev nD) : Nat :=
  let c0_i32_2363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2362 : BitVec 32 := 1#32
  let v2192 : BitVec 32 := Scalar.muli v7 c1_i32_2362
  let v2193 : BitVec 32 := Scalar.addi c0_i32_2363 v2192
  v2193.toNat
def k0_dev104 (d0 : Dev nD) : Nat :=
  let c0_i32_2389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2388 : BitVec 32 := 1#32
  let v2214 : BitVec 32 := Scalar.muli v4 c1_i32_2388
  let v2215 : BitVec 32 := Scalar.addi c0_i32_2389 v2214
  v2215.toNat
def k0_dev105 (d0 : Dev nD) : Nat :=
  let c0_i32_2403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2402 : BitVec 32 := 1#32
  let v2221 : BitVec 32 := Scalar.muli v4 c1_i32_2402
  let v2222 : BitVec 32 := Scalar.addi c0_i32_2403 v2221
  v2222.toNat
def k0_dev106 (d0 : Dev nD) : Nat :=
  let c0_i32_2415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2414 : BitVec 32 := 1#32
  let v2234 : BitVec 32 := Scalar.muli v7 c1_i32_2414
  let v2235 : BitVec 32 := Scalar.addi c0_i32_2415 v2234
  v2235.toNat
def k0_dev107 (d0 : Dev nD) : Nat :=
  let c0_i32_2444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2443 : BitVec 32 := 1#32
  let v2263 : BitVec 32 := Scalar.muli v7 c1_i32_2443
  let v2264 : BitVec 32 := Scalar.addi c0_i32_2444 v2263
  v2264.toNat
def k0_dev108 (d0 : Dev nD) : Nat :=
  let c0_i32_2470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2469 : BitVec 32 := 1#32
  let v2285 : BitVec 32 := Scalar.muli v4 c1_i32_2469
  let v2286 : BitVec 32 := Scalar.addi c0_i32_2470 v2285
  v2286.toNat
def k0_dev109 (d0 : Dev nD) : Nat :=
  let c0_i32_2484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2483 : BitVec 32 := 1#32
  let v2292 : BitVec 32 := Scalar.muli v4 c1_i32_2483
  let v2293 : BitVec 32 := Scalar.addi c0_i32_2484 v2292
  v2293.toNat
def k0_dev110 (d0 : Dev nD) : Nat :=
  let c0_i32_2496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2495 : BitVec 32 := 1#32
  let v2305 : BitVec 32 := Scalar.muli v7 c1_i32_2495
  let v2306 : BitVec 32 := Scalar.addi c0_i32_2496 v2305
  v2306.toNat
def k0_dev111 (d0 : Dev nD) : Nat :=
  let c0_i32_2525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2524 : BitVec 32 := 1#32
  let v2334 : BitVec 32 := Scalar.muli v7 c1_i32_2524
  let v2335 : BitVec 32 := Scalar.addi c0_i32_2525 v2334
  v2335.toNat
def k0_dev112 (d0 : Dev nD) : Nat :=
  let c0_i32_2551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2550 : BitVec 32 := 1#32
  let v2356 : BitVec 32 := Scalar.muli v4 c1_i32_2550
  let v2357 : BitVec 32 := Scalar.addi c0_i32_2551 v2356
  v2357.toNat
def k0_dev113 (d0 : Dev nD) : Nat :=
  let c0_i32_2565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2564 : BitVec 32 := 1#32
  let v2363 : BitVec 32 := Scalar.muli v4 c1_i32_2564
  let v2364 : BitVec 32 := Scalar.addi c0_i32_2565 v2363
  v2364.toNat
def k0_dev114 (d0 : Dev nD) : Nat :=
  let c0_i32_2577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2576 : BitVec 32 := 1#32
  let v2376 : BitVec 32 := Scalar.muli v7 c1_i32_2576
  let v2377 : BitVec 32 := Scalar.addi c0_i32_2577 v2376
  v2377.toNat
def k0_dev115 (d0 : Dev nD) : Nat :=
  let c0_i32_2606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2605 : BitVec 32 := 1#32
  let v2405 : BitVec 32 := Scalar.muli v7 c1_i32_2605
  let v2406 : BitVec 32 := Scalar.addi c0_i32_2606 v2405
  v2406.toNat
def k0_dev116 (d0 : Dev nD) : Nat :=
  let c0_i32_2643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2642 : BitVec 32 := 1#32
  let v2432 : BitVec 32 := Scalar.muli v4 c1_i32_2642
  let v2433 : BitVec 32 := Scalar.addi c0_i32_2643 v2432
  v2433.toNat
def k0_dev117 (d0 : Dev nD) : Nat :=
  let c0_i32_2655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_2654 : BitVec 32 := 1#32
  let v2445 : BitVec 32 := Scalar.muli v7 c1_i32_2654
  let v2446 : BitVec 32 := Scalar.addi c0_i32_2655 v2445
  v2446.toNat
def k0_dev118 (d0 : Dev nD) : Nat :=
  let c0_i32_2716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2715 : BitVec 32 := 1#32
  let v2499 : BitVec 32 := Scalar.muli v4 c1_i32_2715
  let v2500 : BitVec 32 := Scalar.addi c0_i32_2716 v2499
  v2500.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x1024 : Shape := ⟨2, ![1024, 1024]⟩
abbrev S1x65536x8x128 : Shape := ⟨4, ![1, 65536, 8, 128]⟩
abbrev S1x512x8x128 : Shape := ⟨4, ![1, 512, 8, 128]⟩
abbrev S1x8x512x65536 : Shape := ⟨4, ![1, 8, 512, 65536]⟩
abbrev S_ : Shape := ⟨0, ![]⟩
abbrev S1x8x512 : Shape := ⟨3, ![1, 8, 512]⟩
abbrev S1x8x512x1 : Shape := ⟨4, ![1, 8, 512, 1]⟩
abbrev S1x8x128x512 : Shape := ⟨4, ![1, 8, 128, 512]⟩
abbrev S1x512x8x1 : Shape := ⟨4, ![1, 512, 8, 1]⟩
abbrev S512x1024 : Shape := ⟨2, ![512, 1024]⟩

abbrev nBuf : Space → Nat
  | .hbm => 28
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x65536x8x128, .f32⟩
  | .hbm, ⟨3, _⟩ => ⟨S1x65536x8x128, .f32⟩
  | .hbm, ⟨4, _⟩ => ⟨S1024x1024, .f32⟩
  | .hbm, ⟨5, _⟩ => ⟨S1x512x1024, .f32⟩
  | .hbm, ⟨6, _⟩ => ⟨S1x512x8x128, .f32⟩
  | .hbm, ⟨7, _⟩ => ⟨S1x8x512x65536, .f32⟩
  | .hbm, ⟨8, _⟩ => ⟨S_, .f32⟩
  | .hbm, ⟨9, _⟩ => ⟨S1x8x512x65536, .f32⟩
  | .hbm, ⟨10, _⟩ => ⟨S1x8x512x65536, .f32⟩
  | .hbm, ⟨11, _⟩ => ⟨S_, .f32⟩
  | .hbm, ⟨12, _⟩ => ⟨S1x8x512, .f32⟩
  | .hbm, ⟨13, _⟩ => ⟨S1x8x512x1, .f32⟩
  | .hbm, ⟨14, _⟩ => ⟨S1x8x512x65536, .f32⟩
  | .hbm, ⟨15, _⟩ => ⟨S1x8x512x65536, .f32⟩
  | .hbm, ⟨16, _⟩ => ⟨S1x8x512x65536, .f32⟩
  | .hbm, ⟨17, _⟩ => ⟨S_, .f32⟩
  | .hbm, ⟨18, _⟩ => ⟨S1x8x512, .f32⟩
  | .hbm, ⟨19, _⟩ => ⟨S1x8x512x1, .f32⟩
  | .hbm, ⟨20, _⟩ => ⟨S1x8x128x512, .f32⟩
  | .hbm, ⟨21, _⟩ => ⟨S1x512x8x128, .f32⟩
  | .hbm, ⟨22, _⟩ => ⟨S1x512x8x1, .f32⟩
  | .hbm, ⟨23, _⟩ => ⟨S1x512x8x128, .f32⟩
  | .hbm, ⟨24, _⟩ => ⟨S1x512x8x128, .f32⟩
  | .hbm, ⟨25, _⟩ => ⟨S1x512x1024, .f32⟩
  | .hbm, ⟨26, _⟩ => ⟨S1x512x1024, .f32⟩
  | .hbm, ⟨27, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Prog.lean ====
/-
  The kernel body as a sequence of HOPS.

  The printed body is one long run of operations, cut into parts at places that have no meaning for the argument. Here it is written as
  a prologue (handshake, attention partials of this device), sixteen reduce-scatter steps, the output projection of one block of rows,
  and sixteen all-gather steps; a step is made of a few fragments (send, the two waits, the block's update, a credit). `body_eq` says
  the printed body is this sequence.
-/
module

public import proofs.«01_k».proof.Proof.Gen.KernelIdeal
public import proofs.«01_k».proof.Proof.Gen.KernelIdeal.Skeleton

@[expose] public section

noncomputable section

namespace Cert.KernelIdeal.Gen

open Idealize.ShloMosaic Idealize.SL.Sem

variable {F : FTy → Type} [FloatOps F]

/-- Programs of one device's core. -/
abbrev KP (F : FTy → Type) [FloatOps F] (α : Type) := Prog (TpuEff nD τ sig (Elt F) Λ₀ .tc) α

/-! ### Fragments -/

/-- A slot's offset is inside the two-slot buffers. -/
theorem slot_inb (k : Fin 2) : ∀ a, (![k.val] : Fin 1 → Nat) a + S1.size a ≤ S2.size a := by
  intro a; have := k.isLt; fin_cases a; show k.val + 1 ≤ 2; omega
@[inherit_doc slot_inb] theorem slotA_inb (k : Fin 2) : ∀ a, (![k.val, 0, 0] : Fin 3 → Nat) a + S1x16x1152.size a ≤ S2x16x1152.size a := by
  intro a; have := k.isLt
  fin_cases a
  · show k.val + 1 ≤ 2; omega
  · show 0 + 16 ≤ 16; omega
  · show 0 + 1152 ≤ 1152; omega
@[inherit_doc slot_inb] theorem slotG_inb (k : Fin 2) : ∀ a, (![k.val, 0, 0] : Fin 3 → Nat) a + S1x16x1024.size a ≤ S2x16x1024.size a := by
  intro a; have := k.isLt
  fin_cases a
  · show k.val + 1 ≤ 2; omega
  · show 0 + 16 ≤ 16; omega
  · show 0 + 1024 ≤ 1024; omega

/-- Semaphore `k` of a pair. -/
abbrev semAt (S : DmaSems sig S2) (k : Fin 2) : DmaSem sig :=
  ((S.slice (Rect.unit (s := S2) ![k.val] S1.size (slot_inb k))).squeeze S_ squeezes_S1_S_).sem

/-- Chunk at `o` of the accumulator, and slot `k` of a reduce-scatter buffer, as a copy names them. -/
abbrev accAt (m : Memref sig .tc .vmem S32x16x1152 .f32) (o : Fin 3 → ℕ) (ho : ∀ a, o a + S1x16x1152.size a ≤ S32x16x1152.size a) :
    Memref sig .tc .vmem S16x1152 .f32 :=
  (m.slice (Rect.unit (s := S32x16x1152) o S1x16x1152.size ho) (fun _ => rfl)).squeeze S16x1152 squeezes_S1x16x1152_S16x1152
@[inherit_doc accAt] abbrev slotA (m : Memref sig .tc .vmem S2x16x1152 .f32) (k : Fin 2) : Memref sig .tc .vmem S16x1152 .f32 :=
  (m.slice (Rect.unit (s := S2x16x1152) ![k.val, 0, 0] S1x16x1152.size (slotA_inb k)) (fun _ => rfl)).squeeze S16x1152 squeezes_S1x16x1152_S16x1152

/-- Rows at `o` of the output, and slot `k` of an all-gather buffer, as a copy names them. -/
abbrev outAt (m : Memref sig .tc .vmem S512x1024 .f32) (o : Fin 2 → ℕ) (ho : ∀ a, o a + S16x1024.size a ≤ S512x1024.size a) :
    Memref sig .tc .vmem S16x1024 .f32 :=
  m.slice (Rect.unit (s := S512x1024) o S16x1024.size ho) (fun _ => rfl)
@[inherit_doc outAt] abbrev slotG (m : Memref sig .tc .vmem S2x16x1024 .f32) (k : Fin 2) : Memref sig .tc .vmem S16x1024 .f32 :=
  (m.slice (Rect.unit (s := S2x16x1024) ![k.val, 0, 0] S1x16x1024.size (slotG_inb k)) (fun _ => rfl)).squeeze S16x1024 squeezes_S1x16x1024_S16x1024

/-- The device on this one's right and the one on its left. -/
abbrev rightOf (c : Dev nD) : Dev nD := ⟨k0_dev2 c, k0_dev2_lt c⟩
@[inherit_doc rightOf] abbrev leftOf (c : Dev nD) : Dev nD := ⟨k0_dev1 c, k0_dev1_lt c⟩

/-- A fragment that only some steps have. -/
def onlyIf (b : Bool) (p : KP F PUnit) : KP F PUnit := match b with
  | true => p
  | false => pure ⟨⟩

@[simp] theorem onlyIf_true (p : KP F PUnit) : onlyIf true p = p := rfl
@[simp] theorem onlyIf_false (p : KP F PUnit) : onlyIf (F := F) false p = pure ⟨⟩ := rfl

/-- Give a credit to device `n`; take one. -/
def give (S : Sems sig S_) (n : Dev nD) : KP F PUnit := semSignalWord n S.sem 1#32
@[inherit_doc give] def take (S : Sems sig S_) : KP F PUnit := semWaitWord S.sem 1#32

/-- Reduce-scatter: send the chunk at `o` into slot `k` of device `n`. -/
def rsSend (acc : Memref sig .tc .vmem S32x16x1152 .f32) (buf : Memref sig .tc .vmem S2x16x1152 .f32) (sS rS : DmaSems sig S2)
    (o : Fin 3 → ℕ) (ho : ∀ a, o a + S1x16x1152.size a ≤ S32x16x1152.size a) (k : Fin 2) (n : Dev nD) : KP F PUnit :=
  Prog.lift (.enqueueDma (accAt acc o ho) (.remote (Dev.tc n) (slotA buf k) (.dma (semAt sS k))) (.dma (semAt rS k))
    ((View.wordExact_bits rfl).reshape _ _) ((View.wordExact_bits rfl).reshape _ _) ⟨⟨rfl, Or.inl rfl⟩, trivial⟩)

/-- Reduce-scatter: the two waits of a step. -/
def rsWaits (acc : Memref sig .tc .vmem S32x16x1152 .f32) (buf : Memref sig .tc .vmem S2x16x1152 .f32) (sS rS : DmaSems sig S2)
    (o : Fin 3 → ℕ) (ho : ∀ a, o a + S1x16x1152.size a ≤ S32x16x1152.size a) (k : Fin 2) : KP F PUnit := do
  Prog.lift (.waitDma2 (semAt sS k) (slotA buf k) (accAt acc o ho) ((View.wordExact_bits rfl).reshape _ _) ((View.wordExact_bits rfl).reshape _ _))
  Prog.lift (.waitDma2 (semAt rS k) (accAt acc o ho) (slotA buf k) ((View.wordExact_bits rfl).reshape _ _) ((View.wordExact_bits rfl).reshape _ _))

/-- Reduce-scatter: add the received slot to the chunk at `o`. -/
def rsAdd (acc : Memref sig .tc .vmem S32x16x1152 .f32) (buf : Memref sig .tc .vmem S2x16x1152 .f32)
    (o : Fin 3 → ℕ) (ho : ∀ a, o a + S1x16x1152.size a ≤ S32x16x1152.size a) (k : Fin 2) : KP F PUnit := do
  let a : Vec F S1x16x1152 .f32 ← Prog.lift (.load acc (Rect.unit (s := S32x16x1152) o S1x16x1152.size ho).toLoadRect (View.loadsAt_vmem h_S1x16x1152))
  let b : Vec F S1x16x1152 .f32 ← Prog.lift (.load buf (Rect.unit (s := S2x16x1152) ![k.val, 0, 0] S1x16x1152.size (slotA_inb k)).toLoadRect (View.loadsAt_vmem h_S1x16x1152))
  let _d : Vec F S1x16x1152 .f32 ← Prog.lift (.load acc (Rect.unit (s := S32x16x1152) o S1x16x1152.size ho).toLoadRect (View.loadsAt_vmem h_S1x16x1152))
  Prog.lift (.store acc (Rect.unit (s := S32x16x1152) o S1x16x1152.size ho) (k0_pay36 a b) Finset.univ (View.stores_vmem_bits_univ h_S1x16x1152 rfl) (.inl rfl))

/-- All-gather: send the output rows at `o` into slot `k` of device `n`. -/
def agSend (out : Memref sig .tc .vmem S512x1024 .f32) (buf : Memref sig .tc .vmem S2x16x1024 .f32) (sS rS : DmaSems sig S2)
    (o : Fin 2 → ℕ) (ho : ∀ a, o a + S16x1024.size a ≤ S512x1024.size a) (k : Fin 2) (n : Dev nD) : KP F PUnit :=
  Prog.lift (.enqueueDma (outAt out o ho) (.remote (Dev.tc n) (slotG buf k) (.dma (semAt sS k))) (.dma (semAt rS k))
    (View.wordExact_bits rfl) ((View.wordExact_bits rfl).reshape _ _) ⟨⟨rfl, Or.inl rfl⟩, trivial⟩)

/-- All-gather: the two waits of a step. -/
def agWaits (out : Memref sig .tc .vmem S512x1024 .f32) (buf : Memref sig .tc .vmem S2x16x1024 .f32) (sS rS : DmaSems sig S2)
    (o : Fin 2 → ℕ) (ho : ∀ a, o a + S16x1024.size a ≤ S512x1024.size a) (k : Fin 2) : KP F PUnit := do
  Prog.lift (.waitDma2 (semAt sS k) (slotG buf k) (outAt out o ho) ((View.wordExact_bits rfl).reshape _ _) (View.wordExact_bits rfl))
  Prog.lift (.waitDma2 (semAt rS k) (outAt out o ho) (slotG buf k) (View.wordExact_bits rfl) ((View.wordExact_bits rfl).reshape _ _))

/-- All-gather: copy the received slot into the output rows at `o`. -/
def agPut (out : Memref sig .tc .vmem S512x1024 .f32) (buf : Memref sig .tc .vmem S2x16x1024 .f32)
    (o : Fin 2 → ℕ) (ho : ∀ a, o a + S16x1024.size a ≤ S512x1024.size a) (k : Fin 2) : KP F PUnit := do
  let b : Vec F S1x16x1024 .f32 ← Prog.lift (.load buf (Rect.unit (s := S2x16x1024) ![k.val, 0, 0] S1x16x1024.size (slotG_inb k)).toLoadRect (View.loadsAt_vmem h_S1x16x1024))
  let _d : Vec F S16x1024 .f32 ← Prog.lift (.load out (Rect.unit (s := S512x1024) o S16x1024.size ho).toLoadRect (View.loadsAt_vmem h_S16x1024))
  Prog.lift (.store out (Rect.unit (s := S512x1024) o S16x1024.size ho) (k0_pay66 b) Finset.univ (View.stores_vmem_bits_univ h_S16x1024 rfl) (.inl rfl))

/-- Head `h`'s keys (or values) of a cache window. -/
theorem head_inb (h : Fin 8) : ∀ a, (![0, 0, h.val, 0] : Fin 4 → Nat) a + S1x2048x1x128.size a ≤ S1x2048x8x128.size a := by
  intro a; have := h.isLt
  fin_cases a
  · show 0 + 1 ≤ 1; omega
  · show 0 + 2048 ≤ 2048; omega
  · show h.val + 1 ≤ 8; omega
  · show 0 + 128 ≤ 128; omega
@[inherit_doc head_inb] def ldHead (m : Memref sig .tc .vmem S1x2048x8x128 .f32) (h : Fin 8) : KP F (Vec F S1x2048x1x128 .f32) :=
  Prog.lift (.load m (Rect.unit (s := S1x2048x8x128) ![0, 0, h.val, 0] S1x2048x1x128.size (head_inb h)).toLoadRect (View.loadsAt_vmem h_S1x2048x1x128))

/-- The handshake with the two neighbours. -/
def shake (c : Dev nD) : KP F PUnit := do
  semSignalWord (leftOf c) (SemArray.scalar (sig.barrier 0 rfl) : Sems sig S_).sem 1#32
  semSignalWord (rightOf c) (SemArray.scalar (sig.barrier 0 rfl) : Sems sig S_).sem 1#32
  semWaitWord (SemArray.scalar (sig.barrier 0 rfl) : Sems sig S_).sem 2#32

/-- The attention partials of this device, from all it reads: numerators and denominators of every row, by chunks of sixteen rows. -/
def partials (x : Vec F S1x512x1024 .f32) (wq : Vec F S1024x1024 .f32) (K V : Fin 8 → Vec F S1x2048x1x128 .f32) : FVec F S32x16x1152 .f32 :=
  have q := k0_pay2 x wq
  have z : FVec F S512x2048 .f32 := constant S512x2048 .f32 0x00000000#32
  have w : FVec F S512x128 .f32 := constant S512x128 .f32 0x00000000#32
  k0_pay27
    (k0_pay25 q (k0_pay5 (k0_pay3 x wq (K 0)) (V 0)) (k0_pay8 q (K 1) (V 1)) (k0_pay11 q (K 2) (V 2)) (k0_pay16 (k0_pay12 q) (k0_pay13 (K 3)) z (V 3))
      (k0_pay19 q (K 4) (V 4)) (k0_pay20 q (K 5)) (k0_pay22 (V 5)) w (K 6) (V 6) (K 7) (V 7))
    (k0_pay26 q (k0_pay4 x wq (K 0)) (k0_pay7 q (K 1)) (k0_pay10 q (K 2)) (k0_pay15 (k0_pay12 q) (k0_pay13 (K 3)) z) (k0_pay18 q (K 4))
      (k0_pay21 q (K 5)) (K 6) (K 7))

/-- A function on eight heads, from its eight values. -/
abbrev of8 {α : Type} (a0 a1 a2 a3 a4 a5 a6 a7 : α) : Fin 8 → α := ![a0, a1, a2, a3, a4, a5, a6, a7]

/-- Compute the partials and write them to the accumulator. -/
def attend (x : Memref sig .tc .vmem S1x512x1024 .f32) (wq : Memref sig .tc .vmem S1024x1024 .f32) (kk vv : Memref sig .tc .vmem S1x2048x8x128 .f32)
    (acc : Memref sig .tc .vmem S32x16x1152 .f32) : KP F PUnit := do
  let xv : Vec F S1x512x1024 .f32 ← Prog.lift (.load x (Rect.unit (s := S1x512x1024) ![0, 0, 0] S1x512x1024.size inb_S1x512x1024_S1x512x1024_0_0_0).toLoadRect (View.loadsAt_vmem h_S1x512x1024))
  let qv : Vec F S1024x1024 .f32 ← Prog.lift (.load wq (Rect.unit (s := S1024x1024) ![0, 0] S1024x1024.size inb_S1024x1024_S1024x1024_0_0).toLoadRect (View.loadsAt_vmem h_S1024x1024))
  let k0 ← ldHead kk ⟨0, by decide⟩; let v0 ← ldHead vv ⟨0, by decide⟩
  let k1 ← ldHead kk ⟨1, by decide⟩; let v1 ← ldHead vv ⟨1, by decide⟩
  let k2 ← ldHead kk ⟨2, by decide⟩; let v2 ← ldHead vv ⟨2, by decide⟩
  let k3 ← ldHead kk ⟨3, by decide⟩; let v3 ← ldHead vv ⟨3, by decide⟩
  let k4 ← ldHead kk ⟨4, by decide⟩; let v4 ← ldHead vv ⟨4, by decide⟩
  let k5 ← ldHead kk ⟨5, by decide⟩; let v5 ← ldHead vv ⟨5, by decide⟩
  let k6 ← ldHead kk ⟨6, by decide⟩; let v6 ← ldHead vv ⟨6, by decide⟩
  let k7 ← ldHead kk ⟨7, by decide⟩; let v7 ← ldHead vv ⟨7, by decide⟩
  let _d : Vec F S32x16x1152 .f32 ← Prog.lift (.load acc (Rect.unit (s := S32x16x1152) ![0, 0, 0] S32x16x1152.size inb_S32x16x1152_S32x16x1152_0_0_0).toLoadRect (View.loadsAt_vmem h_S32x16x1152))
  Prog.lift (.store acc (Rect.unit (s := S32x16x1152) ![0, 0, 0] S32x16x1152.size inb_S32x16x1152_S32x16x1152_0_0_0)
    (partials xv qv (of8 k0 k1 k2 k3 k4 k5 k6 k7) (of8 v0 v1 v2 v3 v4 v5 v6 v7)) Finset.univ (View.stores_vmem_bits_univ h_S32x16x1152 rfl) (.inl rfl))

/-- The output projection of the finished block. -/
def project (c : Dev nD) (acc : Memref sig .tc .vmem S32x16x1152 .f32) (wo : Memref sig .tc .vmem S1024x1024 .f32) (out : Memref sig .tc .vmem S512x1024 .f32) : KP F PUnit := do
  let b : Vec F S1x16x1152 .f32 ← Prog.lift (.load acc (Rect.unit (s := S32x16x1152) (k0_off5 c) S1x16x1152.size (k0_off5_inb c)).toLoadRect (View.loadsAt_vmem h_S1x16x1152))
  let w : Vec F S1024x1024 .f32 ← Prog.lift (.load wo (Rect.unit (s := S1024x1024) ![0, 0] S1024x1024.size inb_S1024x1024_S1024x1024_0_0).toLoadRect (View.loadsAt_vmem h_S1024x1024))
  let _d : Vec F S16x1024 .f32 ← Prog.lift (.load out (Rect.unit (s := S512x1024) (k0_off6 c) S16x1024.size (k0_off6_inb c)).toLoadRect (View.loadsAt_vmem h_S16x1024))
  Prog.lift (.store out (Rect.unit (s := S512x1024) (k0_off6 c) S16x1024.size (k0_off6_inb c)) (k0_pay65 b w) Finset.univ (View.stores_vmem_bits_univ h_S16x1024 rfl) (.inl rfl))

/-! ### Steps -/

/-- Step `h` as an index of the clockwise copies, and (clamped at the last step, which has no such copy) of the others. -/
abbrev hop16 (h : ℕ) : Fin 16 := ⟨h % 16, Nat.mod_lt _ (by decide)⟩
@[inherit_doc hop16] abbrev hop15 (h : ℕ) : Fin 15 := ⟨h % 15, Nat.mod_lt _ (by decide)⟩

/-- The slot of step `h`. -/
abbrev par (h : ℕ) : Fin 2 := ⟨h % 2, Nat.mod_lt _ (by decide)⟩

/-- One reduce-scatter step of device `c`. -/
def rsStep (c : Dev nD) (acc : Memref sig .tc .vmem S32x16x1152 .f32) (b1 b2 : Memref sig .tc .vmem S2x16x1152 .f32)
    (s1 r1 s2 r2 : DmaSems sig S2) (c1 c2 : Sems sig S_) (h : ℕ) : KP F PUnit := do
  onlyIf (Nat.ble 2 h) (take c1)
  onlyIf (Nat.ble 2 h && Nat.ble h 14) (take c2)
  rsSend acc b1 s1 r1 (k0_off1 c (BitVec.ofNat 32 (hop16 h).val)) (k0_off1_inb c (hop16 h)) (par h) (rightOf c)
  onlyIf (Nat.ble h 14) (rsSend acc b2 s2 r2 (k0_off2 c (BitVec.ofNat 32 (hop15 h).val)) (k0_off2_inb c (hop15 h)) (par h) (leftOf c))
  rsWaits acc b1 s1 r1 (k0_off1 c (BitVec.ofNat 32 (hop16 h).val)) (k0_off1_inb c (hop16 h)) (par h)
  rsAdd acc b1 (k0_off3 c (BitVec.ofNat 32 (hop16 h).val)) (k0_off3_inb c (hop16 h)) (par h)
  onlyIf (Nat.ble h 13) (give c1 (leftOf c))
  onlyIf (Nat.ble h 14) (rsWaits acc b2 s2 r2 (k0_off2 c (BitVec.ofNat 32 (hop15 h).val)) (k0_off2_inb c (hop15 h)) (par h))
  onlyIf (Nat.ble h 14) (rsAdd acc b2 (k0_off4 c (BitVec.ofNat 32 (hop15 h).val)) (k0_off4_inb c (hop15 h)) (par h))
  onlyIf (Nat.ble h 12) (give c2 (rightOf c))

/-- One all-gather step of device `c`. -/
def agStep (c : Dev nD) (out : Memref sig .tc .vmem S512x1024 .f32) (b1 b2 : Memref sig .tc .vmem S2x16x1024 .f32)
    (s1 r1 s2 r2 : DmaSems sig S2) (c1 c2 : Sems sig S_) (h : ℕ) : KP F PUnit := do
  onlyIf (Nat.ble 2 h) (take c1)
  onlyIf (Nat.ble 2 h && Nat.ble h 14) (take c2)
  agSend out b1 s1 r1 (k0_off7 c (BitVec.ofNat 32 (hop16 h).val)) (k0_off7_inb c (hop16 h)) (par h) (rightOf c)
  onlyIf (Nat.ble h 14) (agSend out b2 s2 r2 (k0_off8 c (BitVec.ofNat 32 (hop15 h).val)) (k0_off8_inb c (hop15 h)) (par h) (leftOf c))
  agWaits out b1 s1 r1 (k0_off7 c (BitVec.ofNat 32 (hop16 h).val)) (k0_off7_inb c (hop16 h)) (par h)
  agPut out b1 (k0_off9 c (BitVec.ofNat 32 (hop16 h).val)) (k0_off9_inb c (hop16 h)) (par h)
  onlyIf (Nat.ble h 13) (give c1 (leftOf c))
  onlyIf (Nat.ble h 14) (agWaits out b2 s2 r2 (k0_off8 c (BitVec.ofNat 32 (hop15 h).val)) (k0_off8_inb c (hop15 h)) (par h))
  onlyIf (Nat.ble h 14) (agPut out b2 (k0_off10 c (BitVec.ofNat 32 (hop15 h).val)) (k0_off10_inb c (hop15 h)) (par h))
  onlyIf (Nat.ble h 12) (give c2 (rightOf c))

/-- Steps `h`, `h + 1`, … (`n` of them), then `p`. -/
def steps (f : ℕ → KP F PUnit) (p : KP F PUnit) : ℕ → ℕ → KP F PUnit
  | 0, _ => p
  | n + 1, h => do f h; steps f p n (h + 1)

/-- The whole body after the device's number is known. -/
def bodyOf (c : Dev nD) (arg0 : Memref sig .tc .vmem S1x512x1024 .f32) (arg1 : Memref sig .tc .vmem S1024x1024 .f32) (arg2 : Memref sig .tc .vmem S1024x1024 .f32)
    (arg3 arg4 : Memref sig .tc .vmem S1x2048x8x128 .f32) (arg5 : Memref sig .tc .vmem S512x1024 .f32) (arg6 : Memref sig .tc .vmem S32x16x1152 .f32)
    (arg7 arg8 : Memref sig .tc .vmem S2x16x1152 .f32) (arg9 arg10 : Memref sig .tc .vmem S2x16x1024 .f32)
    (arg11 arg12 arg13 arg14 arg15 arg16 arg17 arg18 : DmaSems sig S2) (arg19 arg20 arg21 arg22 : Sems sig S_) : KP F PUnit := do
  shake c
  attend arg0 arg1 arg3 arg4 arg6
  steps (rsStep c arg6 arg7 arg8 arg11 arg12 arg13 arg14 arg19 arg20)
    (do project c arg6 arg2 arg5
        steps (agStep c arg5 arg9 arg10 arg15 arg16 arg17 arg18 arg21 arg22) (pure ⟨⟩) 16 0)
    16 0

set_option maxRecDepth 65536 in
set_option maxHeartbeats 0 in
/-- The printed body is the sequence of fragments. -/
theorem body_eq (arg0 : Memref sig .tc .vmem S1x512x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1x2048x8x128 .f32) (harg3 : arg3.IsWhole) (arg4 : Memref sig .tc .vmem S1x2048x8x128 .f32) (harg4 : arg4.IsWhole) (arg5 : Memref sig .tc .vmem S512x1024 .f32) (harg5 : arg5.IsWhole) (arg6 : Memref sig .tc .vmem S32x16x1152 .f32) (harg6 : arg6.IsWhole) (arg7 : Memref sig .tc .vmem S2x16x1152 .f32) (harg7 : arg7.IsWhole) (arg8 : Memref sig .tc .vmem S2x16x1152 .f32) (harg8 : arg8.IsWhole) (arg9 : Memref sig .tc .vmem S2x16x1024 .f32) (harg9 : arg9.IsWhole) (arg10 : Memref sig .tc .vmem S2x16x1024 .f32) (harg10 : arg10.IsWhole) (arg11 arg12 arg13 arg14 arg15 arg16 arg17 arg18 : DmaSems sig S2) (arg19 arg20 arg21 arg22 : Sems sig S_) :
    cc0__body (F := F) arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22
      = Prog.lift .deviceId >>= fun c => bodyOf c arg0 arg1 arg2 arg3 arg4 arg5 arg6 arg7 arg8 arg9 arg10 arg11 arg12 arg13 arg14 arg15 arg16 arg17 arg18 arg19 arg20 arg21 arg22 := by
  refine congrArg (Prog.op _) (funext fun c => ?_)
  rfl

end Cert.KernelIdeal.Gen

end
-- ==== Proof.Common.lean ====
/-
  What the modules of this certificate share: the resource algebra, the two directions and two phases of the ring as LANES, the cells,
  the contents of every message, and the schedule of duties on the cells.

  A lane is a phase (reduce-scatter or all-gather) with a direction (to the right or to the left). A lane has its two-slot buffer, its
  pair of send cells, its pair of receive cells and its credit cell; message `h` of a lane uses slot `h % 2`, and it is round `h / 2` of
  the two cells of that slot. A credit cell has one round, whose duty `d` is the credit given after message `d` was used.
-/
module

public import proofs.«01_k».proof.Defs
public import Idealize.ShloMosaic.Lib.Pipeline.Launch
public import Idealize.ShloMosaic.Lib.Pipeline.Kit
public import Idealize.ShloMosaic.Lib.Tactic
public import Idealize.ShloMosaic.Lib.Release
public import proofs.«01_k».proof.Proof.Gen.KernelIdeal
public import proofs.«01_k».proof.Proof.Gen.KernelIdeal.Skeleton
public import proofs.«01_k».proof.Proof.Prog

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

/-! ## Lanes and cells -/

/-- Phase (`true`: all-gather) and direction (`true`: to the left). -/
abbrev Lane : Type := Bool × Bool

/-- A slot of a lane on a device, as the release library names it. -/
abbrev SlotKey : Type := Dev nD × Lane × Fin 2

/-- The kernel's own cells of a device: send, receive, credit. -/
abbrev OK : Type := (Lane × Fin 2) ⊕ (Lane × Fin 2) ⊕ Lane
/-- All of its cells: those and the barrier's. -/
abbrev CK : Type := Unit ⊕ OK

@[match_pattern] abbrev kBar : CK := .inl ()
@[match_pattern] abbrev kSnd (ℓ : Lane) (k : Fin 2) : CK := .inr (.inl (ℓ, k))
@[match_pattern] abbrev kRcv (ℓ : Lane) (k : Fin 2) : CK := .inr (.inr (.inl (ℓ, k)))
@[match_pattern] abbrev kCrd (ℓ : Lane) : CK := .inr (.inr (.inr ℓ))

def sS : Lane → DmaSems sig S2
  | (false, false) => cc0_scratch5
  | (false, true) => cc0_scratch7
  | (true, false) => cc0_scratch9
  | (true, true) => cc0_scratch11
def rS : Lane → DmaSems sig S2
  | (false, false) => cc0_scratch6
  | (false, true) => cc0_scratch8
  | (true, false) => cc0_scratch10
  | (true, true) => cc0_scratch12
def cS : Lane → Sems sig S_
  | (false, false) => cc0_scratch13
  | (false, true) => cc0_scratch14
  | (true, false) => cc0_scratch15
  | (true, true) => cc0_scratch16

/-- The runtime's barrier semaphore. -/
abbrev barS : Sem sig := (SemArray.scalar (sig.barrier 0 rfl) : Sems sig S_).sem

/-- The semaphore of each of the kernel's own cells, and of each cell. -/
def osem : OK → SemLoc sig
  | .inl (ℓ, k) => .dma (semAt (sS ℓ) k)
  | .inr (.inl (ℓ, k)) => .dma (semAt (rS ℓ) k)
  | .inr (.inr ℓ) => .reg (cS ℓ).sem
@[inherit_doc osem] def csem : CK → SemLoc sig
  | .inl _ => .reg barS
  | .inr o => osem o

instance decEqCK : DecidableEq CK := inferInstance
instance fintypeCK : Fintype CK := inferInstance

theorem csem_inj : Function.Injective csem := by
  have h : ∀ a b : CK, csem a = csem b → a = b := by decide +kernel
  exact fun a b => h a b

/-- Device `c`'s cell `k`. -/
abbrev cell (c : Dev nD) (k : CK) : GSem nD τ sig := ((c : Thread nD τ), csem k)

/-- Which cell a semaphore is. -/
def kindOf (s : SemLoc sig) : Option CK := by
  classical exact if h : ∃ k, csem k = s then some h.choose else none

theorem kindOf_csem (k : CK) : kindOf (csem k) = some k := by
  unfold kindOf
  have h : ∃ k', csem k' = csem k := ⟨k, rfl⟩
  rw [dif_pos h]
  exact congrArg some (csem_inj h.choose_spec)

theorem cell_inj {c c' : Dev nD} {k k' : CK} (h : cell c k = cell c' k') : c = c' ∧ k = k' := by
  have h₁ := congrArg (fun g : GSem nD τ sig => g.1.1) h
  have h₂ := congrArg (fun g : GSem nD τ sig => g.2) h
  exact ⟨h₁, csem_inj h₂⟩

/-! ## The ring -/

theorem rightOf_val (c : Dev nD) : (rightOf c).val = (c.val + 1) % 32 := k0_dev2_eq c
theorem leftOf_val (c : Dev nD) : (leftOf c).val = (c.val + 31) % 32 := k0_dev1_eq c
theorem left_right (c : Dev nD) : leftOf (rightOf c) = c := Fin.ext (by
  have := c.isLt; rw [leftOf_val, rightOf_val]; have h : c.val < 32 := this; omega)
theorem right_left (c : Dev nD) : rightOf (leftOf c) = c := Fin.ext (by
  have := c.isLt; rw [rightOf_val, leftOf_val]; have h : c.val < 32 := this; omega)

/-- Where a lane's messages go, and where they come from. -/
def nbr (ℓ : Lane) (c : Dev nD) : Dev nD := bif ℓ.2 then leftOf c else rightOf c
@[inherit_doc nbr] def src (ℓ : Lane) (c : Dev nD) : Dev nD := bif ℓ.2 then rightOf c else leftOf c

theorem nbr_src (ℓ : Lane) (c : Dev nD) : nbr ℓ (src ℓ c) = c := by
  rcases ℓ with ⟨p, _ | _⟩
  · exact right_left c
  · exact left_right c
theorem src_nbr (ℓ : Lane) (c : Dev nD) : src ℓ (nbr ℓ c) = c := by
  rcases ℓ with ⟨p, _ | _⟩
  · exact left_right c
  · exact right_left c

/-- The devices as a lane sends around them. -/
def ringE (ℓ : Lane) : Dev nD ≃ Dev nD := ⟨nbr ℓ, src ℓ, src_nbr ℓ, nbr_src ℓ⟩

/-- How many messages a lane has. -/
def hops (ℓ : Lane) : ℕ := bif ℓ.2 then 15 else 16

theorem hops_pos (ℓ : Lane) : 15 ≤ hops ℓ ∧ hops ℓ ≤ 16 := by revert ℓ; decide

/-- What a message of a lane credits. -/
def cN (ℓ : Lane) : ℕ :=
  bif ℓ.1 then (slotG (Memref.whole cc0_scratch3) 0).view.dmaCredit else (slotA (Memref.whole cc0_scratch1) 0).view.dmaCredit

theorem cN_pos (ℓ : Lane) : 0 < cN ℓ := by
  rcases ℓ with ⟨_ | _, d⟩
  · exact View.dmaCredit_pos _ (by decide)
  · exact View.dmaCredit_pos _ (by decide)

/-! ## Buffers -/

abbrev accM : Memref sig .tc .vmem S32x16x1152 .f32 := Memref.whole cc0_scratch0
abbrev outM : Memref sig .tc .vmem S512x1024 .f32 := Memref.whole cc0_stg5_0
def bufA : Bool → Memref sig .tc .vmem S2x16x1152 .f32
  | false => Memref.whole cc0_scratch1
  | true => Memref.whole cc0_scratch2
def bufG : Bool → Memref sig .tc .vmem S2x16x1024 .f32
  | false => Memref.whole cc0_scratch3
  | true => Memref.whole cc0_scratch4

theorem chunk_inb (j : Fin 32) : ∀ a, (![j.val, 0, 0] : Fin 3 → ℕ) a + S1x16x1152.size a ≤ S32x16x1152.size a := by
  intro a; have := j.isLt
  fin_cases a
  · show j.val + 1 ≤ 32; omega
  · show 0 + 16 ≤ 16; omega
  · show 0 + 1152 ≤ 1152; omega
theorem rows_inb (j : Fin 32) : ∀ a, (![16 * j.val, 0] : Fin 2 → ℕ) a + S16x1024.size a ≤ S512x1024.size a := by
  intro a; have := j.isLt
  fin_cases a
  · show 16 * j.val + 16 ≤ 512; omega
  · show 0 + 1024 ≤ 1024; omega

/-- Chunk `j` of the accumulator, and rows `16 j …` of the output, as rectangles; and the slots. -/
abbrev rectC (j : Fin 32) : Rect S32x16x1152 := Rect.unit (s := S32x16x1152) ![j.val, 0, 0] S1x16x1152.size (chunk_inb j)
@[inherit_doc rectC] abbrev rectO (j : Fin 32) : Rect S512x1024 := Rect.unit (s := S512x1024) ![16 * j.val, 0] S16x1024.size (rows_inb j)
@[inherit_doc rectC] abbrev rectA (k : Fin 2) : Rect S2x16x1152 := Rect.unit (s := S2x16x1152) ![k.val, 0, 0] S1x16x1152.size (slotA_inb k)
@[inherit_doc rectC] abbrev rectG (k : Fin 2) : Rect S2x16x1024 := Rect.unit (s := S2x16x1024) ![k.val, 0, 0] S1x16x1024.size (slotG_inb k)

abbrev chunkM (j : Fin 32) : Memref sig .tc .vmem S1x16x1152 .f32 := accM.slice (rectC j) (fun _ => rfl)
abbrev rowsM (j : Fin 32) : Memref sig .tc .vmem S16x1024 .f32 := outM.slice (rectO j) (fun _ => rfl)
abbrev slotAM (d : Bool) (k : Fin 2) : Memref sig .tc .vmem S1x16x1152 .f32 := (bufA d).slice (rectA k) (fun _ => rfl)
abbrev slotGM (d : Bool) (k : Fin 2) : Memref sig .tc .vmem S1x16x1024 .f32 := (bufG d).slice (rectG k) (fun _ => rfl)

/-! ## Contents -/

/-- What the ring's run depends on: every device's partials and its projection matrix. -/
structure Ins (F : FTy → Type) [FloatOps F] where
  A : Dev nD → Vec F S32x16x1152 .f32
  wo : Dev nD → Vec F S1024x1024 .f32

variable (I : Ins F)

/-- The chunk that device `c` sends as message `h` of the reduce-scatter (and adds to after message `h - 1`). -/
def rsC (d : Bool) (c : Dev nD) (h : ℕ) : Fin 32 :=
  bif d then ⟨(c.val + h + 18) % 32, Nat.mod_lt _ (by decide)⟩ else ⟨(c.val + 49 - h) % 32, Nat.mod_lt _ (by decide)⟩

/-- The rows that device `c` sends as message `h` of the all-gather (and fills after message `h - 1`). -/
def agC (d : Bool) (c : Dev nD) (h : ℕ) : Fin 32 :=
  bif d then ⟨(c.val + h + 1) % 32, Nat.mod_lt _ (by decide)⟩ else ⟨(c.val + 33 - h) % 32, Nat.mod_lt _ (by decide)⟩

/-- A chunk of a device's partials. -/
def part (c : Dev nD) (j : Fin 32) : Vec F S1x16x1152 .f32 := fun i => I.A c ((rectC j).emb i)

/-- Message `h` of the reduce-scatter that device `c` sends. -/
def msgR (d : Bool) : Dev nD → ℕ → Vec F S1x16x1152 .f32
  | c, 0 => part I c (rsC d c 0)
  | c, h + 1 => k0_pay36 (part I c (rsC d c (h + 1))) (msgR d (src (false, d) c) h)

/-- The finished chunk of device `c`, and its rows of the output. -/
def fin (c : Dev nD) : Vec F S1x16x1152 .f32 := k0_pay36 (msgR I true c 15) (msgR I false (leftOf c) 15)
@[inherit_doc fin] def rowsOf (c : Dev nD) : Vec F S16x1024 .f32 := k0_pay65 (fin I c) (I.wo c)

/-- Message `h` of the all-gather that device `c` sends. -/
def msgG (d : Bool) : Dev nD → ℕ → Vec F S16x1024 .f32
  | c, 0 => rowsOf I c
  | c, h + 1 => msgG d (src (true, d) c) h

end Cert.KernelIdeal.Gen

end
-- ==== Proof.Sched.lean ====
/-
  The ghost state of the ring: the algebra, what each duty hands over, the schedule, the stamps (which order the waits) and what a
  device owes.

  A stamp is the index under which a unit is owed. Staging waits carry 0, the barrier 1, message `h` of a phase `2 h + 2` above the
  phase's base, and the credit given after it `2 h + 3`. A wait is sound when its stamp is below that of everything its device still
  owes, and every device pays in the order of the stamps.
-/
module

public import proofs.«01_k».proof.Proof.Common
public import Idealize.SL.BI.BigOpNat

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

/-! ## The algebra -/

/-- The ring's rounds (duties named by numbers), and its slots' counts. -/
abbrev UB : Type := URounds (GSem nD τ sig) ℕ
@[inherit_doc UB] abbrev UQ : Type := USlots SlotKey
/-- The pipeline's copy, beside the ring's two. -/
abbrev UU : Type := UR sig nD τ × (UB × UQ)

/-- Assertions of this certificate. -/
abbrev SP (F : FTy → Type) [FloatOps F] : Type := sProp (MT nD τ sig ℕ (Elt F) ℕ UU ℕ)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  (Emb.inl : Emb UB (UB × UQ)).trans (embR : Emb (UB × UQ) (MT nD τ sig ℕ (Elt F) ℕ UU ℕ))
def EQ : Emb UQ (MT nD τ sig ℕ (Elt F) ℕ UU ℕ) :=
  (Emb.inr : Emb UQ (UB × UQ)).trans (embR : Emb (UB × UQ) (MT nD τ sig ℕ (Elt F) ℕ UU ℕ))

instance ER_landsIn : (ER : Emb UB 𝕄).LandsIn (upEmb : UEmb _ 𝕄) := by unfold ER; infer_instance
instance EQ_landsIn : (EQ : Emb UQ 𝕄).LandsIn (upEmb : UEmb _ 𝕄) := by unfold EQ; infer_instance

/-! ## What is handed over -/

variable (I : Ins F)

/-- The share of the rows that message `h` of the all-gather reads: at step 0 both directions read the same rows. -/
def shareOf (d : Bool) (h : ℕ) : PosShare TreeShare :=
  if h = 0 then (bif d then fullShare.right else fullShare.left) else fullShare

/-- The slot of message `h` of lane `ℓ` on the receiving device `e`, holding the message. -/
def slotMsg : Lane → Dev nD → ℕ → SP F
  | (false, d), e, h => owns (e : Thread nD τ) (slotAM d (par h)) fullShare (msgR I d (src (false, d) e) h)
  | (true, d), e, h => iprop(∃ w : Vec F S1x16x1024 .f32, ⌜k0_pay66 w = msgG I d (src (true, d) e) h⌝
      ∗ owns (e : Thread nD τ) (slotGM d (par h)) fullShare w)

/-- What message `h` of lane `ℓ` is read from on the sending device. -/
def srcMsg : Lane → Dev nD → ℕ → SP F
  | (false, d), c, h => owns (c : Thread nD τ) (chunkM (rsC d c h)) fullShare (msgR I d c h)
  | (true, d), c, h => owns (c : Thread nD τ) (rowsM (agC d c h)) (shareOf d h) (msgG I d c h)

omit [FloatOps F] in
/-- A slot at any contents. -/
def slotAny [FloatOps F] : Lane → Dev nD → Fin 2 → SP F
  | (false, d), e, k => iprop(∃ w : Vec F S1x16x1152 .f32, owns (e : Thread nD τ) (slotAM d k) fullShare w)
  | (true, d), e, k => iprop(∃ w : Vec F S1x16x1024 .f32, owns (e : Thread nD τ) (slotGM d k) fullShare w)

instance slotMsg_storable (ℓ : Lane) (e : Dev nD) (h : ℕ) : BI.Storable (upEmb : UEmb _ 𝕄) (slotMsg I ℓ e h) := by
  rcases ℓ with ⟨_ | _, d⟩ <;> unfold slotMsg <;> infer_instance
instance srcMsg_storable (ℓ : Lane) (e : Dev nD) (h : ℕ) : BI.Storable (upEmb : UEmb _ 𝕄) (srcMsg I ℓ e h) := by
  rcases ℓ with ⟨_ | _, d⟩ <;> unfold srcMsg <;> infer_instance
instance slotAny_storable (ℓ : Lane) (e : Dev nD) (k : Fin 2) : BI.Storable (upEmb : UEmb _ 𝕄) (slotAny (F := F) ℓ e k) := by
  rcases ℓ with ⟨_ | _, d⟩ <;> unfold slotAny <;> infer_instance

theorem slotAny_of_msg (ℓ : Lane) (e : Dev nD) (h : ℕ) : slotMsg I ℓ e h ⊢ slotAny ℓ e (par h) := by
  rcases ℓ with ⟨_ | _, d⟩ <;> unfold slotMsg slotAny
  · iintro H; iexists _; iexact H
  · iintro ⟨%w, -, H⟩; iexists w; iexact H

/-- Message `h` of lane `ℓ` may be written on device `e`: its slot was released often enough, and its receive cell is at that round. -/
def fact (ℓ : Lane) (e : Dev nD) (h : ℕ) : SP F :=
  iprop(released EQ (e, ℓ, par h) (h / 2 + 1) ∗ reached ER (cell e (kRcv ℓ (par h))) (h / 2))

instance fact_persistent (ℓ : Lane) (e : Dev nD) (h : ℕ) : BI.Persistent (fact (F := F) ℓ e h) := by unfold fact; infer_instance
instance fact_storable (ℓ : Lane) (e : Dev nD) (h : ℕ) : BI.Storable (upEmb : UEmb _ 𝕄) (fact (F := F) ℓ e h) := by
  unfold fact released reached; infer_instance

/-- The first `n` of them. -/
def firsts (ℓ : Lane) (e : Dev nD) (n : ℕ) : SP F := bigSep (Finset.range n) (fact ℓ e)

instance firsts_persistent (ℓ : Lane) (e : Dev nD) (n : ℕ) : BI.Persistent (firsts (F := F) ℓ e n) := by unfold firsts; infer_instance
instance firsts_storable (ℓ : Lane) (e : Dev nD) (n : ℕ) : BI.Storable (upEmb : UEmb _ 𝕄) (firsts (F := F) ℓ e n) := by
  unfold firsts; infer_instance

theorem firsts_get (ℓ : Lane) (e : Dev nD) {n h : ℕ} (hn : h < n) : firsts (F := F) ℓ e n ⊢ fact ℓ e h :=
  bigSep_elim (Finset.mem_range.mpr hn)
theorem firsts_succ (ℓ : Lane) (e : Dev nD) (n : ℕ) : firsts (F := F) ℓ e (n + 1) = iprop(fact ℓ e n ∗ firsts ℓ e n) := bigSep_range_succ n _

/-- What the barrier's duties hand over: the left neighbour's first two facts of the lanes to the left, the right one's of those to the
    right. -/
def barPay (c : Dev nD) (d : ℕ) : SP F :=
  iprop(firsts (false, decide (d = 0)) (nbr (false, decide (d = 0)) c) 2 ∗ firsts (true, decide (d = 0)) (nbr (true, decide (d = 0)) c) 2)

instance barPay_storable (c : Dev nD) (d : ℕ) : BI.Storable (upEmb : UEmb _ 𝕄) (barPay (F := F) c d) := by unfold barPay; infer_instance

/-! ## The schedule -/

def dutyOf : Option CK → ℕ → Finset ℕ
  | some kBar, r => if r = 0 then {0, 1} else ∅
  | some (kSnd ℓ k), r => if 2 * r + k.val < hops ℓ then {0} else ∅
  | some (kRcv ℓ k), r => if 2 * r + k.val < hops ℓ then {0} else ∅
  | some (kCrd ℓ), r => if r = 0 then Finset.range (hops ℓ - 2) else ∅
  | none, _ => ∅

def amtOf : Option CK → ℕ
  | some (kSnd ℓ _) => cN ℓ
  | some (kRcv ℓ _) => cN ℓ
  | _ => 1

def payOf (c : Dev nD) : Option CK → ℕ → ℕ → SP F
  | some kBar, _, d => barPay c d
  | some (kSnd ℓ k), r, _ => srcMsg I ℓ c (2 * r + k.val)
  | some (kRcv ℓ k), r, _ => slotMsg I ℓ c (2 * r + k.val)
  | some (kCrd ℓ), _, d => firsts ℓ (nbr ℓ c) (d + 3)
  | none, _, _ => iprop(emp)

theorem amtOf_pos (o : Option CK) : 0 < amtOf o := by
  rcases o with _ | (_ | ⟨ℓ, k⟩ | ⟨ℓ, k⟩ | ℓ)
  · exact Nat.one_pos
  · exact Nat.one_pos
  · exact cN_pos ℓ
  · exact cN_pos ℓ
  · exact Nat.one_pos

instance payOf_storable (c : Dev nD) (o : Option CK) (r d : ℕ) : BI.Storable (upEmb : UEmb _ 𝕄) (payOf I c o r d) := by
  rcases o with _ | (_ | ⟨ℓ, k⟩ | ⟨ℓ, k⟩ | ℓ) <;> unfold payOf <;> infer_instance

/-- The duties of every cell. -/
def Rd : Rounds.Schedule (GSem nD τ sig) ℕ 𝕄 where
  duties g r := if g.1.2 = .tc then dutyOf (kindOf g.2) r else ∅
  unitless _ := False
  amount g _ _ := amtOf (kindOf g.2)
  payload g r d := payOf I g.1.1 (kindOf g.2) r d
  amount_pos g _ _ _ := amtOf_pos _

instance Rd_storable (g : GSem nD τ sig) (r d : ℕ) : BI.Storable (upEmb : UEmb _ 𝕄) ((Rd I).payload g r d) := payOf_storable I _ _ _ _

theorem Rd_duties (c : Dev nD) (k : CK) (r : ℕ) : (Rd I).duties (cell c k) r = dutyOf (some k) r := by
  show (if ((c : Thread nD τ)).2 = .tc then dutyOf (kindOf (csem k)) r else ∅) = _
  rw [if_pos rfl, kindOf_csem]
theorem Rd_amount (c : Dev nD) (k : CK) (r d : ℕ) : (Rd I).amount (cell c k) r d = amtOf (some k) := congrArg amtOf (kindOf_csem k)
theorem Rd_payload (c : Dev nD) (k : CK) (r d : ℕ) : (Rd I).payload (cell c k) r d = payOf I c (some k) r d := by
  show payOf I c (kindOf (csem k)) r d = _
  rw [kindOf_csem]

theorem Rd_expect (c : Dev nD) (k : CK) (r : ℕ) : (Rd I).expect (cell c k) r = (dutyOf (some k) r).card * amtOf (some k) := by
  unfold Schedule.expect Schedule.amountOf
  rw [Rd_duties, Finset.sum_congr rfl fun d _ => Rd_amount I c k r d, Finset.sum_const, smul_eq_mul]

theorem half (h : ℕ) : 2 * (h / 2) + (par h).val = h := by show 2 * (h / 2) + h % 2 = h; omega

theorem Rd_duties_snd (ℓ : Lane) (c : Dev nD) {h : ℕ} (hh : h < hops ℓ) : (Rd I).duties (cell c (kSnd ℓ (par h))) (h / 2) = {0} := by
  rw [Rd_duties]; exact if_pos (by rw [half]; exact hh)
theorem Rd_duties_rcv (ℓ : Lane) (c : Dev nD) {h : ℕ} (hh : h < hops ℓ) : (Rd I).duties (cell c (kRcv ℓ (par h))) (h / 2) = {0} := by
  rw [Rd_duties]; exact if_pos (by rw [half]; exact hh)
theorem Rd_expect_snd (ℓ : Lane) (c : Dev nD) {h : ℕ} (hh : h < hops ℓ) : (Rd I).expect (cell c (kSnd ℓ (par h))) (h / 2) = cN ℓ := by
  rw [Rd_expect, show dutyOf (some (kSnd ℓ (par h))) (h / 2) = {0} from if_pos (by rw [half]; exact hh), Finset.card_singleton, Nat.one_mul]; rfl
theorem Rd_expect_rcv (ℓ : Lane) (c : Dev nD) {h : ℕ} (hh : h < hops ℓ) : (Rd I).expect (cell c (kRcv ℓ (par h))) (h / 2) = cN ℓ := by
  rw [Rd_expect, show dutyOf (some (kRcv ℓ (par h))) (h / 2) = {0} from if_pos (by rw [half]; exact hh), Finset.card_singleton, Nat.one_mul]; rfl
theorem Rd_payload_snd (ℓ : Lane) (c : Dev nD) (h d : ℕ) : (Rd I).payload (cell c (kSnd ℓ (par h))) (h / 2) d = srcMsg I ℓ c h := by
  rw [Rd_payload]; exact congrArg (srcMsg I ℓ c) (half h)
theorem Rd_payload_rcv (ℓ : Lane) (c : Dev nD) (h d : ℕ) : (Rd I).payload (cell c (kRcv ℓ (par h))) (h / 2) d = slotMsg I ℓ c h := by
  rw [Rd_payload]; exact congrArg (slotMsg I ℓ c) (half h)
theorem Rd_payload_crd (ℓ : Lane) (c : Dev nD) (r d : ℕ) : (Rd I).payload (cell c (kCrd ℓ)) r d = firsts ℓ (nbr ℓ c) (d + 3) := Rd_payload I c _ r d
theorem Rd_duties_crd (ℓ : Lane) (c : Dev nD) : (Rd I).duties (cell c (kCrd ℓ)) 0 = Finset.range (hops ℓ - 2) := Rd_duties I c _ 0
theorem Rd_expect_crd (ℓ : Lane) (c : Dev nD) : (Rd I).expect (cell c (kCrd ℓ)) 0 = hops ℓ - 2 := by
  rw [Rd_expect, show dutyOf (some (kCrd ℓ)) 0 = Finset.range (hops ℓ - 2) from rfl, Finset.card_range]; exact Nat.mul_one _
theorem Rd_duties_bar (c : Dev nD) : (Rd I).duties (cell c kBar) 0 = {0, 1} := Rd_duties I c _ 0
theorem Rd_expect_bar (c : Dev nD) : (Rd I).expect (cell c kBar) 0 = 2 := by rw [Rd_expect]; rfl
theorem Rd_payload_bar (c : Dev nD) (r d : ℕ) : (Rd I).payload (cell c kBar) r d = barPay c d := Rd_payload I c _ r d

/-! ## Stamps and dues -/

def base (ℓ : Lane) : ℕ := bif ℓ.1 then 100 else 0
def stR (ℓ : Lane) (h : ℕ) : ℕ := base ℓ + 2 * h + 2
def stC (ℓ : Lane) (h : ℕ) : ℕ := base ℓ + 2 * h + 3

def L (g : GSem nD τ sig) : Finset ℕ := if g.1.2 = .tc then Finset.range 200 else ∅
def lev (_ : GSem nD τ sig) (i : ℕ) : ℕ := i

theorem L_of_ne (g : GSem nD τ sig) (h : g.1.2 ≠ .tc) : L g = ∅ := if_neg h

/-- Everything owed is owed to a core's cell under a stamp above `b`. -/
def Above (b : ℕ) (O : CellTallies nD τ sig ℕ) : Prop := ∀ g i, 0 < O g i → b < i ∧ i < 200 ∧ g.1.2 = .tc

theorem above_zero (b : ℕ) : Above b 0 := fun _ _ h => absurd h (Nat.lt_irrefl 0)
theorem above_add {b : ℕ} {O O' : CellTallies nD τ sig ℕ} (h : Above b O) (h' : Above b O') : Above b (O + O') := fun g i hp => by
  rw [Pi.add_apply, Finsupp.add_apply] at hp
  rcases Nat.eq_zero_or_pos (O g i) with h0 | h0
  · exact h' g i (by omega)
  · exact h g i h0
theorem above_tallyAt {b : ℕ} (c : Dev nD) (k : CK) {i n : ℕ} (hb : b < i) (hi : i < 200) : Above b (tallyAt (cell c k) i n) := fun g j hp => by
  rw [tallyAt_apply] at hp
  by_cases h : g = cell c k ∧ j = i
  · obtain ⟨rfl, rfl⟩ := h; exact ⟨hb, hi, rfl⟩
  · rw [if_neg h] at hp; exact absurd hp (Nat.lt_irrefl 0)
theorem above_mono {b b' : ℕ} {O : CellTallies nD τ sig ℕ} (h : Above b O) (hb : b' ≤ b) : Above b' O := fun g i hp =>
  ⟨Nat.lt_of_le_of_lt hb (h g i hp).1, (h g i hp).2⟩

/-- A wait below everything owed. -/
theorem mayWait {c : Dev nD} {sm : SemLoc sig} {i : ℕ} {O : CellTallies nD τ sig ℕ} (hi : i < 200) (h : Above i O) :
    (levAts L lev : SP F) ⊢ MayWait (c : Thread nD τ) sm i O :=
  MayOwe.of_cut (L := L) (lev := lev) i
    (fun p hp => by rw [Finset.mem_singleton.mp hp]; show i ∈ L _; unfold L; rw [if_pos rfl]; exact Finset.mem_range.mpr hi)
    (fun g j hg => by unfold L; rw [if_pos (h g j hg).2.2]; exact Finset.mem_range.mpr (h g j hg).2.1)
    (fun p hp => by rw [Finset.mem_singleton.mp hp]; exact le_refl _)
    (fun g j hg => (h g j hg).1)

/-- What is owed for message `h` and for the credit after it. -/
def sendDue (ℓ : Lane) (c : Dev nD) (h : ℕ) : CellTallies nD τ sig ℕ := tallyAt (cell (nbr ℓ c) (kRcv ℓ (par h))) (stR ℓ h) (cN ℓ)
@[inherit_doc sendDue] def giveDue (ℓ : Lane) (c : Dev nD) (h : ℕ) : CellTallies nD τ sig ℕ := tallyAt (cell (src ℓ c) (kCrd ℓ)) (stC ℓ h) 1

def opt (b : Bool) (O : CellTallies nD τ sig ℕ) : CellTallies nD τ sig ℕ := bif b then O else 0

/-- What a step's payments are, in program order, and what `n` steps from `h` on are. -/
def stepDue (p : Bool) (c : Dev nD) (h : ℕ) : CellTallies nD τ sig ℕ :=
  sendDue (p, false) c h + (opt (Nat.ble h 14) (sendDue (p, true) c h) + (opt (Nat.ble h 13) (giveDue (p, false) c h) + opt (Nat.ble h 12) (giveDue (p, true) c h)))
@[inherit_doc stepDue] def restDue (p : Bool) (c : Dev nD) : ℕ → ℕ → CellTallies nD τ sig ℕ
  | 0, _ => 0
  | n + 1, h => stepDue p c h + restDue p c n (h + 1)

/-- What a device owes at launch. -/
def barDue (c : Dev nD) : CellTallies nD τ sig ℕ := tallyAt (cell (leftOf c) kBar) 1 1 + tallyAt (cell (rightOf c) kBar) 1 1
@[inherit_doc barDue] def ringDue (c : Dev nD) : CellTallies nD τ sig ℕ := restDue false c 16 0 + restDue true c 16 0
@[inherit_doc barDue] def O₀ (c : Dev nD) : CellTallies nD τ sig ℕ := barDue c + ringDue c

theorem above_send {b : ℕ} (ℓ : Lane) (c : Dev nD) {h : ℕ} (hb : b < stR ℓ h) (hh : h < 16) : Above b (sendDue ℓ c h) :=
  above_tallyAt _ _ hb (by rcases ℓ with ⟨_ | _, d⟩ <;> simp only [stR, base, cond_true, cond_false] <;> omega)
theorem above_give {b : ℕ} (ℓ : Lane) (c : Dev nD) {h : ℕ} (hb : b < stC ℓ h) (hh : h < 16) : Above b (giveDue ℓ c h) :=
  above_tallyAt _ _ hb (by rcases ℓ with ⟨_ | _, d⟩ <;> simp only [stC, base, cond_true, cond_false] <;> omega)
theorem above_opt {b : ℕ} {x : Bool} {O : CellTallies nD τ sig ℕ} (h : x = true → Above b O) : Above b (opt x O) := by
  cases x
  · exact above_zero b
  · exact h rfl

theorem stR_dir (p d d' : Bool) (h : ℕ) : stR (p, d) h = stR (p, d') h := rfl
theorem stC_dir (p d d' : Bool) (h : ℕ) : stC (p, d) h = stC (p, d') h := rfl

theorem above_step {b : ℕ} (p : Bool) (c : Dev nD) {h : ℕ} (hb : b < stR (p, false) h) (hh : h < 16) : Above b (stepDue p c h) := by
  have hc : b < stC (p, false) h := by unfold stC; unfold stR at hb; omega
  exact above_add (above_send _ _ hb hh) (above_add (above_opt fun _ => above_send _ _ hb hh)
    (above_add (above_opt fun _ => above_give _ _ hc hh) (above_opt fun _ => above_give _ _ hc hh)))

theorem above_rest {b : ℕ} (p : Bool) (c : Dev nD) : ∀ (n : ℕ) {h : ℕ}, b < stR (p, false) h → h + n ≤ 16 → Above b (restDue p c n h)
  | 0, _, _, _ => above_zero b
  | n + 1, h, hb, hn => above_add (above_step p c hb (by omega))
      (above_rest p c n (h := h + 1) (by unfold stR at hb ⊢; omega) (by omega))

theorem above_ring (c : Dev nD) : Above 1 (ringDue c) := by
  refine above_add (above_rest _ _ _ ?_ (by omega)) (above_rest _ _ _ ?_ (by omega)) <;> decide
theorem above_all (c : Dev nD) : Above 0 (O₀ c) :=
  above_add (above_add (above_tallyAt _ _ (by decide) (by decide)) (above_tallyAt _ _ (by decide) (by decide)))
    (above_mono (above_ring c) (by decide))

end Cert.KernelIdeal.Gen

end
-- ==== Proof.Hop.lean ====
/-
  The fragments of a step, each with what it needs and what it leaves: giving and taking a credit, sending a message, the two waits of a
  message, releasing a slot. They are stated for any lane and any message; only sending differs between the phases.
-/
module

public import proofs.«01_k».proof.Proof.Sched

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- Running a program of device `c`. -/
abbrev WP (c : Dev nD) {α : Type} (p : KP F α) (Q : α → SP F) : SP F :=
  wp frame (wpE (defs₀ (F := F)) 𝒱₀ (c : Thread nD τ) none) Set.univ p Q

/-- Run `p`, then the rest with what `p` left. -/
theorem run_then {c : Dev nD} {α β : Type} {p : KP F α} {k : α → KP F β} {P : SP F} {R : α → SP F} {Q : β → SP F} (h : P ⊢ WP c p R) :
    P ⊢ iprop((∀ a, R a -∗ WP c (k a) Q) -∗ WP c (p >>= k) Q) := by
  unfold WP
  rw [wp_bind]
  exact h.trans (wp_wand frame (wpE (defs₀ (F := F)) 𝒱₀ (c : Thread nD τ) none) Set.univ)

/-- One conjunct of a family, as an entailment of assertions. -/
theorem get_one {α : Type} [DecidableEq α] {s : Finset α} {Φ : α → SP F} {x : α} (h : x ∈ s) : bigSep s Φ ⊢ Φ x := bigSep_elim h

variable (I : Ins F) (K : Dev nD × CK → ℕ) (J : SlotKey → ℕ)

/-- The invariant of one slot. -/
def slotI (x : SlotKey) : SP F := slotInv EQ (J x) x (slotAny x.2.1 x.1 x.2.2)

instance slotI_persistent (x : SlotKey) : BI.Persistent (slotI (F := F) J x) := by unfold slotI; infer_instance

/-- That a cell reached round 0. -/
def begun (x : Dev nD × CK) : SP F := reached ER (cell x.1 x.2) 0

instance begun_persistent (x : Dev nD × CK) : BI.Persistent (begun (F := F) x) := by unfold begun; infer_instance

/-- What every device knows: every cell's and every slot's invariant, that every cell reached round 0, and the stamps' order. -/
def ctx : SP F :=
  iprop((bigSep Finset.univ fun x : Dev nD × CK => cellInv ER (Rd I) (K x) (cell x.1 x.2))
    ∗ (bigSep Finset.univ (slotI J))
    ∗ (bigSep Finset.univ begun)
    ∗ levAts L lev)

instance ctx_persistent : BI.Persistent (ctx I K J) := by unfold ctx; infer_instance

theorem ctx_cell (c : Dev nD) (k : CK) : ctx I K J ⊢ cellInv ER (Rd I) (K (c, k)) (cell c k) := by
  unfold ctx
  exact sep_elim_left.trans (get_one (Φ := fun x : Dev nD × CK => cellInv ER (Rd I) (K x) (cell x.1 x.2)) (Finset.mem_univ (c, k)))
theorem ctx_slot (x : SlotKey) : ctx I K J ⊢ slotI J x := by
  unfold ctx
  exact sep_elim_right.trans (sep_elim_left.trans (get_one (Φ := slotI (F := F) J) (Finset.mem_univ x)))
theorem ctx_reached (c : Dev nD) (k : CK) : ctx I K J ⊢ reached ER (cell c k) 0 := by
  unfold ctx; iintro ⟨-, -, H, -⟩
  ihave H' := (get_one (Φ := begun (F := F)) (Finset.mem_univ (c, k))) $$ H
  unfold begun; iexact H'
theorem ctx_wait {c : Dev nD} {sm : SemLoc sig} {i : ℕ} {O : CellTallies nD τ sig ℕ} (hi : i < 200) (h : Above i O) :
    ctx I K J ⊢ MayWait (c : Thread nD τ) sm i O := by
  unfold ctx; iintro ⟨-, -, -, H⟩
  iapply (mayWait hi h); iexact H

/-- What a device still owes, its waits so far left open. -/
def owesX (c : Dev nD) (O : CellTallies nD τ sig ℕ) : SP F := iprop(∃ W, owes (c : Thread nD τ) O W)

/-! ## Credits -/

/-- Give the credit of message `h` back to its sender. -/
theorem wp_give (ℓ : Lane) (c : Dev nD) {h : ℕ} (hh : h < hops ℓ - 2) (R : CellTallies nD τ sig ℕ) :
    iprop(ctx I K J ∗ owesX c (giveDue ℓ c h + R) ∗ dutyTok ER (cell (src ℓ c) (kCrd ℓ)) 0 h ∗ firsts ℓ c (h + 3))
      ⊢ WP c (give (cS ℓ) (src ℓ c)) (fun _ => owesX c R) := by
  unfold give owesX
  simp only [semSignalWord, Prog.lift]
  iintro ⟨#Hc, ⟨%W, HO⟩, Ht, #Hf⟩
  iapply (Rounds.wp_signal 𝒱₀ ER (Rd I) (c : Thread nD τ) none (dst := (src ℓ c : Thread nD τ)) (κ := K (src ℓ c, kCrd ℓ))
      (d := h) (by show h ∈ (Rd I).duties (cell (src ℓ c) (kCrd ℓ)) 0; rw [Rd_duties_crd]; exact Finset.mem_range.mpr hh)
      ((Rd_amount I (src ℓ c) (kCrd ℓ) 0 h).trans rfl) (stC ℓ h) R (add_comm _ _)) $$ [HO Ht]
  · isplitr; · iapply (ctx_cell I K J); iexact Hc
    isplitl [HO]; · iexact HO
    isplitl [Ht]; · iexact Ht
    isplitr
    · rw [show (Rd I).payload ((src ℓ c : Thread nD τ), .reg (cS ℓ).sem) 0 h = firsts ℓ c (h + 3) from
        (Rd_payload_crd I ℓ (src ℓ c) 0 h).trans (by rw [nbr_src])]
      iexact Hf
    · iapply (ctx_reached I K J (src ℓ c) (kCrd ℓ)); iexact Hc
  iintro HO
  rw [wp_ret]
  imodintro
  iexists W; iexact HO

/-- The credits taken so far, and the facts that came with them. -/
def crdSt (ℓ : Lane) (c : Dev nD) (j : ℕ) : SP F :=
  iprop(∃ T : Finset ℕ, ⌜T ⊆ Finset.range (hops ℓ - 2) ∧ j ≤ T.card⌝ ∗ atPos ER (cell c (kCrd ℓ)) 0 T j ∗ bigSep T (fun d => firsts ℓ (nbr ℓ c) (d + 3)))

/-- Take a credit: message `j + 2` may be sent. -/
theorem wp_take (ℓ : Lane) (c : Dev nD) {j : ℕ} (hj : j < hops ℓ - 2) {O : CellTallies nD τ sig ℕ} (hO : Above (stC ℓ j) O) :
    iprop(ctx I K J ∗ owesX c O ∗ crdSt ℓ c j ∗ cred (tallyAt (cell c (kCrd ℓ)) (stC ℓ j) 1))
      ⊢ WP c (take (cS ℓ)) (fun _ => iprop(owesX c O ∗ crdSt ℓ c (j + 1) ∗ fact ℓ (nbr ℓ c) (j + 2))) := by
  have hst : stC ℓ j < 200 := by
    have := hops_pos ℓ
    rcases ℓ with ⟨_ | _, d⟩ <;> simp only [stC, base, cond_true, cond_false] <;> omega
  unfold take owesX crdSt
  simp only [semWaitWord, Prog.lift]
  iintro ⟨#Hc, ⟨%W, HO⟩, ⟨%T, -, Hat, #HT⟩, Hcr⟩
  iapply (Rounds.wp_wait 𝒱₀ ER (Rd I) (c : Thread nD τ) none (κ := K (c, kCrd ℓ)) (sm := csem (kCrd ℓ))
      (wpE_semWait_eq 𝒱₀ (c : Thread nD τ) none Set.univ) (Set.mem_univ _) (cr := Finsupp.single (stC ℓ j) 1) (O := O) (W := W) (R := 0) (m := j) (T := T)
      {(csem (kCrd ℓ), stC ℓ j)} (by rw [Util.total_single]; decide)
      (by
        intro p hp
        obtain ⟨i, hi, rfl⟩ := Finset.mem_image.mp hp
        rw [Finset.mem_singleton.mp (Finsupp.support_single_subset hi)]; exact Finset.mem_singleton_self _)) $$ [HO Hat Hcr]
  · isplitr; · iapply (ctx_cell I K J); iexact Hc
    isplitl [Hcr]; · iexact Hcr
    isplitl [HO]; · iexact HO
    isplitr; · iapply (ctx_wait I K J hst hO); iexact Hc
    iexact Hat
  iintro %S ⟨%hS, HO, Hat, Hp⟩
  rw [wp_ret]
  imodintro
  obtain ⟨hTS, hSd, hcard⟩ := hS
  have e1 : (Rd I).duties ((c : Thread nD τ), csem (kCrd ℓ)) 0 = Finset.range (hops ℓ - 2) := Rd_duties_crd I ℓ c
  have e2 : (Rd I).expect ((c : Thread nD τ), csem (kCrd ℓ)) 0 = hops ℓ - 2 := Rd_expect_crd I ℓ c
  rw [e1] at hSd hcard
  rw [e2, Finset.card_sdiff_of_subset hSd, Finset.card_range] at hcard
  have hle := Finset.card_le_card hSd
  rw [Finset.card_range] at hle
  have hone : (1#32).toNat = 1 := by decide
  rw [hone] at hcard
  have hlarge : j + 1 ≤ S.card := by omega
  obtain ⟨d, hdS, hdj⟩ : ∃ d ∈ S, j ≤ d := by
    by_contra hn
    have hsub : S ⊆ Finset.range j := fun x hx => Finset.mem_range.mpr (by
      by_contra hx'
      exact hn ⟨x, hx, Nat.le_of_not_lt hx'⟩)
    have := Finset.card_le_card hsub
    rw [Finset.card_range] at this; omega
  have hpay : (bigSep (S \ T) fun d => (Rd I).payload ((c : Thread nD τ), csem (kCrd ℓ)) 0 d)
      = bigSep (S \ T) fun d => firsts ℓ (nbr ℓ c) (d + 3) := bigSep_congr fun d _ => Rd_payload_crd I ℓ c 0 d
  have hall : iprop(bigSep T (fun d => firsts (F := F) ℓ (nbr ℓ c) (d + 3)) ∗ bigSep (S \ T) fun d => firsts ℓ (nbr ℓ c) (d + 3))
      ⊢ bigSep S fun d => firsts ℓ (nbr ℓ c) (d + 3) := by
    rw [show bigSep S (fun d => firsts (F := F) ℓ (nbr ℓ c) (d + 3)) = bigSep (T ∪ S \ T) (fun d => firsts ℓ (nbr ℓ c) (d + 3)) by
      rw [Finset.union_sdiff_of_subset hTS], bigSep_union Finset.disjoint_sdiff]
    exact Entails.refl _
  have hget : bigSep S (fun d => firsts (F := F) ℓ (nbr ℓ c) (d + 3)) ⊢ fact ℓ (nbr ℓ c) (j + 2) :=
    (bigSep_elim hdS).trans (firsts_get ℓ (nbr ℓ c) (by omega))
  ihave Hp1 := (Entails.of_eq hpay) $$ Hp
  icases Hp1 with #Hp'
  ihave #HS := hall $$ [Hp' HT]
  · isplitr; · iexact HT
    iexact Hp'
  isplitl [HO]; · iexists _; iexact HO
  isplitl [Hat]
  · iexists S
    isplitr; · ipureintro; exact ⟨hSd, hlarge⟩
    isplitl [Hat]
    · rw [show j + (1#32).toNat = j + 1 from rfl]; iexact Hat
    · iexact HS
  · iapply hget; iexact HS

end Cert.KernelIdeal.Gen

end
-- ==== Proof.Send.lean ====
/-
  Sending a message and the two waits for it, and the slot's release after it was used.
-/
module

public import proofs.«01_k».proof.Proof.Hop

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

section Views

variable {s s' : Shape} {e : EltTy}

/-- Dropping unit axes keeps the elements. -/
theorem pts_squeeze (c : Dev nD) (m : Memref sig .tc .vmem s e) (hs : s.Squeezes s') (q : PosShare TreeShare) (f : Buf (Elt F) (m.view.loc (c : Thread nD τ))) :
    ((m.squeeze s' hs).view.loc (c : Thread nD τ) ↦[(m.squeeze s' hs).view.set]{q} f : SP F) = (m.view.loc (c : Thread nD τ) ↦[m.view.set]{q} f) := by
  have hset : (m.squeeze s' hs).view.set = m.view.set := View.set_reshape _ _
  exact congrArg (fun S => (m.view.loc (c : Thread nD τ) ↦[S]{q} f : SP F)) hset

/-- What a copy between two views with their unit axes dropped leaves in the second. -/
theorem squeeze_copy (m m' : Memref sig .tc .vmem s e) (hs : s.Squeezes s') (fd : m'.view.ty.Contents (Elt F)) (fs : m.view.ty.Contents (Elt F)) :
    m'.view.read (Elt F) ((m'.squeeze s' hs).view.write (Elt F) fd ((m.squeeze s' hs).view.read (Elt F) fs) Finset.univ) = m.view.read (Elt F) fs := by
  have h := View.read_write_univ (v := (m'.squeeze s' hs).view) (Val := Elt F) fd ((m.squeeze s' hs).view.read (Elt F) fs)
  funext x
  obtain ⟨i, rfl⟩ := (Shape.reshapeEquiv hs.numel_eq).surjective x
  exact congrFun h i

end Views

/-- A slot is not there twice. -/
theorem slotAny_false (ℓ : Lane) (e : Dev nD) (k : Fin 2) : iprop(slotAny (F := F) ℓ e k ∗ slotAny ℓ e k) ⊢ (False : SP F) := by
  have key {s : Shape} (m : Memref sig .tc .vmem s .f32) (hne : m.view.set.Nonempty) (w w' : s.Idx → Elt F .f32) :
      iprop((owns (e : Thread nD τ) m fullShare w : SP F) ∗ owns (e : Thread nD τ) m fullShare w') ⊢ (False : SP F) := by
    unfold owns
    iintro ⟨⟨%f, -, H⟩, ⟨%g, -, H'⟩⟩
    iapply (slot_slot_false (ℓ := m.view.loc (e : Thread nD τ)) hne)
    unfold slot
    isplitl [H]; · iexists f; iexact H
    iexists g; iexact H'
  rcases ℓ with ⟨_ | _, d⟩ <;> unfold slotAny <;> iintro ⟨⟨%w, H⟩, ⟨%w', H'⟩⟩
  · iapply (key (slotAM d k) (Finset.Nonempty.map ⟨(fun a => ⟨0, by fin_cases a <;> decide⟩ : (a : Fin S1x16x1152.rank) → Fin (S1x16x1152.size a)), Finset.mem_univ _⟩) w w')
    isplitl [H]; · iexact H
    iexact H'
  · iapply (key (slotGM d k) (Finset.Nonempty.map ⟨(fun a => ⟨0, by fin_cases a <;> decide⟩ : (a : Fin S1x16x1024.rank) → Fin (S1x16x1024.size a)), Finset.mem_univ _⟩) w w')
    isplitl [H]; · iexact H
    iexact H'

/-- A slice at equal offsets. -/
theorem chunk_at {o : Fin 3 → ℕ} (ho : ∀ a, o a + S1x16x1152.size a ≤ S32x16x1152.size a) {j : Fin 32} (h : o = ![j.val, 0, 0]) :
    accAt accM o ho = (chunkM j).squeeze S16x1152 squeezes_S1x16x1152_S16x1152 := by subst h; rfl
theorem rows_at {o : Fin 2 → ℕ} (ho : ∀ a, o a + S16x1024.size a ≤ S512x1024.size a) {j : Fin 32} (h : o = ![16 * j.val, 0]) :
    outAt outM o ho = rowsM j := by subst h; rfl

theorem stR_lt (ℓ : Lane) {h : ℕ} (hh : h < hops ℓ) : stR ℓ h < 200 := by
  have := hops_pos ℓ
  rcases ℓ with ⟨_ | _, d⟩ <;> simp only [stR, base, cond_true, cond_false] <;> omega

theorem amount_rs (d : Bool) (k : Fin 2) : (slotA (bufA d) k).view.amount (csem (kRcv (false, d) k)) = cN (false, d) := by
  cases d <;> rfl
theorem amount_ag (d : Bool) (k : Fin 2) : (slotG (bufG d) k).view.amount (csem (kRcv (true, d) k)) = cN (true, d) := by
  cases d <;> rfl

theorem slotMsg_rs (d : Bool) (e : Dev nD) (h : ℕ) :
    slotMsg I (false, d) e h = owns (e : Thread nD τ) (slotAM d (par h)) fullShare (msgR I d (src (false, d) e) h) := rfl
theorem slotMsg_ag (d : Bool) (e : Dev nD) (h : ℕ) :
    slotMsg I (true, d) e h = iprop(∃ w : Vec F S1x16x1024 .f32, ⌜k0_pay66 w = msgG I d (src (true, d) e) h⌝
      ∗ owns (e : Thread nD τ) (slotGM d (par h)) fullShare w) := rfl
theorem srcMsg_rs (d : Bool) (c : Dev nD) (h : ℕ) :
    srcMsg I (false, d) c h = owns (c : Thread nD τ) (chunkM (rsC d c h)) fullShare (msgR I d c h) := rfl
theorem srcMsg_ag (d : Bool) (c : Dev nD) (h : ℕ) :
    srcMsg I (true, d) c h = owns (c : Thread nD τ) (rowsM (agC d c h)) (shareOf d h) (msgG I d c h) := rfl
theorem slotAny_rs (d : Bool) (e : Dev nD) (k : Fin 2) :
    slotAny (F := F) (false, d) e k = iprop(∃ w : Vec F S1x16x1152 .f32, owns (e : Thread nD τ) (slotAM d k) fullShare w) := rfl
theorem slotAny_ag (d : Bool) (e : Dev nD) (k : Fin 2) :
    slotAny (F := F) (true, d) e k = iprop(∃ w : Vec F S1x16x1024 .f32, owns (e : Thread nD τ) (slotGM d k) fullShare w) := rfl

/-- A run may begin with an update. -/
theorem fupd_WP {c : Dev nD} {α : Type} {p : KP F α} {Q : α → SP F} : (|={Set.univ}=> WP c p Q : SP F) ⊢ WP c p Q := fupd_wp _ _ _ _ _

/-- A writer that knows the slot free gets it. -/
theorem slot_get (ℓ : Lane) (e : Dev nD) (h : ℕ) :
    iprop(ctx I K J ∗ fact ℓ e h ∗ writeTok EQ (e, ℓ, par h) (h / 2 + 1)) ⊢ (|={Set.univ}=> slotAny ℓ e (par h) : SP F) := by
  unfold fact
  iintro ⟨Hc, ⟨Hrel, -⟩, Hw⟩
  ihave Hsl := (ctx_slot I K J (e, ℓ, par h)) $$ Hc
  unfold slotI
  iapply (slot_take EQ (S := slotAny ℓ e (par h)) (ι := J (e, ℓ, par h)) (Set.mem_univ _) (h / 2 + 1))
  isplitl [Hsl]; · iexact Hsl
  isplitl [Hrel]; · iexact Hrel
  iexact Hw

/-- A reader that used a message gives the slot back, for message `h + 2`. -/
theorem slot_back (ℓ : Lane) (c : Dev nD) (k : Fin 2) (n : ℕ) :
    iprop(ctx I K J ∗ slotAny ℓ c k ∗ readerAt EQ (c, ℓ, k) n)
      ⊢ (|={Set.univ}=> (readerAt EQ (c, ℓ, k) (n + 1) ∗ released EQ (c, ℓ, k) (n + 1)) : SP F) := by
  iintro ⟨Hc, Hs, Hr⟩
  ihave Hsl := (ctx_slot I K J (c, ℓ, k)) $$ Hc
  unfold slotI
  iapply (slot_release EQ (S := slotAny ℓ c k) (ι := J (c, ℓ, k)) (Set.mem_univ _) (slotAny_false ℓ c k) n)
  isplitl [Hsl]; · iexact Hsl
  isplitl [Hr]; · iexact Hr
  iexact Hs

/-- What sending message `h` of lane `ℓ` needs, and what it leaves. -/
def sendPre (ℓ : Lane) (c : Dev nD) (h : ℕ) : SP F :=
  iprop(fact ℓ (nbr ℓ c) h ∗ writeTok EQ (nbr ℓ c, ℓ, par h) (h / 2 + 1) ∗ srcMsg I ℓ c h
    ∗ dutyTok ER (cell c (kSnd ℓ (par h))) (h / 2) 0 ∗ reached ER (cell c (kSnd ℓ (par h))) (h / 2)
    ∗ dutyTok ER (cell (nbr ℓ c) (kRcv ℓ (par h))) (h / 2) 0)
@[inherit_doc sendPre] def sendPost (ℓ : Lane) (c : Dev nD) (h : ℕ) : SP F := cred (tallyAt (cell c (kSnd ℓ (par h))) (stR ℓ h) (cN ℓ))

theorem pay_src_rs (d : Bool) (c : Dev nD) (h : ℕ) (fs : (chunkM (rsC d c h)).view.ty.Contents (Elt F))
    (hfs : (chunkM (rsC d c h)).view.read (Elt F) fs = msgR I d c h) :
    ((chunkM (rsC d c h)).view.loc (c : Thread nD τ) ↦[(chunkM (rsC d c h)).view.set]{fullShare} fs : SP F)
      ⊢ (Rd I).payload (cell c (kSnd (false, d) (par h))) (h / 2) 0 := by
  rw [Rd_payload_snd, srcMsg_rs, ← hfs]
  exact owns_intro (c : Thread nD τ) (chunkM (rsC d c h)) fullShare fs

theorem pay_dst_rs (d : Bool) (c : Dev nD) (h : ℕ) (fs : (chunkM (rsC d c h)).view.ty.Contents (Elt F)) (fd : (slotAM d (par h)).view.ty.Contents (Elt F))
    (hfs : (chunkM (rsC d c h)).view.read (Elt F) fs = msgR I d c h) :
    ((slotAM d (par h)).view.loc (nbr (false, d) c : Thread nD τ) ↦[(slotAM d (par h)).view.set]{fullShare}
        ((slotA (bufA d) (par h)).view.write (Elt F) fd
          (((chunkM (rsC d c h)).squeeze S16x1152 squeezes_S1x16x1152_S16x1152).view.read (Elt F) fs) Finset.univ) : SP F)
      ⊢ (Rd I).payload (cell (nbr (false, d) c) (kRcv (false, d) (par h))) (h / 2) 0 := by
  rw [Rd_payload_rcv, slotMsg_rs, src_nbr, ← hfs, ← squeeze_copy (chunkM (rsC d c h)) (slotAM d (par h)) squeezes_S1x16x1152_S16x1152 fd fs]
  exact owns_intro (nbr (false, d) c : Thread nD τ) (slotAM d (par h)) fullShare _

theorem pay_src_ag (d : Bool) (c : Dev nD) (h : ℕ) (fs : (rowsM (agC d c h)).view.ty.Contents (Elt F))
    (hfs : (rowsM (agC d c h)).view.read (Elt F) fs = msgG I d c h) :
    ((rowsM (agC d c h)).view.loc (c : Thread nD τ) ↦[(rowsM (agC d c h)).view.set]{shareOf d h} fs : SP F)
      ⊢ (Rd I).payload (cell c (kSnd (true, d) (par h))) (h / 2) 0 := by
  rw [Rd_payload_snd, srcMsg_ag, ← hfs]
  exact owns_intro (c : Thread nD τ) (rowsM (agC d c h)) (shareOf d h) fs

theorem pay_dst_ag (d : Bool) (c : Dev nD) (h : ℕ) (fs : (rowsM (agC d c h)).view.ty.Contents (Elt F)) (fd : (slotGM d (par h)).view.ty.Contents (Elt F))
    (hfs : (rowsM (agC d c h)).view.read (Elt F) fs = msgG I d c h) :
    ((slotGM d (par h)).view.loc (nbr (true, d) c : Thread nD τ) ↦[(slotGM d (par h)).view.set]{fullShare}
        ((slotG (bufG d) (par h)).view.write (Elt F) fd ((rowsM (agC d c h)).view.read (Elt F) fs) Finset.univ) : SP F)
      ⊢ (Rd I).payload (cell (nbr (true, d) c) (kRcv (true, d) (par h))) (h / 2) 0 := by
  rw [Rd_payload_rcv, slotMsg_ag, src_nbr, ← hfs]
  iintro H
  iexists ((slotGM d (par h)).view.read (Elt F) _)
  isplitr
  · ipureintro
    exact View.read_write_univ (v := (slotG (bufG d) (par h)).view) (Val := Elt F) fd ((rowsM (agC d c h)).view.read (Elt F) fs)
  · iapply (owns_intro (nbr (true, d) c : Thread nD τ) (slotGM d (par h)) fullShare); iexact H

section Sends

variable (c : Dev nD) {h : ℕ} (R : CellTallies nD τ sig ℕ)

/-- A remote copy from `m` into `m'`, with the payloads its two signals carry. -/
theorem wp_remote (ℓ : Lane) (hh : h < hops ℓ) {s : Shape} {m m' : Memref sig .tc .vmem s .f32} {q : PosShare TreeShare}
    {fs : Buf (Elt F) (m.view.loc (c : Thread nD τ))} {fd : Buf (Elt F) (m'.view.loc (nbr ℓ c : Thread nD τ))} {hsc : m'.view.ref.isScScratch = false}
    (h1 : m.view.WordExact) (h2 : m'.view.WordExact)
    (h3 : DmaTarget.Typed .vmem (SemLoc.dma (semAt (rS ℓ) (par h))) (.remote (nbr ℓ c : Thread nD τ) m' (.dma (semAt (sS ℓ) (par h))) hsc))
    (hN : m'.view.amount (csem (kRcv ℓ (par h))) = cN ℓ)
    (hp₁ : (m.view.loc (c : Thread nD τ) ↦[m.view.set]{q} fs) ⊢ (Rd I).payload (cell c (kSnd ℓ (par h))) (h / 2) 0)
    (hp₂ : (m'.view.loc (nbr ℓ c : Thread nD τ) ↦[m'.view.set]{fullShare} (m'.view.write (Elt F) fd (m.view.read (Elt F) fs) Finset.univ))
      ⊢ (Rd I).payload (cell (nbr ℓ c) (kRcv ℓ (par h))) (h / 2) 0) :
    iprop(ctx I K J ∗ owesX c (sendDue ℓ c h + R) ∗ (m.view.loc (c : Thread nD τ) ↦[m.view.set]{q} fs)
        ∗ (m'.view.loc (nbr ℓ c : Thread nD τ) ↦[m'.view.set]{fullShare} fd)
        ∗ dutyTok ER (cell c (kSnd ℓ (par h))) (h / 2) 0 ∗ reached ER (cell c (kSnd ℓ (par h))) (h / 2)
        ∗ dutyTok ER (cell (nbr ℓ c) (kRcv ℓ (par h))) (h / 2) 0 ∗ reached ER (cell (nbr ℓ c) (kRcv ℓ (par h))) (h / 2))
      ⊢ WP c (Prog.lift (.enqueueDma m (.remote (nbr ℓ c : Thread nD τ) m' (.dma (semAt (sS ℓ) (par h))) hsc) (.dma (semAt (rS ℓ) (par h))) h1 h2 h3))
          (fun _ => iprop(owesX c R ∗ sendPost ℓ c h)) := by
  unfold owesX sendPost WP
  simp only [Prog.lift]
  iintro ⟨#Hc, ⟨%W, HO⟩, Hm, Hm', HtS, #HrS, HtV, #HrV⟩
  iapply (Rounds.wp_send_pointsTo 𝒱₀ ER (Rd I) (c : Thread nD τ) none (c' := (nbr ℓ c : Thread nD τ)) (src := m) (dst := m')
      (κ₁ := K (c, kSnd ℓ (par h))) (κ₂ := K (nbr ℓ c, kRcv ℓ (par h)))
      (r₁ := h / 2) (r₂ := h / 2) (d₁ := 0) (d₂ := 0) (fs := fs) (fd := fd) (q := q)
      (sS := csem (kSnd ℓ (par h))) (sem := csem (kRcv ℓ (par h)))
      (by rw [Rd_duties_snd I _ _ hh]; exact Finset.mem_singleton_self _) (by rw [Rd_duties_rcv I _ _ hh]; exact Finset.mem_singleton_self _)
      (stR ℓ h) (stR ℓ h) (cN ℓ) hN (Rd_amount I _ _ _ _) (Rd_amount I _ _ _ _) R (add_comm _ _) (W := W) hp₁ hp₂) $$ [HO HtS HtV Hm Hm']
  · isplitr; · iapply (ctx_cell I K J); iexact Hc
    isplitr; · iapply (ctx_cell I K J); iexact Hc
    isplitl [Hm]; · iexact Hm
    isplitl [Hm']; · iexact Hm'
    isplitl [HO]; · iexact HO
    isplitl [HtS]; · iexact HtS
    isplitr; · iexact HrS
    isplitl [HtV]; · iexact HtV
    iexact HrV
  iintro ⟨Hcr, HO⟩
  rw [wp_ret]
  imodintro
  isplitl [HO]; · iexists W; iexact HO
  iexact Hcr

variable (d : Bool)

/-- Send message `h` of a reduce-scatter lane. -/
theorem wp_rsSend (hh : h < hops (false, d)) {o : Fin 3 → ℕ}
    (ho : ∀ a, o a + S1x16x1152.size a ≤ S32x16x1152.size a) (hj : o = ![(rsC d c h).val, 0, 0]) :
    iprop(ctx I K J ∗ owesX c (sendDue (false, d) c h + R) ∗ sendPre I (false, d) c h)
      ⊢ WP c (rsSend accM (bufA d) (sS (false, d)) (rS (false, d)) o ho (par h) (nbr (false, d) c))
          (fun _ => iprop(owesX c R ∗ sendPost (false, d) c h)) := by
  subst hj
  unfold sendPre
  rw [srcMsg_rs]
  iintro ⟨#Hc, HO, #Hf, Hw, Hsrc, HtS, #HrS, HtV⟩
  iapply fupd_WP
  imod (slot_get I K J (false, d) (nbr (false, d) c) h) $$ [Hw] with Hs
  · isplitr; · iexact Hc
    isplitr; · iexact Hf
    iexact Hw
  imodintro
  ihave Hs := (Entails.of_eq (slotAny_rs d _ _)) $$ Hs
  unfold owns fact
  icases Hf with ⟨-, #Hrch⟩
  icases Hs with ⟨%w, %fd, -, Hd⟩
  icases Hsrc with ⟨%fs, %hfs, Hsrc⟩
  unfold rsSend
  iapply (wp_remote I K J c R (false, d) hh (m := accAt accM ![(rsC d c h).val, 0, 0] ho) (m' := slotA (bufA d) (par h)) (q := fullShare) (fs := fs) (fd := fd) _ _ _
      (amount_rs d (par h))
      ((Entails.of_eq (pts_squeeze c (chunkM (rsC d c h)) squeezes_S1x16x1152_S16x1152 fullShare fs)).trans (pay_src_rs I d c h fs hfs))
      ((Entails.of_eq (pts_squeeze (nbr (false, d) c) (slotAM d (par h)) squeezes_S1x16x1152_S16x1152 fullShare _)).trans (pay_dst_rs I d c h fs fd hfs)))
  isplitr; · iexact Hc
  isplitl [HO]; · iexact HO
  isplitl [Hsrc]; · iapply (Entails.of_eq (pts_squeeze c (chunkM (rsC d c h)) squeezes_S1x16x1152_S16x1152 fullShare fs).symm); iexact Hsrc
  isplitl [Hd]; · iapply (Entails.of_eq (pts_squeeze (nbr (false, d) c) (slotAM d (par h)) squeezes_S1x16x1152_S16x1152 fullShare fd).symm); iexact Hd
  isplitl [HtS]; · iexact HtS
  isplitr; · iexact HrS
  isplitl [HtV]; · iexact HtV
  iexact Hrch

/-- Send message `h` of an all-gather lane. -/
theorem wp_agSend (hh : h < hops (true, d)) {o : Fin 2 → ℕ}
    (ho : ∀ a, o a + S16x1024.size a ≤ S512x1024.size a) (hj : o = ![16 * (agC d c h).val, 0]) :
    iprop(ctx I K J ∗ owesX c (sendDue (true, d) c h + R) ∗ sendPre I (true, d) c h)
      ⊢ WP c (agSend outM (bufG d) (sS (true, d)) (rS (true, d)) o ho (par h) (nbr (true, d) c))
          (fun _ => iprop(owesX c R ∗ sendPost (true, d) c h)) := by
  subst hj
  unfold sendPre
  rw [srcMsg_ag]
  iintro ⟨#Hc, HO, #Hf, Hw, Hsrc, HtS, #HrS, HtV⟩
  iapply fupd_WP
  imod (slot_get I K J (true, d) (nbr (true, d) c) h) $$ [Hw] with Hs
  · isplitr; · iexact Hc
    isplitr; · iexact Hf
    iexact Hw
  imodintro
  ihave Hs := (Entails.of_eq (slotAny_ag d _ _)) $$ Hs
  unfold owns fact
  icases Hf with ⟨-, #Hrch⟩
  icases Hs with ⟨%w, %fd, -, Hd⟩
  icases Hsrc with ⟨%fs, %hfs, Hsrc⟩
  unfold agSend
  iapply (wp_remote I K J c R (true, d) hh (m := outAt outM ![16 * (agC d c h).val, 0] ho) (m' := slotG (bufG d) (par h)) (q := shareOf d h) (fs := fs) (fd := fd) _ _ _
      (amount_ag d (par h)) (pay_src_ag I d c h fs hfs)
      ((Entails.of_eq (pts_squeeze (nbr (true, d) c) (slotGM d (par h)) squeezes_S1x16x1024_S16x1024 fullShare _)).trans (pay_dst_ag I d c h fs fd hfs)))
  isplitr; · iexact Hc
  isplitl [HO]; · iexact HO
  isplitl [Hsrc]; · iexact Hsrc
  isplitl [Hd]; · iapply (Entails.of_eq (pts_squeeze (nbr (true, d) c) (slotGM d (par h)) squeezes_S1x16x1024_S16x1024 fullShare fd).symm); iexact Hd
  isplitl [HtS]; · iexact HtS
  isplitr; · iexact HrS
  isplitl [HtV]; · iexact HtV
  iexact Hrch

end Sends

/-! ## The two waits -/

/-- What the waits for message `h` need and leave. -/
def waitPre (ℓ : Lane) (c : Dev nD) (h : ℕ) : SP F :=
  iprop(sendPost ℓ c h ∗ cred (tallyAt (cell c (kRcv ℓ (par h))) (stR ℓ h) (cN ℓ))
    ∗ atPos ER (cell c (kSnd ℓ (par h))) (h / 2) ∅ 0 ∗ atPos ER (cell c (kRcv ℓ (par h))) (h / 2) ∅ 0)
@[inherit_doc waitPre] def waitPost (ℓ : Lane) (c : Dev nD) (h : ℕ) : SP F :=
  iprop(atPos ER (cell c (kSnd ℓ (par h))) (h / 2 + 1) ∅ 0 ∗ reached ER (cell c (kSnd ℓ (par h))) (h / 2 + 1)
    ∗ atPos ER (cell c (kRcv ℓ (par h))) (h / 2 + 1) ∅ 0 ∗ reached ER (cell c (kRcv ℓ (par h))) (h / 2 + 1)
    ∗ srcMsg I ℓ c h ∗ slotMsg I ℓ c h)

/-- Two waits on a lane's send and receive cells, whatever memrefs they name. -/
theorem wp_waits (ℓ : Lane) (c : Dev nD) {h : ℕ} (hh : h < hops ℓ) {O : CellTallies nD τ sig ℕ} (hO : Above (stR ℓ h) O) {s1 s3 : Shape}
    {m1 : Memref sig .tc .vmem s1 .f32} {m2 : Memref sig .tc .vmem s1 .f32} {m3 : Memref sig .tc .vmem s3 .f32} {m4 : Memref sig .tc .vmem s3 .f32}
    (h1 : m1.view.WordExact) (h2 : m2.view.WordExact) (h3 : m3.view.WordExact) (h4 : m4.view.WordExact)
    (hn2 : m2.view.dmaCredit = cN ℓ) (hn4 : m4.view.dmaCredit = cN ℓ) :
    iprop(ctx I K J ∗ owesX c O ∗ waitPre ℓ c h)
      ⊢ WP c (do Prog.lift (.waitDma2 (semAt (sS ℓ) (par h)) m1 m2 h1 h2)
                 Prog.lift (.waitDma2 (semAt (rS ℓ) (par h)) m3 m4 h3 h4))
          (fun _ => iprop(owesX c O ∗ waitPost I ℓ c h)) := by
  unfold waitPre waitPost sendPost owesX
  simp only [Prog.lift, Prog.bind_op, Prog.bind_ret]
  iintro ⟨#Hc, ⟨%W, HO⟩, HcS, HcV, HaS, HaV⟩
  iapply (Rounds.wp_wait_rest_token 𝒱₀ ER (Rd I) (c : Thread nD τ) none (κ := K (c, kSnd ℓ (par h))) (sm := csem (kSnd ℓ (par h)))
      (wpE_waitDma2_eq 𝒱₀ (c : Thread nD τ) none Set.univ) (Set.mem_univ _) (stR ℓ h) (O := O) (W := W) (R := h / 2) (m := 0) (T := ∅)
      (by rw [Nat.zero_add, hn2]; exact (Rd_expect_snd I ℓ c hh).symm)) $$ [HcS HO HaS]
  · isplitr; · iapply (ctx_cell I K J); iexact Hc
    isplitl [HcS]; · rw [hn2]; iexact HcS
    isplitl [HO]; · iexact HO
    isplitr; · iapply (ctx_wait I K J (stR_lt ℓ hh) hO); iexact Hc
    iexact HaS
  iintro ⟨HO, HaS, HrS, HpS⟩
  iapply (Rounds.wp_wait_rest_token 𝒱₀ ER (Rd I) (c : Thread nD τ) none (κ := K (c, kRcv ℓ (par h))) (sm := csem (kRcv ℓ (par h)))
      (wpE_waitDma2_eq 𝒱₀ (c : Thread nD τ) none Set.univ) (Set.mem_univ _) (stR ℓ h) (O := O) (R := h / 2) (m := 0) (T := ∅)
      (by rw [Nat.zero_add, hn4]; exact (Rd_expect_rcv I ℓ c hh).symm)) $$ [HcV HO HaV]
  · isplitr; · iapply (ctx_cell I K J); iexact Hc
    isplitl [HcV]; · rw [hn4]; iexact HcV
    isplitl [HO]; · iexact HO
    isplitr; · iapply (ctx_wait I K J (stR_lt ℓ hh) hO); iexact Hc
    iexact HaV
  iintro ⟨HO, HaV, HrV, HpV⟩
  rw [wp_ret]
  imodintro
  isplitl [HO]; · iexists _; iexact HO
  isplitl [HaS]; · iexact HaS
  isplitl [HrS]; · iexact HrS
  isplitl [HaV]; · iexact HaV
  isplitl [HrV]; · iexact HrV
  isplitl [HpS]
  · iapply (Entails.of_eq (show bigSep ((Rd I).duties (cell c (kSnd ℓ (par h))) (h / 2) \ ∅) (fun d => (Rd I).payload (cell c (kSnd ℓ (par h))) (h / 2) d)
        = srcMsg I ℓ c h by rw [Rd_duties_snd I ℓ c hh, Finset.sdiff_empty, bigSep_singleton, Rd_payload_snd])); iexact HpS
  · iapply (Entails.of_eq (show bigSep ((Rd I).duties (cell c (kRcv ℓ (par h))) (h / 2) \ ∅) (fun d => (Rd I).payload (cell c (kRcv ℓ (par h))) (h / 2) d)
        = slotMsg I ℓ c h by rw [Rd_duties_rcv I ℓ c hh, Finset.sdiff_empty, bigSep_singleton, Rd_payload_rcv])); iexact HpV

end Cert.KernelIdeal.Gen

end
-- ==== Proof.Lane.lean ====
/-
  One lane through one step: taking a credit, sending, waiting, using what came, giving the slot back.
-/
module

public import proofs.«01_k».proof.Proof.Send

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

theorem par_two (i : ℕ) : par (i + 2) = par i := Fin.ext (Nat.add_mod_right i 2)
theorem half_two (i : ℕ) : (i + 2) / 2 = i / 2 + 1 := Nat.add_div_right i (by decide)

/-! ## A lane's state -/

/-- A slot and its two cells, ready for message `i`. -/
def stand (ℓ : Lane) (c : Dev nD) (i : ℕ) : SP F :=
  iprop(atPos ER (cell c (kSnd ℓ (par i))) (i / 2) ∅ 0 ∗ reached ER (cell c (kSnd ℓ (par i))) (i / 2)
    ∗ atPos ER (cell c (kRcv ℓ (par i))) (i / 2) ∅ 0 ∗ readerAt EQ (c, ℓ, par i) (i / 2 + 1))
/-- The same after the last message that uses them. -/
def spent (ℓ : Lane) (c : Dev nD) (i : ℕ) : SP F :=
  iprop(atPos ER (cell c (kSnd ℓ (par i))) (i / 2) ∅ 0 ∗ atPos ER (cell c (kRcv ℓ (par i))) (i / 2) ∅ 0 ∗ slotAny ℓ c (par i))
def stage (ℓ : Lane) (c : Dev nD) (i : ℕ) : SP F := if i < hops ℓ then stand ℓ c i else spent ℓ c i

theorem stage_stand (ℓ : Lane) (c : Dev nD) {i : ℕ} (h : i < hops ℓ) : stage (F := F) ℓ c i = stand ℓ c i := if_pos h
theorem stage_spent (ℓ : Lane) (c : Dev nD) {i : ℕ} (h : ¬ i < hops ℓ) : stage (F := F) ℓ c i = spent ℓ c i := if_neg h

/-- What sending message `i` uses up besides the memory. -/
def hopTok (ℓ : Lane) (c : Dev nD) (i : ℕ) : SP F :=
  iprop(dutyTok ER (cell (nbr ℓ c) (kRcv ℓ (par i))) (i / 2) 0 ∗ dutyTok ER (cell c (kSnd ℓ (par i))) (i / 2) 0
    ∗ writeTok EQ (nbr ℓ c, ℓ, par i) (i / 2 + 1) ∗ cred (tallyAt (cell c (kRcv ℓ (par i))) (stR ℓ i) (cN ℓ)))
/-- The right to give credit `i`, and the claim on it. -/
def giveTok (ℓ : Lane) (c : Dev nD) (i : ℕ) : SP F := dutyTok ER (cell (src ℓ c) (kCrd ℓ)) 0 i
@[inherit_doc giveTok] def crdTok (ℓ : Lane) (c : Dev nD) (i : ℕ) : SP F := cred (tallyAt (cell c (kCrd ℓ)) (stC ℓ i) 1)

/-- The credits before message `h`. -/
def crdAt (ℓ : Lane) (c : Dev nD) (h : ℕ) : SP F := iprop(crdSt ℓ c (h - 2) ∗ bigSep (Finset.Ico (h - 2) (hops ℓ - 2)) (crdTok ℓ c))

/-- A lane's state before message `h`. -/
def lane (ℓ : Lane) (c : Dev nD) (h : ℕ) : SP F :=
  iprop(stage ℓ c h ∗ stage ℓ c (h + 1) ∗ firsts ℓ c (min (h + 2) (hops ℓ)) ∗ firsts ℓ (nbr ℓ c) 2 ∗ crdAt ℓ c h
    ∗ bigSep (Finset.Ico h (hops ℓ)) (hopTok ℓ c) ∗ bigSep (Finset.Ico h (hops ℓ - 2)) (giveTok ℓ c))

/-- The part of it that message `h` leaves alone. -/
def rest (ℓ : Lane) (c : Dev nD) (h : ℕ) : SP F :=
  iprop(stage ℓ c (h + 1) ∗ firsts ℓ c (min (h + 2) (hops ℓ)) ∗ firsts ℓ (nbr ℓ c) 2 ∗ crdAt ℓ c (h + 1)
    ∗ bigSep (Finset.Ico (h + 1) (hops ℓ)) (hopTok ℓ c) ∗ bigSep (Finset.Ico h (hops ℓ - 2)) (giveTok ℓ c))

/-- Ready to send message `h`; and having sent it. -/
def ready (ℓ : Lane) (c : Dev nD) (h : ℕ) : SP F := iprop(stand ℓ c h ∗ hopTok ℓ c h ∗ fact ℓ (nbr ℓ c) h ∗ rest ℓ c h)
@[inherit_doc ready] def sent (ℓ : Lane) (c : Dev nD) (h : ℕ) : SP F := iprop(waitPre ℓ c h ∗ readerAt EQ (c, ℓ, par h) (h / 2 + 1) ∗ rest ℓ c h)

theorem ico_head {a b : ℕ} (h : a < b) (Φ : ℕ → SP F) : bigSep (Finset.Ico a b) Φ = iprop(Φ a ∗ bigSep (Finset.Ico (a + 1) b) Φ) :=
  bigSep_Ico_succ_bot h Φ

/-- A run that is over. -/
theorem WP_ret {c : Dev nD} {Q : PUnit → SP F} : Q ⟨⟩ ⊢ WP c (pure ⟨⟩ : KP F PUnit) Q := by
  unfold WP
  rw [show (pure ⟨⟩ : KP F PUnit) = Prog.ret ⟨⟩ from rfl, wp_ret]
  iintro H; imodintro; iexact H
/-- A run's result, weakened. -/
theorem WP_mono {c : Dev nD} {α : Type} {p : KP F α} {P : SP F} {R : α → SP F} {Q : α → SP F} (h : P ⊢ WP c p R) :
    P ⊢ iprop((∀ a, R a -∗ Q a) -∗ WP c p Q) :=
  h.trans (wp_wand frame (wpE (defs₀ (F := F)) 𝒱₀ (c : Thread nD τ) none) Set.univ)

/-- Taking the credit that message `h` needs. -/
theorem lane_take (ℓ : Lane) (c : Dev nD) {h : ℕ} (hh : h < hops ℓ) {O : CellTallies nD τ sig ℕ} (hO : ∀ j, j + 2 = h → Above (stC ℓ j) O) :
    iprop(ctx I K J ∗ owesX c O ∗ lane ℓ c h) ⊢ WP c (onlyIf (Nat.ble 2 h) (take (cS ℓ))) (fun _ => iprop(owesX c O ∗ ready ℓ c h)) := by
  unfold lane ready rest crdAt
  rw [stage_stand ℓ c hh, ico_head hh]
  iintro ⟨#Hc, HO, Hst, Hst1, Hf, #Hn, ⟨Hcs, Hct⟩, ⟨Hht, Hhts⟩, Hgt⟩
  by_cases h2 : 2 ≤ h
  · obtain ⟨j, rfl⟩ : ∃ j, h = j + 2 := ⟨h - 2, by omega⟩
    have hj : j < hops ℓ - 2 := by omega
    rw [show Nat.ble 2 (j + 2) = true from Nat.ble_eq.mpr h2, onlyIf_true]
    rw [show j + 2 - 2 = j from rfl, show j + 2 + 1 - 2 = j + 1 from rfl]
    ihave Hct := (Entails.of_eq (ico_head hj (crdTok (F := F) ℓ c))) $$ Hct
    icases Hct with ⟨Hct, Hcts⟩
    ihave Hw := (wp_take I K J ℓ c hj (hO j rfl)) $$ [HO Hcs Hct]
    · isplitr; · iexact Hc
      isplitl [HO]; · iexact HO
      isplitl [Hcs]; · iexact Hcs
      unfold crdTok; iexact Hct
    iapply (wp_wand frame (wpE (defs₀ (F := F)) 𝒱₀ (c : Thread nD τ) none) Set.univ) $$ Hw
    iintro %a ⟨HO, Hcs, Hfact⟩
    isplitl [HO]; · iexact HO
    isplitl [Hst]; · iexact Hst
    isplitl [Hht]; · iexact Hht
    isplitl [Hfact]; · iexact Hfact
    isplitl [Hst1]; · iexact Hst1
    isplitl [Hf]; · iexact Hf
    isplitr; · iexact Hn
    isplitl [Hcs Hcts]
    · isplitl [Hcs]; · iexact Hcs
      iexact Hcts
    isplitl [Hhts]; · iexact Hhts
    iexact Hgt
  · rw [show Nat.ble 2 h = false from by rw [← Bool.not_eq_true, Nat.ble_eq]; exact h2, onlyIf_false, show h + 1 - 2 = h - 2 by omega]
    iapply WP_ret
    isplitl [HO]; · iexact HO
    isplitl [Hst]; · iexact Hst
    isplitl [Hht]; · iexact Hht
    isplitr; · iapply (firsts_get ℓ (nbr ℓ c) (show h < 2 by omega)); iexact Hn
    isplitl [Hst1]; · iexact Hst1
    isplitl [Hf]; · iexact Hf
    isplitr; · iexact Hn
    isplitl [Hcs Hct]
    · isplitl [Hcs]; · iexact Hcs
      iexact Hct
    isplitl [Hhts]; · iexact Hhts
    iexact Hgt

/-- Sending message `h`. -/
theorem lane_send (ℓ : Lane) (c : Dev nD) {h : ℕ} {S : KP F PUnit} (R : CellTallies nD τ sig ℕ)
    (hS : iprop(ctx I K J ∗ owesX c (sendDue ℓ c h + R) ∗ sendPre I ℓ c h) ⊢ WP c S (fun _ => iprop(owesX c R ∗ sendPost ℓ c h))) :
    iprop(ctx I K J ∗ owesX c (sendDue ℓ c h + R) ∗ ready ℓ c h ∗ srcMsg I ℓ c h) ⊢ WP c S (fun _ => iprop(owesX c R ∗ sent ℓ c h)) := by
  unfold ready sent stand hopTok waitPre
  iintro ⟨#Hc, HO, ⟨⟨Has, #Hrs, Har, Hrd⟩, ⟨HtV, HtS, Hw, Hcr⟩, #Hf, Hrest⟩, Hsrc⟩
  ihave Hwp := hS $$ [HO HtV HtS Hw Hsrc]
  · isplitr; · iexact Hc
    isplitl [HO]; · iexact HO
    unfold sendPre
    isplitr; · iexact Hf
    isplitl [Hw]; · iexact Hw
    isplitl [Hsrc]; · iexact Hsrc
    isplitl [HtS]; · iexact HtS
    isplitr; · iexact Hrs
    iexact HtV
  iapply (wp_wand frame (wpE (defs₀ (F := F)) 𝒱₀ (c : Thread nD τ) none) Set.univ) $$ Hwp
  iintro %a ⟨HO, Hpost⟩
  isplitl [HO]; · iexact HO
  isplitl [Hpost Hcr Has Har]
  · isplitl [Hpost]; · iexact Hpost
    isplitl [Hcr]; · iexact Hcr
    isplitl [Has]; · iexact Has
    iexact Har
  isplitl [Hrd]; · iexact Hrd
  iexact Hrest

/-- Waiting for message `h`, using it, and giving its slot back when a later message needs it. -/
theorem lane_end (ℓ : Lane) (c : Dev nD) {h : ℕ} (hh : h < hops ℓ) {W A : KP F PUnit} {R : CellTallies nD τ sig ℕ} (X Y : SP F)
    (b : Bool) (hb : b = true ↔ h < hops ℓ - 2) (hO : Above (stR ℓ h) (opt b (giveDue ℓ c h) + R))
    (hW : iprop(ctx I K J ∗ owesX c (opt b (giveDue ℓ c h) + R) ∗ waitPre ℓ c h)
      ⊢ WP c W (fun _ => iprop(owesX c (opt b (giveDue ℓ c h) + R) ∗ waitPost I ℓ c h)))
    (hA : iprop(X ∗ slotMsg I ℓ c h) ⊢ WP c A (fun _ => iprop(Y ∗ slotAny ℓ c (par h)))) :
    iprop(ctx I K J ∗ owesX c (opt b (giveDue ℓ c h) + R) ∗ sent ℓ c h ∗ X)
      ⊢ WP c (W >>= fun _ => A >>= fun _ => onlyIf b (give (cS ℓ) (src ℓ c))) (fun _ => iprop(owesX c R ∗ lane ℓ c (h + 1) ∗ Y ∗ srcMsg I ℓ c h)) := by
  unfold sent
  iintro ⟨#Hc, HO, ⟨Hw, Hrd, Hrest⟩, HX⟩
  iapply (run_then hW) $$ [HO Hw]
  · isplitr; · iexact Hc
    isplitl [HO]; · iexact HO
    iexact Hw
  iintro %a ⟨HO, Hpost⟩
  unfold waitPost
  icases Hpost with ⟨Has, #Hrs, Har, #Hrr, Hsrc, Hmsg⟩
  iapply (run_then hA) $$ [HX Hmsg]
  · isplitl [HX]; · iexact HX
    iexact Hmsg
  iintro %a' ⟨HY, Hsl⟩
  unfold rest lane
  icases Hrest with ⟨Hst1, #Hf, #Hn, Hcrd, Hhts, Hgt⟩
  by_cases hl : h < hops ℓ - 2
  · obtain rfl : b = true := hb.mpr hl
    rw [onlyIf_true]
    iapply fupd_WP
    imod (slot_back I K J ℓ c (par h) (h / 2 + 1)) $$ [Hsl Hrd] with ⟨Hrd, #Hrel⟩
    · isplitr; · iexact Hc
      isplitl [Hsl]; · iexact Hsl
      iexact Hrd
    imodintro
    ihave #Hf3 : (firsts (F := F) ℓ c (h + 3) : SP F) $$ []
    · iapply (Entails.of_eq (firsts_succ (F := F) ℓ c (h + 2)).symm)
      isplitr
      · unfold fact; rw [par_two, half_two]
        isplitr; · iexact Hrel
        iexact Hrr
      · rw [Nat.min_eq_left (show h + 2 ≤ hops ℓ by omega)]; iexact Hf
    ihave Hgt := (Entails.of_eq (ico_head hl (giveTok (F := F) ℓ c))) $$ Hgt
    icases Hgt with ⟨Hg, Hgt⟩
    ihave Hwp := (wp_give I K J ℓ c hl R) $$ [HO Hg]
    · isplitr; · iexact Hc
      isplitl [HO]; · unfold opt; rw [cond_true]; iexact HO
      isplitl [Hg]; · unfold giveTok; iexact Hg
      iexact Hf3
    iapply (wp_wand frame (wpE (defs₀ (F := F)) 𝒱₀ (c : Thread nD τ) none) Set.univ) $$ Hwp
    iintro %a2 HO
    isplitl [HO]; · iexact HO
    rw [stage_stand ℓ c (show h + 1 + 1 < hops ℓ by omega), Nat.min_eq_left (show h + 1 + 2 ≤ hops ℓ by omega)]
    unfold stand
    rw [show h + 1 + 1 = h + 2 from rfl, par_two, half_two]
    isplitr [HY Hsrc]
    · isplitl [Hst1]; · iexact Hst1
      isplitl [Has Har Hrd]
      · isplitl [Has]; · iexact Has
        isplitr; · iexact Hrs
        isplitl [Har]; · iexact Har
        iexact Hrd
      isplitr; · iexact Hf3
      isplitr; · iexact Hn
      isplitl [Hcrd]; · iexact Hcrd
      isplitl [Hhts]; · iexact Hhts
      iexact Hgt
    · isplitl [HY]; · iexact HY
      iexact Hsrc
  · obtain rfl : b = false := by rw [← Bool.not_eq_true, hb]; exact hl
    have := hops_pos ℓ
    rw [onlyIf_false]
    iapply WP_ret
    isplitl [HO]; · unfold opt; rw [cond_false, zero_add]; iexact HO
    rw [stage_spent ℓ c (show ¬ h + 1 + 1 < hops ℓ by omega), Nat.min_eq_right (show hops ℓ ≤ h + 1 + 2 by omega),
      Nat.min_eq_right (show hops ℓ ≤ h + 2 by omega), Finset.Ico_eq_empty (show ¬ h < hops ℓ - 2 by omega),
      Finset.Ico_eq_empty (show ¬ h + 1 < hops ℓ - 2 by omega)]
    unfold spent
    rw [show h + 1 + 1 = h + 2 from rfl, par_two, half_two]
    isplitr [HY Hsrc]
    · isplitl [Hst1]; · iexact Hst1
      isplitl [Has Har Hsl]
      · isplitl [Has]; · iexact Has
        isplitl [Har]; · iexact Har
        iexact Hsl
      isplitr; · iexact Hf
      isplitr; · iexact Hn
      isplitl [Hcrd]; · iexact Hcrd
      isplitl [Hhts]; · iexact Hhts
      iexact Hgt
    · isplitl [HY]; · iexact HY
      iexact Hsrc

end Cert.KernelIdeal.Gen

end
-- ==== Proof.Step.lean ====
/-
  One step of a phase, both lanes: what each fragment does to its own lane makes what the step does.
-/
module

public import proofs.«01_k».proof.Proof.Lane

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

section

variable (p : Bool) (c : Dev nD) (S W A : Bool → KP F PUnit) (X Y : Bool → SP F) (h : ℕ)

/-- A step of either phase, from its sends, its waits and its uses of what came. -/
def genStep : KP F PUnit := do
  onlyIf (Nat.ble 2 h) (take (cS (p, false)))
  onlyIf (Nat.ble 2 h && Nat.ble h 14) (take (cS (p, true)))
  S false
  onlyIf (Nat.ble h 14) (S true)
  W false
  A false
  onlyIf (Nat.ble h 13) (give (cS (p, false)) (src (p, false) c))
  onlyIf (Nat.ble h 14) (W true)
  onlyIf (Nat.ble h 14) (A true)
  onlyIf (Nat.ble h 12) (give (cS (p, true)) (src (p, true) c))

/-- What is asked of a fragment that sends, of one that waits, and of one that uses a message. -/
def SendOK (ℓ : Lane) (S : KP F PUnit) : Prop := ∀ R : CellTallies nD τ sig ℕ,
  iprop(ctx I K J ∗ owesX c (sendDue ℓ c h + R) ∗ sendPre I ℓ c h) ⊢ WP c S (fun _ => iprop(owesX c R ∗ sendPost ℓ c h))
@[inherit_doc SendOK] def WaitOK (ℓ : Lane) (W : KP F PUnit) : Prop := ∀ O : CellTallies nD τ sig ℕ, Above (stR ℓ h) O →
  iprop(ctx I K J ∗ owesX c O ∗ waitPre ℓ c h) ⊢ WP c W (fun _ => iprop(owesX c O ∗ waitPost I ℓ c h))
@[inherit_doc SendOK] def UseOK (ℓ : Lane) (X Y : SP F) (A : KP F PUnit) : Prop :=
  iprop(X ∗ slotMsg I ℓ c h) ⊢ WP c A (fun _ => iprop(Y ∗ slotAny ℓ c (par h)))

theorem stC_le {j h : ℕ} (ℓ : Lane) (hj : j + 2 = h) : stC ℓ j < stR ℓ h := by unfold stC stR; omega
theorem stR_stC (ℓ : Lane) (h : ℕ) : stR ℓ h < stC ℓ h := by unfold stC stR; omega

/-- A step in which both lanes send. -/
theorem step_both (hh : h ≤ 14) {R : CellTallies nD τ sig ℕ} (hR : Above (stC (p, false) h) R)
    (hS : ∀ d, SendOK I K J c h (p, d) (S d)) (hW : ∀ d, WaitOK I K J c h (p, d) (W d)) (hA : ∀ d, UseOK I c h (p, d) (X d) (Y d) (A d)) :
    iprop(ctx I K J ∗ owesX c (stepDue p c h + R)
        ∗ (lane (p, false) c h ∗ srcMsg I (p, false) c h ∗ X false) ∗ (lane (p, true) c h ∗ srcMsg I (p, true) c h ∗ X true))
      ⊢ WP c (genStep p c S W A h) (fun _ => iprop(owesX c R
        ∗ (lane (p, false) c (h + 1) ∗ Y false ∗ srcMsg I (p, false) c h) ∗ (lane (p, true) c (h + 1) ∗ Y true ∗ srcMsg I (p, true) c h))) := by
  have hl (d : Bool) : h < hops (p, d) := by have := hops_pos (p, d); omega
  have b14 : Nat.ble h 14 = true := Nat.ble_eq.mpr hh
  have g0 : Nat.ble h 13 = true ↔ h < hops (p, false) - 2 := by rw [Nat.ble_eq]; show h ≤ 13 ↔ h < 14; omega
  have g1 : Nat.ble h 12 = true ↔ h < hops (p, true) - 2 := by rw [Nat.ble_eq]; show h ≤ 12 ↔ h < 13; omega
  have aR (d : Bool) : Above (stR (p, d) h) R := above_mono hR (le_of_lt (stR_stC (p, d) h))
  have aG (d : Bool) (b : Bool) : Above (stR (p, d) h) (opt b (giveDue (p, d) c h)) := above_opt fun _ => above_give _ _ (stR_stC _ _) (by omega)
  have a1 : Above (stR (p, true) h) (opt (Nat.ble h 12) (giveDue (p, true) c h) + R) := above_add (aG true _) (aR true)
  have a0 : Above (stR (p, false) h) (opt (Nat.ble h 13) (giveDue (p, false) c h) + (opt (Nat.ble h 12) (giveDue (p, true) c h) + R)) := above_add (aG false _) a1
  have aS (d : Bool) (j : ℕ) (hj : j + 2 = h) : Above (stC (p, d) j) (stepDue p c h + R) :=
    above_add (above_step p c (stC_le (p, d) hj) (by omega)) (above_mono (aR d) (le_of_lt (stC_le (p, d) hj)))
  have eD : stepDue p c h + R = sendDue (p, false) c h + (sendDue (p, true) c h + (opt (Nat.ble h 13) (giveDue (p, false) c h) + (opt (Nat.ble h 12) (giveDue (p, true) c h) + R))) := by
    unfold stepDue; rw [b14]; unfold opt; simp only [cond_true, add_assoc]
  have eP : genStep p c S W A h = (onlyIf (Nat.ble 2 h) (take (cS (p, false))) >>= fun _ => onlyIf (Nat.ble 2 h) (take (cS (p, true))) >>= fun _ =>
      S false >>= fun _ => S true >>= fun _ => (W false >>= fun _ => A false >>= fun _ => onlyIf (Nat.ble h 13) (give (cS (p, false)) (src (p, false) c))) >>= fun _ =>
      (W true >>= fun _ => A true >>= fun _ => onlyIf (Nat.ble h 12) (give (cS (p, true)) (src (p, true) c)))) := by
    unfold genStep; simp only [b14, Bool.and_true, onlyIf_true, bind_assoc]
  rw [eP]
  iintro ⟨#Hc, HO, ⟨HL, Hm, HX⟩, HL', Hm', HX'⟩
  iapply (run_then (lane_take I K J (p, false) c (hl false) (aS false))) $$ [HO HL]
  · isplitr; · iexact Hc
    isplitl [HO]; · iexact HO
    iexact HL
  iintro %_ ⟨HO, HL⟩
  iapply (run_then (lane_take I K J (p, true) c (hl true) (aS true))) $$ [HO HL']
  · isplitr; · iexact Hc
    isplitl [HO]; · iexact HO
    iexact HL'
  iintro %_ ⟨HO, HL'⟩
  rw [eD]
  iapply (run_then (lane_send I K J (p, false) c _ (hS false _))) $$ [HO HL Hm]
  · isplitr; · iexact Hc
    isplitl [HO]; · iexact HO
    isplitl [HL]; · iexact HL
    iexact Hm
  iintro %_ ⟨HO, HL⟩
  iapply (run_then (lane_send I K J (p, true) c _ (hS true _))) $$ [HO HL' Hm']
  · isplitr; · iexact Hc
    isplitl [HO]; · iexact HO
    isplitl [HL']; · iexact HL'
    iexact Hm'
  iintro %_ ⟨HO, HL'⟩
  iapply (run_then (lane_end I K J (p, false) c (hl false) (X false) (Y false) _ g0 a0 (hW false _ a0) (hA false))) $$ [HO HL HX]
  · isplitr; · iexact Hc
    isplitl [HO]; · iexact HO
    isplitl [HL]; · iexact HL
    iexact HX
  iintro %_ ⟨HO, HL⟩
  iapply (WP_mono (lane_end I K J (p, true) c (hl true) (X true) (Y true) _ g1 a1 (hW true _ a1) (hA true))) $$ [HO HL' HX']
  · isplitr; · iexact Hc
    isplitl [HO]; · iexact HO
    isplitl [HL']; · iexact HL'
    iexact HX'
  iintro %_ ⟨HO, HL'⟩
  isplitl [HO]; · iexact HO
  isplitl [HL]; · iexact HL
  iexact HL'

/-- The last step, in which only the clockwise lane sends. -/
theorem step_last {R : CellTallies nD τ sig ℕ} (hR : Above (stC (p, false) 15) R)
    (hS : SendOK I K J c 15 (p, false) (S false)) (hW : WaitOK I K J c 15 (p, false) (W false)) (hA : UseOK I c 15 (p, false) (X false) (Y false) (A false)) :
    iprop(ctx I K J ∗ owesX c (stepDue p c 15 + R) ∗ lane (p, false) c 15 ∗ srcMsg I (p, false) c 15 ∗ X false)
      ⊢ WP c (genStep p c S W A 15) (fun _ => iprop(owesX c R ∗ lane (p, false) c 16 ∗ Y false ∗ srcMsg I (p, false) c 15)) := by
  have hl : 15 < hops (p, false) := by show 15 < 16; omega
  have g0 : false = true ↔ 15 < hops (p, false) - 2 := ⟨fun h => absurd h (by decide), fun h => absurd h (by show ¬ 15 < 14; omega)⟩
  have aR : Above (stR (p, false) 15) R := above_mono hR (le_of_lt (stR_stC (p, false) 15))
  have a0 : Above (stR (p, false) 15) (opt false (giveDue (p, false) c 15) + R) := above_add (above_zero _) aR
  have aS (j : ℕ) (hj : j + 2 = 15) : Above (stC (p, false) j) (stepDue p c 15 + R) :=
    above_add (above_step p c (stC_le (p, false) hj) (by omega)) (above_mono aR (le_of_lt (stC_le (p, false) hj)))
  have eD : stepDue p c 15 + R = sendDue (p, false) c 15 + (opt false (giveDue (p, false) c 15) + R) := by
    unfold stepDue opt; simp only [show Nat.ble 15 14 = false from rfl, show Nat.ble 15 13 = false from rfl, show Nat.ble 15 12 = false from rfl, cond_false, add_zero, zero_add]
  have eP : genStep p c S W A 15 = (onlyIf (Nat.ble 2 15) (take (cS (p, false))) >>= fun _ =>
      S false >>= fun _ => (W false >>= fun _ => A false >>= fun _ => onlyIf false (give (cS (p, false)) (src (p, false) c)))) := by
    unfold genStep
    simp only [show Nat.ble 15 14 = false from rfl, show Nat.ble 15 13 = false from rfl, show Nat.ble 15 12 = false from rfl, Bool.and_false, onlyIf_false, bind_assoc, pure_bind]
  rw [eP]
  iintro ⟨#Hc, HO, HL, Hm, HX⟩
  iapply (run_then (lane_take I K J (p, false) c hl aS)) $$ [HO HL]
  · isplitr; · iexact Hc
    isplitl [HO]; · iexact HO
    iexact HL
  iintro %_ ⟨HO, HL⟩
  rw [eD]
  iapply (run_then (lane_send I K J (p, false) c _ (hS _))) $$ [HO HL Hm]
  · isplitr; · iexact Hc
    isplitl [HO]; · iexact HO
    isplitl [HL]; · iexact HL
    iexact Hm
  iintro %_ ⟨HO, HL⟩
  iapply (WP_mono (lane_end I K J (p, false) c hl (X false) (Y false) _ g0 a0 (hW _ a0) hA)) $$ [HO HL HX]
  · isplitr; · iexact Hc
    isplitl [HO]; · iexact HO
    isplitl [HL]; · iexact HL
    iexact HX
  iintro %_ ⟨HO, HL⟩
  isplitl [HO]; · iexact HO
  iexact HL

end

end Cert.KernelIdeal.Gen

end
-- ==== Proof.Use.lean ====
/-
  Loads and stores on owned memrefs, and what each phase's fragments do with a message.
-/
module

public import proofs.«01_k».proof.Proof.Step

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

section Mem

variable (c : Dev nD) {s : Shape} {e : EltTy} {m : Memref sig .tc .vmem s e} {α : Type}

/-- Loading an owned slice. -/
theorem load_slice (r : Rect s) (hr : ∀ a, r.stride a = 1) {q : PosShare TreeShare} {X : r.shape.Idx → Elt F e} {hl : m.view.LoadsAt r.toLoadRect}
    {k : (r.shape.Idx → Elt F e) → KP F α} {Q : α → SP F} :
    (owns (c : Thread nD τ) (m.slice r hr) q X : SP F)
      ⊢ iprop((owns (c : Thread nD τ) (m.slice r hr) q X -∗ WP c (k X) Q) -∗ WP c (.op (.load m r.toLoadRect hl) k) Q) := by
  unfold owns
  iintro ⟨%f, %hf, H⟩ Hk
  iapply (wp_load_rect 𝒱₀ (c : Thread nD τ) none Set.univ (m := m) (r := r) (S := (m.slice r hr).view.set) (q := q) (f := f) (Finset.Subset.refl _)) $$ H
  iintro H
  rw [show (m.access r).read (Elt F) f = X from hf]
  iapply Hk
  iexists f
  isplitr; · ipureintro; exact hf
  iexact H

/-- Loading part of an owned memref. -/
theorem load_part (r : Rect s) {q : PosShare TreeShare} {X : s.Idx → Elt F e} {hl : m.view.LoadsAt r.toLoadRect}
    {k : (r.shape.Idx → Elt F e) → KP F α} {Q : α → SP F} :
    (owns (c : Thread nD τ) m q X : SP F)
      ⊢ iprop((owns (c : Thread nD τ) m q X -∗ WP c (k (fun j => X (r.emb j))) Q) -∗ WP c (.op (.load m r.toLoadRect hl) k) Q) := by
  unfold owns
  iintro ⟨%f, %hf, H⟩ Hk
  iapply (wp_load_rect 𝒱₀ (c : Thread nD τ) none Set.univ (m := m) (r := r) (S := m.view.set) (q := q) (f := f)
    ((View.set_slice m.view r).trans_le (View.setOn_subset_set _ _))) $$ H
  iintro H
  rw [show (m.access r).read (Elt F) f = (fun j => X (r.emb j)) by rw [← hf]; rfl]
  iapply Hk
  iexists f
  isplitr; · ipureintro; exact hf
  iexact H

/-- Storing to an owned slice. -/
theorem store_slice (r : Rect s) (hr : ∀ a, r.stride a = 1) {X : r.shape.Idx → Elt F e} {w : r.shape.Idx → Elt F e}
    {hx : (m.access r).Stores Finset.univ} {hm : (Finset.univ : Finset r.shape.Idx) = Finset.univ ∨ ∀ a, r.stride a = 1}
    {k : PUnit → KP F α} {Q : α → SP F} :
    (owns (c : Thread nD τ) (m.slice r hr) fullShare X : SP F)
      ⊢ iprop((owns (c : Thread nD τ) (m.slice r hr) fullShare w -∗ WP c (k ⟨⟩) Q) -∗ WP c (.op (.store m r w Finset.univ hx hm) k) Q) := by
  unfold owns
  iintro ⟨%f, %hf, H⟩ Hk
  iapply (wp_store 𝒱₀ (c : Thread nD τ) none Set.univ (m := m) (r := r) (w := w) (Mk := Finset.univ) (S := (m.slice r hr).view.set) (f := f) (Finset.Subset.refl _)) $$ H
  iintro H
  iapply Hk
  iexists ((m.access r).write (Elt F) f w Finset.univ)
  isplitr; · ipureintro; exact View.read_write_univ (v := m.access r) (Val := Elt F) f w
  iexact H

end Mem

variable (d : Bool) (c : Dev nD)

/-- Adding a received chunk. -/
theorem wp_rsAdd (k : Fin 2) (j : Fin 32) {o : Fin 3 → ℕ} (ho : ∀ a, o a + S1x16x1152.size a ≤ S32x16x1152.size a) (hj : o = ![j.val, 0, 0])
    (a b : Vec F S1x16x1152 .f32) :
    iprop(owns (c : Thread nD τ) (chunkM j) fullShare a ∗ owns (c : Thread nD τ) (slotAM d k) fullShare b)
      ⊢ (WP c (rsAdd accM (bufA d) o ho k) (fun _ => iprop(owns (c : Thread nD τ) (chunkM j) fullShare (k0_pay36 a b)
          ∗ owns (c : Thread nD τ) (slotAM d k) fullShare b)) : SP F) := by
  subst hj
  unfold rsAdd
  simp only [Prog.lift, Prog.bind_op, Prog.bind_ret]
  iintro ⟨Ha, Hb⟩
  iapply (load_slice c (m := accM) (rectC j) (fun _ => rfl) (X := a)) $$ Ha
  iintro Ha
  iapply (load_slice c (m := bufA d) (rectA k) (fun _ => rfl) (X := b)) $$ Hb
  iintro Hb
  iapply (load_slice c (m := accM) (rectC j) (fun _ => rfl) (X := a)) $$ Ha
  iintro Ha
  iapply (store_slice c (m := accM) (rectC j) (fun _ => rfl) (X := a)) $$ Ha
  iintro Ha
  iapply WP_ret
  isplitl [Ha]; · iexact Ha
  iexact Hb

/-- Copying received rows to the output. -/
theorem wp_agPut (k : Fin 2) (j : Fin 32) {o : Fin 2 → ℕ} (ho : ∀ a, o a + S16x1024.size a ≤ S512x1024.size a) (hj : o = ![16 * j.val, 0])
    (a : Vec F S16x1024 .f32) (b : Vec F S1x16x1024 .f32) :
    iprop(owns (c : Thread nD τ) (rowsM j) fullShare a ∗ owns (c : Thread nD τ) (slotGM d k) fullShare b)
      ⊢ (WP c (agPut outM (bufG d) o ho k) (fun _ => iprop(owns (c : Thread nD τ) (rowsM j) fullShare (k0_pay66 b)
          ∗ owns (c : Thread nD τ) (slotGM d k) fullShare b)) : SP F) := by
  subst hj
  unfold agPut
  simp only [Prog.lift, Prog.bind_op, Prog.bind_ret]
  iintro ⟨Ha, Hb⟩
  iapply (load_slice c (m := bufG d) (rectG k) (fun _ => rfl) (X := b)) $$ Hb
  iintro Hb
  iapply (load_slice c (m := outM) (rectO j) (fun _ => rfl) (X := a)) $$ Ha
  iintro Ha
  iapply (store_slice c (m := outM) (rectO j) (fun _ => rfl) (X := a)) $$ Ha
  iintro Ha
  iapply WP_ret
  isplitl [Ha]; · iexact Ha
  iexact Hb

/-! ## The phases' fragments -/

/-- Chunks not reached yet, and rows not filled yet. -/
def pend : Lane → Dev nD → ℕ → SP F
  | (false, d), c, i => owns (c : Thread nD τ) (chunkM (rsC d c i)) fullShare (part I c (rsC d c i))
  | (true, d), c, i => iprop(∃ w : Vec F S16x1024 .f32, owns (c : Thread nD τ) (rowsM (agC d c i)) fullShare w)

theorem rs_use {h : ℕ} {o : Fin 3 → ℕ} (ho : ∀ a, o a + S1x16x1152.size a ≤ S32x16x1152.size a) (hj : o = ![(rsC d c (h + 1)).val, 0, 0]) :
    UseOK I c h (false, d) (pend I (false, d) c (h + 1)) (srcMsg I (false, d) c (h + 1)) (rsAdd accM (bufA d) o ho (par h)) := by
  unfold UseOK
  rw [slotMsg_rs, srcMsg_rs, slotAny_rs]
  unfold pend
  refine (wp_rsAdd d c (par h) (rsC d c (h + 1)) ho hj _ _).trans ?_
  refine wp_mono _ _ _ fun _ => ?_
  iintro ⟨H, H'⟩
  isplitl [H]; · iexact H
  iexists _; iexact H'

/-- The clockwise lane's last message meets what the other lane carried. -/
theorem rs_use_last {o : Fin 3 → ℕ} (ho : ∀ a, o a + S1x16x1152.size a ≤ S32x16x1152.size a) (hj : o = ![(rsC true c 15).val, 0, 0]) :
    UseOK I c 15 (false, false) (srcMsg I (false, true) c 15) (owns (c : Thread nD τ) (chunkM (rsC true c 15)) fullShare (fin I c))
      (rsAdd accM (bufA false) o ho (par 15)) := by
  unfold UseOK
  rw [slotMsg_rs, srcMsg_rs, slotAny_rs]
  refine (wp_rsAdd false c (par 15) (rsC true c 15) ho hj _ _).trans ?_
  refine wp_mono _ _ _ fun _ => ?_
  iintro ⟨H, H'⟩
  isplitl [H]; · iexact H
  iexists _; iexact H'

theorem ag_use {h : ℕ} {o : Fin 2 → ℕ} (ho : ∀ a, o a + S16x1024.size a ≤ S512x1024.size a) (hj : o = ![16 * (agC d c (h + 1)).val, 0]) :
    UseOK I c h (true, d) (pend I (true, d) c (h + 1)) (srcMsg I (true, d) c (h + 1)) (agPut outM (bufG d) o ho (par h)) := by
  unfold UseOK
  rw [slotMsg_ag, srcMsg_ag, slotAny_ag]
  unfold pend
  iintro ⟨⟨%a, Ha⟩, ⟨%b, %hb, Hb⟩⟩
  iapply (WP_mono (wp_agPut d c (par h) (agC d c (h + 1)) ho hj a b)) $$ [Ha Hb]
  · isplitl [Ha]; · iexact Ha
    iexact Hb
  iintro %_ ⟨H, H'⟩
  rw [hb]
  isplitl [H]; · iexact H
  iexists _; iexact H'

theorem rs_send {h : ℕ} (hh : h < hops (false, d)) {o : Fin 3 → ℕ} (ho : ∀ a, o a + S1x16x1152.size a ≤ S32x16x1152.size a)
    (hj : o = ![(rsC d c h).val, 0, 0]) :
    SendOK I K J c h (false, d) (rsSend accM (bufA d) (sS (false, d)) (rS (false, d)) o ho (par h) (nbr (false, d) c)) :=
  fun R => wp_rsSend I K J c R d hh ho hj
theorem ag_send {h : ℕ} (hh : h < hops (true, d)) {o : Fin 2 → ℕ} (ho : ∀ a, o a + S16x1024.size a ≤ S512x1024.size a)
    (hj : o = ![16 * (agC d c h).val, 0]) :
    SendOK I K J c h (true, d) (agSend outM (bufG d) (sS (true, d)) (rS (true, d)) o ho (par h) (nbr (true, d) c)) :=
  fun R => wp_agSend I K J c R d hh ho hj
theorem rs_wait {h : ℕ} (hh : h < hops (false, d)) {o : Fin 3 → ℕ} (ho : ∀ a, o a + S1x16x1152.size a ≤ S32x16x1152.size a) :
    WaitOK I K J c h (false, d) (rsWaits accM (bufA d) (sS (false, d)) (rS (false, d)) o ho (par h)) :=
  fun O hO => wp_waits I K J (false, d) c hh hO _ _ _ _ rfl (by cases d <;> rfl)
theorem ag_wait {h : ℕ} (hh : h < hops (true, d)) {o : Fin 2 → ℕ} (ho : ∀ a, o a + S16x1024.size a ≤ S512x1024.size a) :
    WaitOK I K J c h (true, d) (agWaits outM (bufG d) (sS (true, d)) (rS (true, d)) o ho (par h)) :=
  fun O hO => wp_waits I K J (true, d) c hh hO _ _ _ _ rfl (by cases d <;> rfl)

end Cert.KernelIdeal.Gen

end
-- ==== Proof.Ring.lean ====
/-
  Both phases, step by step.
-/
module

public import proofs.«01_k».proof.Proof.Use

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

/-! ## Offsets -/

def rsO (d : Bool) (c : Dev nD) (h : ℕ) : Fin 3 → ℕ := match d with
  | false => k0_off1 c (BitVec.ofNat 32 (hop16 h).val)
  | true => k0_off2 c (BitVec.ofNat 32 (hop15 h).val)
theorem rsO_inb (d : Bool) (c : Dev nD) (h : ℕ) : ∀ a, rsO d c h a + S1x16x1152.size a ≤ S32x16x1152.size a := match d with
  | false => k0_off1_inb c (hop16 h)
  | true => k0_off2_inb c (hop15 h)
def rsP (d : Bool) (c : Dev nD) (h : ℕ) : Fin 3 → ℕ := match d with
  | false => k0_off3 c (BitVec.ofNat 32 (hop16 h).val)
  | true => k0_off4 c (BitVec.ofNat 32 (hop15 h).val)
theorem rsP_inb (d : Bool) (c : Dev nD) (h : ℕ) : ∀ a, rsP d c h a + S1x16x1152.size a ≤ S32x16x1152.size a := match d with
  | false => k0_off3_inb c (hop16 h)
  | true => k0_off4_inb c (hop15 h)
def agO (d : Bool) (c : Dev nD) (h : ℕ) : Fin 2 → ℕ := match d with
  | false => k0_off7 c (BitVec.ofNat 32 (hop16 h).val)
  | true => k0_off8 c (BitVec.ofNat 32 (hop15 h).val)
theorem agO_inb (d : Bool) (c : Dev nD) (h : ℕ) : ∀ a, agO d c h a + S16x1024.size a ≤ S512x1024.size a := match d with
  | false => k0_off7_inb c (hop16 h)
  | true => k0_off8_inb c (hop15 h)
def agP (d : Bool) (c : Dev nD) (h : ℕ) : Fin 2 → ℕ := match d with
  | false => k0_off9 c (BitVec.ofNat 32 (hop16 h).val)
  | true => k0_off10 c (BitVec.ofNat 32 (hop15 h).val)
theorem agP_inb (d : Bool) (c : Dev nD) (h : ℕ) : ∀ a, agP d c h a + S16x1024.size a ≤ S512x1024.size a := match d with
  | false => k0_off9_inb c (hop16 h)
  | true => k0_off10_inb c (hop15 h)

theorem hop16_val {h : ℕ} (hh : h < 16) : (hop16 h).val = h := Nat.mod_eq_of_lt hh
theorem hop15_val {h : ℕ} (hh : h < 15) : (hop15 h).val = h := Nat.mod_eq_of_lt hh

theorem vec3 {a b : ℕ} (h : a = b) : (![a, 0, 0] : Fin 3 → ℕ) = ![b, 0, 0] := by rw [h]
theorem vec2 {a b : ℕ} (h : a = b) : (![a, 0] : Fin 2 → ℕ) = ![b, 0] := by rw [h]

theorem rsO_eq (d : Bool) (c : Dev nD) {h : ℕ} (hh : h < hops (false, d)) : rsO d c h = ![(rsC d c h).val, 0, 0] := by
  cases d
  · refine (k0_off1_eq c (hop16 h)).trans (vec3 ?_); rw [hop16_val hh]; rfl
  · refine (k0_off2_eq c (hop15 h)).trans (vec3 ?_); rw [hop15_val hh]; rfl
theorem rsP_eq (d : Bool) (c : Dev nD) {h : ℕ} (hh : h < hops (false, d)) : rsP d c h = ![(rsC d c (h + 1)).val, 0, 0] := by
  cases d
  · refine (k0_off3_eq c (hop16 h)).trans (vec3 ?_); rw [hop16_val hh]; show (c.val + 48 - h) % 32 = (c.val + 49 - (h + 1)) % 32; congr 1; omega
  · refine (k0_off4_eq c (hop15 h)).trans (vec3 ?_); rw [hop15_val hh]; show (c.val + h + 19) % 32 = (c.val + (h + 1) + 18) % 32; congr 1
theorem agO_eq (d : Bool) (c : Dev nD) {h : ℕ} (hh : h < hops (true, d)) : agO d c h = ![16 * (agC d c h).val, 0] := by
  cases d
  · refine (k0_off7_eq c (hop16 h)).trans (vec2 ?_); rw [hop16_val hh]; rfl
  · refine (k0_off8_eq c (hop15 h)).trans (vec2 ?_); rw [hop15_val hh]; rfl
theorem agP_eq (d : Bool) (c : Dev nD) {h : ℕ} (hh : h < hops (true, d)) : agP d c h = ![16 * (agC d c (h + 1)).val, 0] := by
  cases d
  · refine (k0_off9_eq c (hop16 h)).trans (vec2 ?_); rw [hop16_val hh]; show 16 * ((c.val + 32 - h) % 32) = 16 * ((c.val + 33 - (h + 1)) % 32); congr 2; omega
  · refine (k0_off10_eq c (hop15 h)).trans (vec2 ?_); rw [hop15_val hh]; show 16 * ((c.val + h + 2) % 32) = 16 * ((c.val + (h + 1) + 1) % 32); congr 2

/-! ## The memory of a lane -/

def top : Lane → ℕ
  | (false, _) => 16
  | (true, d) => hops (true, d) + 1

/-- What lane `ℓ` holds of the chunks (or rows) before message `h`. -/
def mem (ℓ : Lane) (c : Dev nD) (h : ℕ) : SP F :=
  iprop(srcMsg I ℓ c h ∗ bigSep (Finset.Ico (h + 1) (top ℓ)) (pend I ℓ c) ∗ bigSep (Finset.range h) (srcMsg I ℓ c))

/-- Both lanes of a phase before step `h`. -/
def phase (p : Bool) (c : Dev nD) (h : ℕ) : SP F :=
  iprop((lane (p, false) c h ∗ mem I (p, false) c h) ∗ (lane (p, true) c h ∗ mem I (p, true) c h))

section

variable (c : Dev nD)

theorem mem_open (ℓ : Lane) {h : ℕ} (hh : h + 1 < top ℓ) : mem I ℓ c h = iprop(srcMsg I ℓ c h ∗ (pend I ℓ c (h + 1) ∗ bigSep (Finset.Ico (h + 2) (top ℓ)) (pend I ℓ c))
    ∗ bigSep (Finset.range h) (srcMsg I ℓ c)) := by
  unfold mem; rw [ico_head hh]
theorem mem_next (ℓ : Lane) (h : ℕ) : mem I ℓ c (h + 1) = iprop(srcMsg I ℓ c (h + 1) ∗ bigSep (Finset.Ico (h + 2) (top ℓ)) (pend I ℓ c)
    ∗ srcMsg I ℓ c h ∗ bigSep (Finset.range h) (srcMsg I ℓ c)) := by
  unfold mem; rw [bigSep_range_succ]

theorem top_le (ℓ : Lane) : 16 ≤ top ℓ := by revert ℓ; decide

/-- A step in which both lanes send, on the state of the phase. -/
theorem phase_step (p : Bool) {h : ℕ} (hh : h ≤ 14) {S W A : Bool → KP F PUnit} {R : CellTallies nD τ sig ℕ} (hR : Above (stC (p, false) h) R)
    (hS : ∀ d, SendOK I K J c h (p, d) (S d)) (hW : ∀ d, WaitOK I K J c h (p, d) (W d))
    (hA : ∀ d, UseOK I c h (p, d) (pend I (p, d) c (h + 1)) (srcMsg I (p, d) c (h + 1)) (A d)) :
    iprop(ctx I K J ∗ owesX c (stepDue p c h + R) ∗ phase I p c h) ⊢ WP c (genStep p c S W A h) (fun _ => iprop(owesX c R ∗ phase I p c (h + 1))) := by
  unfold phase
  rw [mem_open I c (p, false) (lt_of_lt_of_le (show h + 1 < 16 by omega) (top_le _)), mem_open I c (p, true) (lt_of_lt_of_le (show h + 1 < 16 by omega) (top_le _)),
    mem_next, mem_next]
  iintro ⟨#Hc, HO, ⟨HL, Hm, ⟨HX, Hps⟩, Hss⟩, HL', Hm', ⟨HX', Hps'⟩, Hss'⟩
  iapply (WP_mono (step_both I K J p c S W A (fun d => pend I (p, d) c (h + 1)) (fun d => srcMsg I (p, d) c (h + 1)) h hh hR hS hW hA)) $$ [HO HL Hm HX HL' Hm' HX']
  · isplitr; · iexact Hc
    isplitl [HO]; · iexact HO
    isplitl [HL Hm HX]
    · isplitl [HL]; · iexact HL
      isplitl [Hm]; · iexact Hm
      iexact HX
    · isplitl [HL']; · iexact HL'
      isplitl [Hm']; · iexact Hm'
      iexact HX'
  iintro %_ ⟨HO, ⟨HL, HY, Hm⟩, HL', HY', Hm'⟩
  isplitl [HO]; · iexact HO
  isplitl [HL HY Hm Hps Hss]
  · isplitl [HL]; · iexact HL
    isplitl [HY]; · iexact HY
    isplitl [Hps]; · iexact Hps
    isplitl [Hm]; · iexact Hm
    iexact Hss
  · isplitl [HL']; · iexact HL'
    isplitl [HY']; · iexact HY'
    isplitl [Hps']; · iexact Hps'
    isplitl [Hm']; · iexact Hm'
    iexact Hss'

/-- Steps one after another. -/
theorem steps_run {f : ℕ → KP F PUnit} {q : KP F PUnit} {Q : PUnit → SP F} (Φ : ℕ → SP F) : ∀ (n h : ℕ),
    (∀ i, h ≤ i → i < h + n → Φ i ⊢ WP c (f i) (fun _ => Φ (i + 1))) → Φ h ⊢ iprop((Φ (h + n) -∗ WP c q Q) -∗ WP c (steps f q n h) Q)
  | 0, h, _ => by
    iintro H Hk; unfold steps; iapply Hk; iexact H
  | n + 1, h, hf => by
    have ih := steps_run (f := f) (q := q) (Q := Q) Φ n (h + 1) fun i h1 h2 => hf i (by omega) (by omega)
    rw [show h + 1 + n = h + (n + 1) by omega] at ih
    unfold steps
    iintro H Hk
    iapply (run_then (hf h (le_refl h) (by omega))) $$ H
    iintro %_ H
    iapply ih $$ H
    iexact Hk

theorem steps_last (f : ℕ → KP F PUnit) (q : KP F PUnit) : ∀ (n h : ℕ), steps f q (n + 1) h = steps f (f (h + n) >>= fun _ => q) n h
  | 0, h => rfl
  | n + 1, h => by
    show (f h >>= fun _ => steps f q (n + 1) (h + 1)) = (f h >>= fun _ => steps f (f (h + (n + 1)) >>= fun _ => q) n (h + 1))
    rw [steps_last f q n (h + 1), show h + 1 + n = h + (n + 1) by omega]

/-- Sixteen steps of a phase: fifteen in which both lanes send, and the last. -/
theorem phase_run (p : Bool) {f : ℕ → KP F PUnit} {q : KP F PUnit} {Q : PUnit → SP F} {R : CellTallies nD τ sig ℕ} (hR : Above (stC (p, false) 15) R) (E : SP F)
    (hf : ∀ i, i ≤ 14 → ∀ R : CellTallies nD τ sig ℕ, Above (stC (p, false) i) R →
      iprop(ctx I K J ∗ owesX c (stepDue p c i + R) ∗ phase I p c i) ⊢ WP c (f i) (fun _ => iprop(owesX c R ∗ phase I p c (i + 1))))
    (hl : iprop(ctx I K J ∗ owesX c (stepDue p c 15 + R) ∗ phase I p c 15) ⊢ WP c (f 15) (fun _ => iprop(owesX c R ∗ E))) :
    iprop(ctx I K J ∗ owesX c (restDue p c 16 0 + R) ∗ phase I p c 0) ⊢ iprop((iprop(owesX c R ∗ E) -∗ WP c q Q) -∗ WP c (steps f q 16 0) Q) := by
  have hst {i : ℕ} (hi : i ≤ 14) : restDue p c (16 - i) i = stepDue p c i + restDue p c (16 - (i + 1)) (i + 1) := by
    rw [show 16 - i = (16 - (i + 1)) + 1 by omega]; rfl
  have hs (i : ℕ) (h0 : 0 ≤ i) (hi : i < 0 + 15) : iprop(ctx I K J ∗ owesX c (restDue p c (16 - i) i + R) ∗ phase I p c i)
      ⊢ WP c (f i) (fun _ => iprop(ctx I K J ∗ owesX c (restDue p c (16 - (i + 1)) (i + 1) + R) ∗ phase I p c (i + 1))) := by
    have hi' : i ≤ 14 := by omega
    have ha : Above (stC (p, false) i) (restDue p c (16 - (i + 1)) (i + 1) + R) :=
      above_add (above_rest p c _ (by unfold stC stR; omega) (by omega)) (above_mono hR (by unfold stC; omega))
    rw [hst hi', add_assoc]
    iintro ⟨#Hc, HO, HP⟩
    iapply (WP_mono (hf i hi' _ ha)) $$ [HO HP]
    · isplitr; · iexact Hc
      isplitl [HO]; · iexact HO
      iexact HP
    iintro %_ ⟨HO, HP⟩
    isplitr; · iexact Hc
    isplitl [HO]; · iexact HO
    iexact HP
  rw [steps_last f q 15 0]
  refine (steps_run (q := f (0 + 15) >>= fun _ => q) (Q := Q) c (fun i => iprop(ctx I K J ∗ owesX c (restDue p c (16 - i) i + R) ∗ phase I p c i)) 15 0 hs).trans ?_
  iintro Hrun Hk
  iapply Hrun
  iintro ⟨#Hc, HO, HP⟩
  iapply (run_then hl) $$ [HO HP]
  · isplitr; · iexact Hc
    isplitl [HO]
    · rw [show restDue p c (16 - (0 + 15)) (0 + 15) = stepDue p c 15 + 0 from rfl, add_zero]; iexact HO
    iexact HP
  iintro %_ H
  iapply Hk; iexact H

/-! ## The two phases' programs -/

abbrev rsStepAt (h : ℕ) : KP F PUnit :=
  rsStep c accM (bufA false) (bufA true) (sS (false, false)) (rS (false, false)) (sS (false, true)) (rS (false, true)) (cS (false, false)) (cS (false, true)) h
abbrev agStepAt (h : ℕ) : KP F PUnit :=
  agStep c outM (bufG false) (bufG true) (sS (true, false)) (rS (true, false)) (sS (true, true)) (rS (true, true)) (cS (true, false)) (cS (true, true)) h

def rsS (h : ℕ) (d : Bool) : KP F PUnit := rsSend accM (bufA d) (sS (false, d)) (rS (false, d)) (rsO d c h) (rsO_inb d c h) (par h) (nbr (false, d) c)
def rsW (h : ℕ) (d : Bool) : KP F PUnit := rsWaits accM (bufA d) (sS (false, d)) (rS (false, d)) (rsO d c h) (rsO_inb d c h) (par h)
def rsA (h : ℕ) (d : Bool) : KP F PUnit := rsAdd accM (bufA d) (rsP d c h) (rsP_inb d c h) (par h)
def agS (h : ℕ) (d : Bool) : KP F PUnit := agSend outM (bufG d) (sS (true, d)) (rS (true, d)) (agO d c h) (agO_inb d c h) (par h) (nbr (true, d) c)
def agW (h : ℕ) (d : Bool) : KP F PUnit := agWaits outM (bufG d) (sS (true, d)) (rS (true, d)) (agO d c h) (agO_inb d c h) (par h)
def agA (h : ℕ) (d : Bool) : KP F PUnit := agPut outM (bufG d) (agP d c h) (agP_inb d c h) (par h)

theorem rsStep_eq (h : ℕ) : rsStepAt (F := F) c h = genStep false c (rsS c h) (rsW c h) (rsA c h) h := rfl
theorem agStep_eq (h : ℕ) : agStepAt (F := F) c h = genStep true c (agS c h) (agW c h) (agA c h) h := rfl

theorem lt_hops {i : ℕ} (hi : i ≤ 14) (ℓ : Lane) : i < hops ℓ := by have := hops_pos ℓ; omega

/-- After the reduce-scatter: both lanes over, the chunks sent, and the finished chunk. -/
def rsEnd : SP F :=
  iprop((lane (false, false) c 16 ∗ bigSep (Finset.range 16) (srcMsg I (false, false) c)) ∗ (lane (false, true) c 15 ∗ bigSep (Finset.range 15) (srcMsg I (false, true) c))
    ∗ owns (c : Thread nD τ) (chunkM (rsC true c 15)) fullShare (fin I c))
/-- After the all-gather. -/
def agEnd : SP F :=
  iprop((lane (true, false) c 16 ∗ bigSep (Finset.range 17) (srcMsg I (true, false) c)) ∗ (lane (true, true) c 15 ∗ bigSep (Finset.range 16) (srcMsg I (true, true) c)))

/-- The reduce-scatter. -/
theorem rs_run {q : KP F PUnit} {Q : PUnit → SP F} {R : CellTallies nD τ sig ℕ} (hR : Above (stC (false, false) 15) R) :
    iprop(ctx I K J ∗ owesX c (restDue false c 16 0 + R) ∗ phase I false c 0)
      ⊢ iprop((iprop(owesX c R ∗ rsEnd I c) -∗ WP c q Q) -∗ WP c (steps (rsStepAt c) q 16 0) Q) := by
  refine phase_run I K J c false hR (rsEnd I c) (fun i hi R hR => ?_) ?_
  · rw [rsStep_eq]
    exact phase_step I K J c false hi hR (fun d => rs_send I K J d c (lt_hops hi _) _ (rsO_eq d c (lt_hops hi _)))
      (fun d => rs_wait I K J d c (lt_hops hi _) _) (fun d => rs_use I d c _ (rsP_eq d c (lt_hops hi _)))
  · have h15 : 15 < hops (false, false) := by decide
    rw [rsStep_eq]
    unfold phase rsEnd mem
    rw [bigSep_range_succ 15 (srcMsg I (false, false) c)]
    iintro ⟨#Hc, HO, ⟨HL, Hm, -, Hss⟩, HL', Hm', -, Hss'⟩
    iapply (WP_mono (step_last I K J false c (rsS c 15) (rsW c 15) (rsA c 15) (fun _ => srcMsg I (false, true) c 15)
      (fun _ => owns (c : Thread nD τ) (chunkM (rsC true c 15)) fullShare (fin I c)) hR (rs_send I K J false c h15 _ (rsO_eq false c h15)) (rs_wait I K J false c h15 _)
      (rs_use_last I c _ ((rsP_eq false c h15).trans (vec3 (by show (c.val + 49 - 16) % 32 = (c.val + 15 + 18) % 32; congr 1)))))) $$ [HO HL Hm Hm']
    · isplitr; · iexact Hc
      isplitl [HO]; · iexact HO
      isplitl [HL]; · iexact HL
      isplitl [Hm]; · iexact Hm
      iexact Hm'
    iintro %_ ⟨HO, HL, HY, Hm⟩
    isplitl [HO]; · iexact HO
    isplitl [HL Hm Hss]
    · isplitl [HL]; · iexact HL
      isplitl [Hm]; · iexact Hm
      iexact Hss
    isplitl [HL' Hss']
    · isplitl [HL']; · iexact HL'
      iexact Hss'
    iexact HY

/-- The all-gather. -/
theorem ag_run {q : KP F PUnit} {Q : PUnit → SP F} {R : CellTallies nD τ sig ℕ} (hR : Above (stC (true, false) 15) R) :
    iprop(ctx I K J ∗ owesX c (restDue true c 16 0 + R) ∗ phase I true c 0)
      ⊢ iprop((iprop(owesX c R ∗ agEnd I c) -∗ WP c q Q) -∗ WP c (steps (agStepAt c) q 16 0) Q) := by
  refine phase_run I K J c true hR (agEnd I c) (fun i hi R hR => ?_) ?_
  · rw [agStep_eq]
    exact phase_step I K J c true hi hR (fun d => ag_send I K J d c (lt_hops hi _) _ (agO_eq d c (lt_hops hi _)))
      (fun d => ag_wait I K J d c (lt_hops hi _) _) (fun d => ag_use I d c _ (agP_eq d c (lt_hops hi _)))
  · have h15 : 15 < hops (true, false) := by decide
    rw [agStep_eq]
    unfold phase agEnd
    rw [mem_open I c (true, false) (show 15 + 1 < top (true, false) by decide)]
    unfold mem
    rw [bigSep_range_succ 16 (srcMsg I (true, false) c), bigSep_range_succ 15 (srcMsg I (true, false) c), bigSep_range_succ 15 (srcMsg I (true, true) c)]
    iintro ⟨#Hc, HO, ⟨HL, Hm, ⟨HX, -⟩, Hss⟩, HL', Hm', -, Hss'⟩
    iapply (WP_mono (step_last I K J true c (agS c 15) (agW c 15) (agA c 15) (fun _ => pend I (true, false) c 16)
      (fun _ => srcMsg I (true, false) c 16) hR (ag_send I K J false c h15 _ (agO_eq false c h15)) (ag_wait I K J false c h15 _)
      (ag_use I false c _ (agP_eq false c h15)))) $$ [HO HL Hm HX]
    · isplitr; · iexact Hc
      isplitl [HO]; · iexact HO
      isplitl [HL]; · iexact HL
      isplitl [Hm]; · iexact Hm
      iexact HX
    iintro %_ ⟨HO, HL, HY, Hm⟩
    isplitl [HO]; · iexact HO
    isplitl [HL Hm Hss HY]
    · isplitl [HL]; · iexact HL
      isplitl [HY]; · iexact HY
      isplitl [Hm]; · iexact Hm
      iexact Hss
    · isplitl [HL']; · iexact HL'
      isplitl [Hm']; · iexact Hm'
      iexact Hss'

end

end Cert.KernelIdeal.Gen

end
-- ==== Proof.Edge.lean ====
/-
  Before and after the steps: the handshake with the neighbours, a lane's first slots given away, and its cells closed.
-/
module

public import proofs.«01_k».proof.Proof.Ring

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

variable (c : Dev nD)

/-! ## The handshake -/

/-- What the handshake uses: the rights to pay the neighbours' barriers, this device's position on its own and the credit for it. -/
def barTok : SP F :=
  iprop(dutyTok ER (cell (leftOf c) kBar) 0 1 ∗ dutyTok ER (cell (rightOf c) kBar) 0 0 ∗ atPos ER (cell c kBar) 0 ∅ 0
    ∗ cred (tallyAt (cell c kBar) 1 2))

/-- Every lane's first two facts, of this device and of the neighbours its lanes send to. -/
def allFirsts (e : Lane → Dev nD) : SP F :=
  iprop(firsts (false, false) (e (false, false)) 2 ∗ firsts (true, false) (e (true, false)) 2
    ∗ firsts (false, true) (e (false, true)) 2 ∗ firsts (true, true) (e (true, true)) 2)

instance allFirsts_persistent (e : Lane → Dev nD) : BI.Persistent (allFirsts (F := F) e) := by unfold allFirsts; infer_instance

theorem pay_bar_left : allFirsts (fun _ => c) ⊢ (Rd I).payload ((leftOf c : Thread nD τ), .reg barS) 0 1 := by
  rw [show (Rd I).payload ((leftOf c : Thread nD τ), .reg barS) 0 1 = (Rd I).payload (cell (leftOf c) kBar) 0 1 from rfl]
  rw [Rd_payload_bar]; unfold barPay allFirsts
  rw [show nbr (false, decide (1 = 0)) (leftOf c) = c from right_left c, show nbr (true, decide (1 = 0)) (leftOf c) = c from right_left c]
  iintro ⟨H1, H2, -, -⟩
  isplitl [H1]; · iexact H1
  iexact H2
theorem pay_bar_right : allFirsts (fun _ => c) ⊢ (Rd I).payload ((rightOf c : Thread nD τ), .reg barS) 0 0 := by
  rw [show (Rd I).payload ((rightOf c : Thread nD τ), .reg barS) 0 0 = (Rd I).payload (cell (rightOf c) kBar) 0 0 from rfl]
  rw [Rd_payload_bar]; unfold barPay allFirsts
  rw [show nbr (false, decide (0 = 0)) (rightOf c) = c from left_right c, show nbr (true, decide (0 = 0)) (rightOf c) = c from left_right c]
  iintro ⟨-, -, H1, H2⟩
  isplitl [H1]; · iexact H1
  iexact H2
theorem got_bar : (bigSep ((Rd I).duties (cell c kBar) 0 \ ∅) fun d => (Rd I).payload (cell c kBar) 0 d) ⊢ allFirsts (F := F) (fun ℓ => nbr ℓ c) := by
  have e : (bigSep ((Rd I).duties (cell c kBar) 0 \ ∅) fun d => (Rd I).payload (cell c kBar) 0 d) = iprop(barPay c 0 ∗ barPay c 1) := by
    rw [Rd_duties_bar, Finset.sdiff_empty, bigSep_insert (by decide), bigSep_singleton, Rd_payload_bar, Rd_payload_bar]; rfl
  rw [e]
  unfold barPay allFirsts
  iintro ⟨⟨H1, H2⟩, H3, H4⟩
  isplitl [H3]; · iexact H3
  isplitl [H4]; · iexact H4
  isplitl [H1]; · iexact H1
  iexact H2

/-- Hand the neighbours the first two facts, and get theirs. -/
theorem wp_shake {R : CellTallies nD τ sig ℕ} (hR : Above 1 R) :
    iprop(ctx I K J ∗ owesX c (barDue c + R) ∗ allFirsts (fun _ => c) ∗ barTok c)
      ⊢ WP c (shake c) (fun _ => iprop(owesX c R ∗ allFirsts (fun ℓ => nbr ℓ c) ∗ atPos ER (cell c kBar) 1 ∅ 0)) := by
  unfold shake owesX barTok barDue
  simp only [semSignalWord, semWaitWord, Prog.lift, Prog.bind_op, Prog.bind_ret]
  rw [add_assoc]
  iintro ⟨#Hc, ⟨%W, HO⟩, #Hf, HtL, HtR, Hat, Hcr⟩
  iapply (Rounds.wp_signal 𝒱₀ ER (Rd I) (c : Thread nD τ) none (dst := (leftOf c : Thread nD τ)) (κ := K (leftOf c, kBar))
      (d := 1) (by show 1 ∈ (Rd I).duties (cell (leftOf c) kBar) 0; rw [Rd_duties_bar]; decide)
      ((Rd_amount I (leftOf c) kBar 0 1).trans rfl) 1 (tallyAt (cell (rightOf c) kBar) 1 1 + R) (add_comm _ _)) $$ [HO HtL]
  · isplitr; · iapply (ctx_cell I K J); iexact Hc
    isplitl [HO]; · iexact HO
    isplitl [HtL]; · iexact HtL
    isplitr
    · iapply (pay_bar_left I c); iexact Hf
    · iapply (ctx_reached I K J (leftOf c) kBar); iexact Hc
  iintro HO
  iapply (Rounds.wp_signal 𝒱₀ ER (Rd I) (c : Thread nD τ) none (dst := (rightOf c : Thread nD τ)) (κ := K (rightOf c, kBar))
      (d := 0) (by show 0 ∈ (Rd I).duties (cell (rightOf c) kBar) 0; rw [Rd_duties_bar]; decide)
      ((Rd_amount I (rightOf c) kBar 0 0).trans rfl) 1 R (add_comm _ _)) $$ [HO HtR]
  · isplitr; · iapply (ctx_cell I K J); iexact Hc
    isplitl [HO]; · iexact HO
    isplitl [HtR]; · iexact HtR
    isplitr
    · iapply (pay_bar_right I c); iexact Hf
    · iapply (ctx_reached I K J (rightOf c) kBar); iexact Hc
  iintro HO
  iapply (Rounds.wp_wait_rest_token 𝒱₀ ER (Rd I) (c : Thread nD τ) none (κ := K (c, kBar)) (sm := csem kBar)
      (wpE_semWait_eq 𝒱₀ (c : Thread nD τ) none Set.univ) (Set.mem_univ _) 1 (O := R) (R := 0) (m := 0) (T := ∅)
      (by rw [Nat.zero_add]; exact (Rd_expect_bar I c).symm)) $$ [Hcr HO Hat]
  · isplitr; · iapply (ctx_cell I K J); iexact Hc
    isplitl [Hcr]; · iexact Hcr
    isplitl [HO]; · iexact HO
    isplitr; · iapply (ctx_wait I K J (by decide) hR); iexact Hc
    iexact Hat
  iintro ⟨HO, Hat, -, Hp⟩
  rw [wp_ret]
  imodintro
  isplitl [HO]; · iexists _; iexact HO
  isplitl [Hp]
  · iapply (got_bar I c); iexact Hp
  · iexact Hat

/-! ## A lane opened and closed -/

/-- What a lane starts from. -/
def laneTok (ℓ : Lane) : SP F :=
  iprop((atPos ER (cell c (kSnd ℓ 0)) 0 ∅ 0 ∗ atPos ER (cell c (kSnd ℓ 1)) 0 ∅ 0)
    ∗ (atPos ER (cell c (kRcv ℓ 0)) 0 ∅ 0 ∗ atPos ER (cell c (kRcv ℓ 1)) 0 ∅ 0)
    ∗ (readerAt EQ (c, ℓ, (0 : Fin 2)) 0 ∗ readerAt EQ (c, ℓ, (1 : Fin 2)) 0)
    ∗ atPos ER (cell c (kCrd ℓ)) 0 ∅ 0
    ∗ bigSep (Finset.range (hops ℓ)) (hopTok ℓ c) ∗ bigSep (Finset.range (hops ℓ - 2)) (giveTok ℓ c) ∗ bigSep (Finset.range (hops ℓ - 2)) (crdTok ℓ c))

/-- The same with its slots given away. -/
def laneOpen (ℓ : Lane) : SP F :=
  iprop(stand ℓ c 0 ∗ stand ℓ c 1 ∗ atPos ER (cell c (kCrd ℓ)) 0 ∅ 0
    ∗ bigSep (Finset.range (hops ℓ)) (hopTok ℓ c) ∗ bigSep (Finset.range (hops ℓ - 2)) (giveTok ℓ c) ∗ bigSep (Finset.range (hops ℓ - 2)) (crdTok ℓ c))

theorem lane_open (ℓ : Lane) : iprop(ctx I K J ∗ slotAny ℓ c 0 ∗ slotAny ℓ c 1 ∗ laneTok c ℓ) ⊢ (|={Set.univ}=> (laneOpen c ℓ ∗ firsts ℓ c 2) : SP F) := by
  unfold laneTok laneOpen stand
  rw [firsts_succ, firsts_succ]
  unfold fact
  iintro ⟨#Hc, Hs0, Hs1, ⟨HS0, HS1⟩, ⟨HV0, HV1⟩, ⟨Hr0, Hr1⟩, Hcrd, Hh, Hg, Hcr⟩
  imod (slot_back I K J ℓ c 0 0) $$ [Hs0 Hr0] with ⟨Hr0, #Hl0⟩
  · isplitr; · iexact Hc
    isplitl [Hs0]; · iexact Hs0
    iexact Hr0
  imod (slot_back I K J ℓ c 1 0) $$ [Hs1 Hr1] with ⟨Hr1, #Hl1⟩
  · isplitr; · iexact Hc
    isplitl [Hs1]; · iexact Hs1
    iexact Hr1
  imodintro
  isplitl [HS0 HS1 HV0 HV1 Hr0 Hr1 Hcrd Hh Hg Hcr]
  · isplitl [HS0 HV0 Hr0]
    · isplitl [HS0]; · iexact HS0
      isplitr; · iapply (ctx_reached I K J c (kSnd ℓ 0)); iexact Hc
      isplitl [HV0]; · iexact HV0
      iexact Hr0
    isplitl [HS1 HV1 Hr1]
    · isplitl [HS1]; · iexact HS1
      isplitr; · iapply (ctx_reached I K J c (kSnd ℓ 1)); iexact Hc
      isplitl [HV1]; · iexact HV1
      iexact Hr1
    isplitl [Hcrd]; · iexact Hcrd
    isplitl [Hh]; · iexact Hh
    isplitl [Hg]; · iexact Hg
    iexact Hcr
  · isplitr
    · isplitr; · iexact Hl1
      iapply (ctx_reached I K J c (kRcv ℓ 1)); iexact Hc
    isplitr
    · isplitr; · iexact Hl0
      iapply (ctx_reached I K J c (kRcv ℓ 0)); iexact Hc
    unfold firsts
    rw [Finset.range_zero, bigSep_empty]
    iempintro

theorem lane_ready (ℓ : Lane) : iprop(laneOpen (F := F) c ℓ ∗ firsts ℓ c 2 ∗ firsts ℓ (nbr ℓ c) 2) ⊢ lane ℓ c 0 := by
  have hp := hops_pos ℓ
  unfold laneOpen lane crdAt crdSt
  rw [stage_stand ℓ c (show 0 < hops ℓ by omega), stage_stand ℓ c (show 0 + 1 < hops ℓ by omega), show min (0 + 2) (hops ℓ) = 2 by omega,
    show 0 - 2 = 0 from rfl, ← Finset.range_eq_Ico, ← Finset.range_eq_Ico]
  iintro ⟨⟨H0, H1, Hcrd, Hh, Hg, Hcr⟩, Hf, Hn⟩
  isplitl [H0]; · iexact H0
  isplitl [H1]; · iexact H1
  isplitl [Hf]; · iexact Hf
  isplitl [Hn]; · iexact Hn
  isplitl [Hcrd Hcr]
  · isplitl [Hcrd]
    · iexists ∅
      isplitr; · ipureintro; exact ⟨Finset.empty_subset _, Nat.zero_le _⟩
      isplitl [Hcrd]; · iexact Hcrd
      rw [bigSep_empty]; iempintro
    · iexact Hcr
  isplitl [Hh]; · iexact Hh
  iexact Hg

theorem done_snd (ℓ : Lane) (k : Fin 2) {r : ℕ} (h : hops ℓ ≤ 2 * r + k.val) (r' : ℕ) (hr : r ≤ r') : (Rd I).duties (cell c (kSnd ℓ k)) r' = ∅ := by
  rw [Rd_duties]; exact if_neg (by omega)
theorem done_rcv (ℓ : Lane) (k : Fin 2) {r : ℕ} (h : hops ℓ ≤ 2 * r + k.val) (r' : ℕ) (hr : r ≤ r') : (Rd I).duties (cell c (kRcv ℓ k)) r' = ∅ := by
  rw [Rd_duties]; exact if_neg (by omega)
theorem done_crd (ℓ : Lane) (r' : ℕ) (hr : 1 ≤ r') : (Rd I).duties (cell c (kCrd ℓ)) r' = ∅ := by
  rw [Rd_duties]; exact if_neg (by omega)
theorem done_bar (r' : ℕ) (hr : 1 ≤ r') : (Rd I).duties (cell c kBar) r' = ∅ := by
  rw [Rd_duties]; exact if_neg (by omega)

/-- A slot's send and receive cells, closed. -/
def shut (ℓ : Lane) (k : Fin 2) : SP F := iprop(semVal (cell c (kSnd ℓ k)) 0 ∗ semVal (cell c (kRcv ℓ k)) 0 ∗ slotAny ℓ c k)

theorem close_spent (ℓ : Lane) {i : ℕ} (hi : hops ℓ ≤ i) : iprop(ctx I K J ∗ spent ℓ c i) ⊢ (|={Set.univ}=> shut c ℓ (par i) : SP F) := by
  unfold spent shut
  iintro ⟨#Hc, HS, HV, Hs⟩
  imod (Rounds.cell_close ER (Rd I) (Set.mem_univ (K (c, kSnd ℓ (par i)))) (fun h => h) (R := i / 2)
    (done_snd I c ℓ (par i) (by rw [half]; exact hi))) $$ [HS] with HS
  · isplitr; · iapply (ctx_cell I K J); iexact Hc
    iexact HS
  imod (Rounds.cell_close ER (Rd I) (Set.mem_univ (K (c, kRcv ℓ (par i)))) (fun h => h) (R := i / 2)
    (done_rcv I c ℓ (par i) (by rw [half]; exact hi))) $$ [HV] with HV
  · isplitr; · iapply (ctx_cell I K J); iexact Hc
    iexact HV
  imodintro
  isplitl [HS]; · iexact HS
  isplitl [HV]; · iexact HV
  iexact Hs

theorem close_crd (ℓ : Lane) : iprop(ctx I K J ∗ crdSt ℓ c (hops ℓ - 2)) ⊢ (|={Set.univ}=> semVal (cell c (kCrd ℓ)) 0 : SP F) := by
  unfold crdSt
  iintro ⟨#Hc, ⟨%T, %hT, Hat, -⟩⟩
  have hTe : (Rd I).duties (cell c (kCrd ℓ)) 0 ⊆ T := by
    rw [Rd_duties_crd, Finset.eq_of_subset_of_card_le hT.1 (by rw [Finset.card_range]; exact hT.2)]
  imod (Rounds.fupd_skip ER (Rd I) hTe (Rd_expect_crd I ℓ c).symm (Set.mem_univ (K (c, kCrd ℓ)))) $$ [Hat] with ⟨Hat, -⟩
  · isplitr; · iapply (ctx_cell I K J); iexact Hc
    iexact Hat
  iapply (Rounds.cell_close ER (Rd I) (Set.mem_univ (K (c, kCrd ℓ))) (fun h => h) (R := 0 + 1) (done_crd I c ℓ))
  isplitr; · iapply (ctx_cell I K J); iexact Hc
  iexact Hat

theorem close_bar : iprop(ctx I K J ∗ atPos ER (cell c kBar) 1 ∅ 0) ⊢ (|={Set.univ}=> semVal (cell c kBar) 0 : SP F) := by
  iintro ⟨#Hc, Hat⟩
  iapply (Rounds.cell_close ER (Rd I) (Set.mem_univ (K (c, kBar))) (fun h => h) (R := 1) (done_bar I c))
  isplitr; · iapply (ctx_cell I K J); iexact Hc
  iexact Hat

/-- A lane's cells, all closed, and its slots. -/
def laneShut (ℓ : Lane) : SP F := iprop(shut c ℓ 0 ∗ shut c ℓ 1 ∗ semVal (cell c (kCrd ℓ)) 0)

theorem lane_shut (ℓ : Lane) : iprop(ctx I K J ∗ lane ℓ c (hops ℓ)) ⊢ (|={Set.univ}=> laneShut c ℓ : SP F) := by
  have hsw : iprop(shut (F := F) c ℓ (par (hops ℓ)) ∗ shut c ℓ (par (hops ℓ + 1))) ⊢ iprop(shut c ℓ 0 ∗ shut c ℓ 1) := by
    rcases ℓ with ⟨p, _ | _⟩
    · rw [show par (hops (p, false)) = 0 from Fin.ext (by cases p <;> decide), show par (hops (p, false) + 1) = 1 from Fin.ext (by cases p <;> decide)]
    · rw [show par (hops (p, true)) = 1 from Fin.ext (by cases p <;> decide), show par (hops (p, true) + 1) = 0 from Fin.ext (by cases p <;> decide)]
      iintro ⟨H1, H0⟩
      isplitl [H0]; · iexact H0
      iexact H1
  unfold lane crdAt laneShut
  rw [stage_spent ℓ c (lt_irrefl _), stage_spent ℓ c (show ¬ hops ℓ + 1 < hops ℓ by omega)]
  iintro ⟨#Hc, H0, H1, -, -, ⟨Hcr, -⟩, -, -⟩
  imod (close_spent I K J c ℓ (le_refl _)) $$ [H0] with H0
  · isplitr; · iexact Hc
    iexact H0
  imod (close_spent I K J c ℓ (Nat.le_succ _)) $$ [H1] with H1
  · isplitr; · iexact Hc
    iexact H1
  imod (close_crd I K J c ℓ) $$ [Hcr] with Hcr
  · isplitr; · iexact Hc
    iexact Hcr
  imodintro
  ihave H := hsw $$ [H0 H1]
  · isplitl [H0]; · iexact H0
    iexact H1
  icases H with ⟨H0, H1⟩
  isplitl [H0]; · iexact H0
  isplitl [H1]; · iexact H1
  iexact Hcr

end Cert.KernelIdeal.Gen

end
-- ==== Proof.Split.lean ====
/-
  The buffers cut into the pieces that the two lanes of a phase hold, and put together again.
-/
module

public import Idealize.ShloMosaic.Lib.SparseCore.Launch
public import Idealize.ShloMosaic.Lib.StableHlo.CollectiveRules
public import proofs.«01_k».proof.Proof.Ring

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F)

/-! ## Pieces of any contents -/

theorem some_intro {α : Type} (Φ : α → SP F) (a : α) : Φ a ⊢ iprop(∃ x, Φ x) := by iintro H; iexists a; iexact H

section

variable {s : Shape} {e : EltTy} {T : Type} [Fintype T] [DecidableEq T] (c : Dev nD) (m : Memref sig .tc .vmem s e) (q : PosShare TreeShare)
  (r : T → Rect s) (hr : ∀ t a, (r t).stride a = 1) (hd : ∀ t t', t ≠ t' → Disjoint (r t).set (r t').set)
  (hcov : (Finset.univ : Finset T).biUnion (fun t => (r t).set) = Finset.univ)

include hd in
/-- Contents that restrict to given ones on disjoint rectangles. -/
theorem glue {α : Type} [Nonempty α] (y : ∀ t, (r t).shape.Idx → α) : ∃ X : s.Idx → α, ∀ t, (fun j => X ((r t).emb j)) = y t := by
  classical
  refine ⟨fun i => if h : ∃ t j, (r t).emb j = i then y h.choose h.choose_spec.choose else Classical.arbitrary α, fun t => funext fun j => ?_⟩
  have h : ∃ t' j', (r t').emb j' = (r t).emb j := ⟨t, j, rfl⟩
  refine (dif_pos h).trans ?_
  have hs := h.choose_spec.choose_spec
  generalize h.choose_spec.choose = j' at hs
  generalize h.choose = t' at j' hs
  have ht : t' = t := by
    by_contra hne
    have h1 : (r t).emb j ∈ (r t').set := by rw [← hs, ← Rect.map_emb_univ]; exact Finset.mem_map_of_mem _ (Finset.mem_univ _)
    have h2 : (r t).emb j ∈ (r t).set := by rw [← Rect.map_emb_univ]; exact Finset.mem_map_of_mem _ (Finset.mem_univ _)
    exact Finset.disjoint_left.mp (hd t' t hne) h1 h2
  subst ht
  rw [(r t').emb.injective hs]

include hd hcov in
/-- The pieces at any contents are the whole at some, -/
theorem any_join : (bigSep Finset.univ fun t => iprop(∃ w, owns (c : Thread nD τ) (m.slice (r t) (hr t)) q w)) ⊢ (iprop(∃ X, owns (c : Thread nD τ) m q X) : SP F) := by
  iintro H
  ihave H' := (BI.bigSep_exists_pi Finset.univ (fun t (w : (r t).shape.Idx → Elt F e) => (owns (c : Thread nD τ) (m.slice (r t) (hr t)) q w : SP F))) $$ H
  icases H' with ⟨%y, H⟩
  obtain ⟨X, hX⟩ := glue r hd y
  iexists X
  iapply (show (bigSep Finset.univ fun t => (owns (c : Thread nD τ) (m.slice (r t) (hr t)) q (y t) : SP F)) ⊢ owns (c : Thread nD τ) m q X from by
    rw [← bigSep_congr (fun t _ => congrArg (fun w => (owns (c : Thread nD τ) (m.slice (r t) (hr t)) q w : SP F)) (hX t))]
    exact owns_of_rects (c : Thread nD τ) m q r hr hd hcov X)
  iexact H

include hd hcov in
/-- and the whole is its pieces. -/
theorem any_cut (X : s.Idx → Elt F e) :
    (owns (c : Thread nD τ) m q X : SP F) ⊢ bigSep Finset.univ fun t => iprop(∃ w, owns (c : Thread nD τ) (m.slice (r t) (hr t)) q w) :=
  (owns_rects (c : Thread nD τ) m q r hr hd hcov X).trans (bigSep_mono fun t _ =>
    some_intro (fun w => (owns (c : Thread nD τ) (m.slice (r t) (hr t)) q w : SP F)) _)

end

/-! ## The four families of rectangles -/

theorem disC (t t' : Fin 32) (h : t ≠ t') : Disjoint (rectC t).set (rectC t').set :=
  Rect.disjoint_of_axis _ _ (0 : Fin 3) fun j (hj : j < 1) j' (hj' : j' < 1) (he : t.val + 1 * j = t'.val + 1 * j') => h (Fin.ext (by omega))
theorem disO (t t' : Fin 32) (h : t ≠ t') : Disjoint (rectO t).set (rectO t').set :=
  Rect.disjoint_of_axis _ _ (0 : Fin 2) fun j (hj : j < 16) j' (hj' : j' < 16) (he : 16 * t.val + 1 * j = 16 * t'.val + 1 * j') => h (Fin.ext (by omega))
theorem disA (t t' : Fin 2) (h : t ≠ t') : Disjoint (rectA t).set (rectA t').set :=
  Rect.disjoint_of_axis _ _ (0 : Fin 3) fun j (hj : j < 1) j' (hj' : j' < 1) (he : t.val + 1 * j = t'.val + 1 * j') => h (Fin.ext (by omega))
theorem disG (t t' : Fin 2) (h : t ≠ t') : Disjoint (rectG t).set (rectG t').set :=
  Rect.disjoint_of_axis _ _ (0 : Fin 3) fun j (hj : j < 1) j' (hj' : j' < 1) (he : t.val + 1 * j = t'.val + 1 * j') => h (Fin.ext (by omega))

theorem covers {T : Type} [Fintype T] {s : Shape} (r : T → Rect s) (f : s.Idx → T) (h : ∀ i, i ∈ (r (f i)).set) :
    (Finset.univ : Finset T).biUnion (fun t => (r t).set) = Finset.univ := by
  classical
  exact Finset.eq_univ_iff_forall.mpr fun i => Finset.mem_biUnion.mpr ⟨f i, Finset.mem_univ _, h i⟩

theorem covC : (Finset.univ : Finset (Fin 32)).biUnion (fun t => (rectC t).set) = Finset.univ :=
  covers rectC (fun i => i (0 : Fin 3)) fun i => Rect.mem_set_unit.mpr fun a => by
    have h := (i a).isLt
    fin_cases a
    · show (i (0 : Fin 3)).val ≤ (i (0 : Fin 3)).val ∧ (i (0 : Fin 3)).val < (i (0 : Fin 3)).val + 1; omega
    · exact ⟨Nat.zero_le _, (Nat.zero_add 16).symm ▸ h⟩
    · exact ⟨Nat.zero_le _, (Nat.zero_add 1152).symm ▸ h⟩
theorem covO : (Finset.univ : Finset (Fin 32)).biUnion (fun t => (rectO t).set) = Finset.univ :=
  covers rectO (fun i => ⟨(i (0 : Fin 2)).val / 16, by have h : (i (0 : Fin 2)).val < 512 := (i (0 : Fin 2)).isLt; omega⟩) fun i => Rect.mem_set_unit.mpr fun a => by
    have h := (i a).isLt
    fin_cases a
    · show 16 * ((i (0 : Fin 2)).val / 16) ≤ (i (0 : Fin 2)).val ∧ (i (0 : Fin 2)).val < 16 * ((i (0 : Fin 2)).val / 16) + 16; omega
    · exact ⟨Nat.zero_le _, (Nat.zero_add 1024).symm ▸ h⟩
theorem covA : (Finset.univ : Finset (Fin 2)).biUnion (fun t => (rectA t).set) = Finset.univ :=
  covers rectA (fun i => i (0 : Fin 3)) fun i => Rect.mem_set_unit.mpr fun a => by
    have h := (i a).isLt
    fin_cases a
    · show (i (0 : Fin 3)).val ≤ (i (0 : Fin 3)).val ∧ (i (0 : Fin 3)).val < (i (0 : Fin 3)).val + 1; omega
    · exact ⟨Nat.zero_le _, (Nat.zero_add 16).symm ▸ h⟩
    · exact ⟨Nat.zero_le _, (Nat.zero_add 1152).symm ▸ h⟩
theorem covG : (Finset.univ : Finset (Fin 2)).biUnion (fun t => (rectG t).set) = Finset.univ :=
  covers rectG (fun i => i (0 : Fin 3)) fun i => Rect.mem_set_unit.mpr fun a => by
    have h := (i a).isLt
    fin_cases a
    · show (i (0 : Fin 3)).val ≤ (i (0 : Fin 3)).val ∧ (i (0 : Fin 3)).val < (i (0 : Fin 3)).val + 1; omega
    · exact ⟨Nat.zero_le _, (Nat.zero_add 16).symm ▸ h⟩
    · exact ⟨Nat.zero_le _, (Nat.zero_add 1024).symm ▸ h⟩

theorem two (Φ : Fin 2 → SP F) : bigSep Finset.univ Φ = iprop(Φ 0 ∗ Φ 1) := bigSep_univ_eq_bigSepL [0, 1] (by decide) (by decide) Φ

/-- A lane's buffer at any contents. -/
def bufAny (ℓ : Lane) (c : Dev nD) : SP F := match ℓ with
  | (false, d) => iprop(∃ X, owns (c : Thread nD τ) (bufA d) fullShare X)
  | (true, d) => iprop(∃ X, owns (c : Thread nD τ) (bufG d) fullShare X)

theorem buf_cut (ℓ : Lane) (c : Dev nD) : bufAny (F := F) ℓ c ⊢ iprop(slotAny ℓ c 0 ∗ slotAny ℓ c 1) := by
  rcases ℓ with ⟨_ | _, d⟩
  · show iprop(∃ X, owns (c : Thread nD τ) (bufA d) fullShare X) ⊢ iprop(slotAny (false, d) c 0 ∗ slotAny (false, d) c 1)
    rw [slotAny_rs, slotAny_rs, ← two (fun k => iprop(∃ w : Vec F S1x16x1152 .f32, owns (c : Thread nD τ) (slotAM d k) fullShare w))]
    iintro ⟨%X, H⟩
    iapply (any_cut c (bufA d) fullShare rectA (fun _ _ => rfl) disA covA X); iexact H
  · show iprop(∃ X, owns (c : Thread nD τ) (bufG d) fullShare X) ⊢ iprop(slotAny (true, d) c 0 ∗ slotAny (true, d) c 1)
    rw [slotAny_ag, slotAny_ag, ← two (fun k => iprop(∃ w : Vec F S1x16x1024 .f32, owns (c : Thread nD τ) (slotGM d k) fullShare w))]
    iintro ⟨%X, H⟩
    iapply (any_cut c (bufG d) fullShare rectG (fun _ _ => rfl) disG covG X); iexact H
theorem buf_join (ℓ : Lane) (c : Dev nD) : iprop(slotAny (F := F) ℓ c 0 ∗ slotAny ℓ c 1) ⊢ bufAny ℓ c := by
  rcases ℓ with ⟨_ | _, d⟩
  · show iprop(slotAny (false, d) c 0 ∗ slotAny (false, d) c 1) ⊢ iprop(∃ X, owns (c : Thread nD τ) (bufA d) fullShare X)
    rw [slotAny_rs, slotAny_rs, ← two (fun k => iprop(∃ w : Vec F S1x16x1152 .f32, owns (c : Thread nD τ) (slotAM d k) fullShare w))]
    exact any_join c (bufA d) fullShare rectA (fun _ _ => rfl) disA covA
  · show iprop(slotAny (true, d) c 0 ∗ slotAny (true, d) c 1) ⊢ iprop(∃ X, owns (c : Thread nD τ) (bufG d) fullShare X)
    rw [slotAny_ag, slotAny_ag, ← two (fun k => iprop(∃ w : Vec F S1x16x1024 .f32, owns (c : Thread nD τ) (slotGM d k) fullShare w))]
    exact any_join c (bufG d) fullShare rectG (fun _ _ => rfl) disG covG

/-! ## Two walks that meet every chunk once -/

theorem walks {f g : ℕ → Fin 32} {s t : Finset ℕ} (hf : Set.InjOn f s) (hg : Set.InjOn g t) (hd : Disjoint (s.image f) (t.image g))
    (hc : s.image f ∪ t.image g = Finset.univ) (Φ : Fin 32 → SP F) :
    bigSep Finset.univ Φ = iprop((bigSep s fun i => Φ (f i)) ∗ bigSep t fun i => Φ (g i)) := by
  rw [← hc, bigSep_union hd, SparseCore.bigSep_image_of_injOn hf, SparseCore.bigSep_image_of_injOn hg]; rfl

theorem inj_of {f : ℕ → Fin 32} {s : Finset ℕ} (h : ∀ a ∈ s, ∀ b ∈ s, f a = f b → a = b) : Set.InjOn f s := fun a ha b hb e => h a ha b hb e

theorem rs_walks (c : Dev nD) (Φ : Fin 32 → SP F) :
    bigSep Finset.univ Φ = iprop((bigSep (Finset.range 16) fun i => Φ (rsC false c i)) ∗ bigSep (Finset.range 16) fun i => Φ (rsC true c i)) := by
  have hc : c.val < 32 := c.isLt
  refine walks (inj_of fun a ha b hb e => ?_) (inj_of fun a ha b hb e => ?_) ?_ ?_ Φ
  · have e' : (c.val + 49 - a) % 32 = (c.val + 49 - b) % 32 := congrArg Fin.val e
    rw [Finset.mem_range] at ha hb; omega
  · have e' : (c.val + a + 18) % 32 = (c.val + b + 18) % 32 := congrArg Fin.val e
    rw [Finset.mem_range] at ha hb; omega
  · exact (by decide +kernel : ∀ c : Dev nD, Disjoint ((Finset.range 16).image (rsC false c)) ((Finset.range 16).image (rsC true c))) c
  · exact (by decide +kernel : ∀ c : Dev nD, ((Finset.range 16).image (rsC false c)) ∪ ((Finset.range 16).image (rsC true c)) = Finset.univ) c

theorem ag_walks (c : Dev nD) (Φ : Fin 32 → SP F) :
    bigSep Finset.univ Φ = iprop((bigSep (Finset.range 17) fun i => Φ (agC false c i)) ∗ bigSep (Finset.Ico 1 16) fun i => Φ (agC true c i)) := by
  have hc : c.val < 32 := c.isLt
  refine walks (inj_of fun a ha b hb e => ?_) (inj_of fun a ha b hb e => ?_) ?_ ?_ Φ
  · have e' : (c.val + 33 - a) % 32 = (c.val + 33 - b) % 32 := congrArg Fin.val e
    rw [Finset.mem_range] at ha hb; omega
  · have e' : (c.val + a + 1) % 32 = (c.val + b + 1) % 32 := congrArg Fin.val e
    rw [Finset.mem_Ico] at ha hb; omega
  · exact (by decide +kernel : ∀ c : Dev nD, Disjoint ((Finset.range 17).image (agC false c)) ((Finset.Ico 1 16).image (agC true c))) c
  · exact (by decide +kernel : ∀ c : Dev nD, ((Finset.range 17).image (agC false c)) ∪ ((Finset.Ico 1 16).image (agC true c)) = Finset.univ) c

/-! ## The accumulator -/

theorem range_head {n : ℕ} (Φ : ℕ → SP F) : bigSep (Finset.range (n + 1)) Φ = iprop(Φ 0 ∗ bigSep (Finset.Ico 1 (n + 1)) Φ) := by
  rw [Finset.range_eq_Ico, ico_head (Nat.succ_pos n)]

theorem acc_cut (c : Dev nD) : (owns (c : Thread nD τ) accM fullShare (I.A c) : SP F) ⊢ iprop(mem I (false, false) c 0 ∗ mem I (false, true) c 0) := by
  refine (owns_rects (c : Thread nD τ) accM fullShare rectC (fun _ _ => rfl) disC covC (I.A c)).trans ?_
  rw [rs_walks c, range_head, range_head]
  unfold mem
  rw [Finset.range_zero, bigSep_empty, bigSep_empty]
  iintro ⟨⟨H0, Hs⟩, H0', Hs'⟩
  isplitl [H0 Hs]
  · isplitl [H0]; · rw [srcMsg_rs]; iexact H0
    isplitl [Hs]; · iexact Hs
    iempintro
  · isplitl [H0']; · rw [srcMsg_rs]; iexact H0'
    isplitl [Hs']; · iexact Hs'
    iempintro

/-- A chunk at any contents. -/
def chunkAny (c : Dev nD) (j : Fin 32) : SP F := iprop(∃ w, owns (c : Thread nD τ) (chunkM j) fullShare w)

theorem src_any (d : Bool) (c : Dev nD) (n : ℕ) : bigSep (Finset.range n) (srcMsg I (false, d) c) ⊢ bigSep (Finset.range n) fun i => chunkAny c (rsC d c i) :=
  bigSep_mono fun i _ => some_intro (fun w => (owns (c : Thread nD τ) (chunkM (rsC d c i)) fullShare w : SP F)) _

theorem acc_join (c : Dev nD) :
    iprop(bigSep (Finset.range 16) (srcMsg I (false, false) c) ∗ bigSep (Finset.range 15) (srcMsg I (false, true) c)
        ∗ owns (c : Thread nD τ) (chunkM (rsC true c 15)) fullShare (fin I c))
      ⊢ (iprop(∃ X, owns (c : Thread nD τ) accM fullShare X) : SP F) := by
  refine .trans ?_ (any_join c accM fullShare rectC (fun _ _ => rfl) disC covC)
  rw [show (bigSep Finset.univ fun t => iprop(∃ w, owns (c : Thread nD τ) (accM.slice (rectC t) (fun _ => rfl)) fullShare w)) = bigSep Finset.univ (chunkAny (F := F) c) from rfl,
    rs_walks c, bigSep_range_succ 15 (fun i => chunkAny (F := F) c (rsC true c i))]
  iintro ⟨H1, H2, H3⟩
  isplitl [H1]; · iapply (src_any I false c 16); iexact H1
  isplitl [H3]; · unfold chunkAny; iexists _; iexact H3
  iapply (src_any I true c 15); iexact H2

/-! ## The output -/

/-- The device whose rows end up at rows `j`. -/
def owner (j : Fin 32) : Dev nD := ⟨(j.val + 31) % 32, Nat.mod_lt _ (by decide)⟩

/-- The output of every device. -/
def outVal : Vec F S512x1024 .f32 := fun i =>
  rowsOf I (owner ⟨(i (0 : Fin 2)).val / 16, by have h : (i (0 : Fin 2)).val < 512 := (i (0 : Fin 2)).isLt; omega⟩)
    (fun a => match a with
      | ⟨0, _⟩ => ⟨(i (0 : Fin 2)).val % 16, Nat.mod_lt _ (by decide)⟩
      | ⟨1, _⟩ => ⟨(i (1 : Fin 2)).val, (i (1 : Fin 2)).isLt⟩)

theorem outVal_rows (j : Fin 32) : (fun k => outVal I ((rectO j).emb k)) = rowsOf I (owner j) := by
  funext k
  have h0 : (k (0 : Fin 2)).val < 16 := (k (0 : Fin 2)).isLt
  have e0 : ((rectO j).emb k (0 : Fin 2) : ℕ) = 16 * j.val + 1 * (k (0 : Fin 2)).val := rfl
  have e1 : ((rectO j).emb k (1 : Fin 2) : ℕ) = 0 + 1 * (k (1 : Fin 2)).val := rfl
  refine congrArg₂ (fun x y => rowsOf I (owner x) y) (Fin.ext ?_) ?_
  · show ((rectO j).emb k (0 : Fin 2) : ℕ) / 16 = j.val; omega
  · funext a
    fin_cases a
    · exact Fin.ext (by show ((rectO j).emb k (0 : Fin 2) : ℕ) % 16 = (k (0 : Fin 2)).val; omega)
    · exact Fin.ext (by show ((rectO j).emb k (1 : Fin 2) : ℕ) = (k (1 : Fin 2)).val; omega)

theorem msgG_rows (d : Bool) : ∀ (h : ℕ) (c : Dev nD), h ≤ 16 → msgG I d c h = rowsOf I (owner (agC d c h))
  | 0, c, _ => by
    have hc : c.val < 32 := c.isLt
    refine congrArg (rowsOf I) (Fin.ext ?_)
    cases d
    · show c.val = ((c.val + 33 - 0) % 32 + 31) % 32; omega
    · show c.val = ((c.val + 0 + 1) % 32 + 31) % 32; omega
  | h + 1, c, hh => by
    refine (msgG_rows d h (src (true, d) c) (by omega)).trans (congrArg (fun x => rowsOf I (owner x)) (Fin.ext ?_))
    have hc : c.val < 32 := c.isLt
    cases d
    · show ((leftOf c).val + 33 - h) % 32 = (c.val + 33 - (h + 1)) % 32; rw [leftOf_val]; omega
    · show ((rightOf c).val + h + 1) % 32 = (c.val + (h + 1) + 1) % 32; rw [rightOf_val]; omega

/-- Rows at any contents. -/
def rowsAny (c : Dev nD) (j : Fin 32) : SP F := iprop(∃ w, owns (c : Thread nD τ) (rowsM j) fullShare w)

/-- The output at any contents: the rows that are projected, and those that each lane will fill. -/
theorem out_cut (c : Dev nD) : (iprop(∃ X, owns (c : Thread nD τ) outM fullShare X) : SP F)
    ⊢ iprop(rowsAny c (agC false c 0) ∗ bigSep (Finset.Ico 1 17) (pend I (true, false) c) ∗ bigSep (Finset.Ico 1 16) (pend I (true, true) c)) := by
  iintro ⟨%X, H⟩
  iapply (show (owns (c : Thread nD τ) outM fullShare X : SP F) ⊢ _ from by
    refine (any_cut c outM fullShare rectO (fun _ _ => rfl) disO covO X).trans ?_
    rw [ag_walks c, range_head]
    exact sep_assoc.1) $$ H

/-- The projected rows are what both lanes send first. -/
theorem rows_share (c : Dev nD) : (owns (c : Thread nD τ) (rowsM (agC false c 0)) fullShare (rowsOf I c) : SP F)
    = iprop(srcMsg I (true, false) c 0 ∗ srcMsg I (true, true) c 0) := by
  have hj : agC true c 0 = agC false c 0 := Fin.ext (by show (c.val + 0 + 1) % 32 = (c.val + 33 - 0) % 32; omega)
  rw [srcMsg_ag, srcMsg_ag, hj, show shareOf false 0 = fullShare.left from if_pos rfl, show shareOf true 0 = fullShare.right from if_pos rfl,
    show msgG I false c 0 = rowsOf I c from rfl, show msgG I true c 0 = rowsOf I c from rfl]
  have h := owns_share (Ix := ℕ) (Name := ℕ) (U := UU) (Lvl := ℕ) (c : Thread nD τ) (rowsM (agC false c 0)) (PosShare.mem_left_op_right fullShare) (rowsOf I c)
  exact BI.equiv_iff.mp ⟨h.1, h.2⟩

theorem out_ready (c : Dev nD) :
    iprop(owns (c : Thread nD τ) (rowsM (agC false c 0)) fullShare (rowsOf I c) ∗ bigSep (Finset.Ico 1 17) (pend I (true, false) c) ∗ bigSep (Finset.Ico 1 16) (pend I (true, true) c))
      ⊢ iprop(mem I (true, false) c 0 ∗ mem I (true, true) c 0) := by
  rw [rows_share]
  unfold mem
  rw [Finset.range_zero, bigSep_empty, bigSep_empty]
  iintro ⟨⟨H0, H0'⟩, Hs, Hs'⟩
  isplitl [H0 Hs]
  · isplitl [H0]; · iexact H0
    isplitl [Hs]; · iexact Hs
    iempintro
  · isplitl [H0']; · iexact H0'
    isplitl [Hs']; · iexact Hs'
    iempintro

/-- Rows at what they hold in the end. -/
def rowsFin (c : Dev nD) (j : Fin 32) : SP F := owns (c : Thread nD τ) (rowsM j) fullShare (rowsOf I (owner j))

theorem src_fin (d : Bool) (c : Dev nD) (s : Finset ℕ) (hs : ∀ i ∈ s, 1 ≤ i ∧ i ≤ 16) :
    bigSep s (srcMsg I (true, d) c) ⊢ bigSep s fun i => rowsFin I c (agC d c i) :=
  bigSep_mono fun i hi => by
    rw [srcMsg_ag, msgG_rows I d i c (hs i hi).2, show shareOf d i = fullShare from if_neg (by have := (hs i hi).1; omega)]
    exact BI.Entails.refl _

theorem out_join (c : Dev nD) :
    iprop(bigSep (Finset.range 17) (srcMsg I (true, false) c) ∗ bigSep (Finset.range 16) (srcMsg I (true, true) c))
      ⊢ (owns (c : Thread nD τ) outM fullShare (outVal I) : SP F) := by
  refine .trans ?_ (owns_of_rects (c : Thread nD τ) outM fullShare rectO (fun _ _ => rfl) disO covO (outVal I))
  rw [show (bigSep Finset.univ fun t => (owns (c : Thread nD τ) (outM.slice (rectO t) (fun _ => rfl)) fullShare (fun j => outVal I ((rectO t).emb j)) : SP F))
      = bigSep Finset.univ (rowsFin I c) from bigSep_congr fun t _ => congrArg (fun w => (owns (c : Thread nD τ) (rowsM t) fullShare w : SP F)) (outVal_rows I t),
    ag_walks c, range_head, range_head, range_head]
  have h0 : rowsFin I c (agC false c 0) = iprop(srcMsg I (true, false) c 0 ∗ srcMsg I (true, true) c 0) := by
    rw [← rows_share]; unfold rowsFin; rw [← msgG_rows I false 0 c (by omega)]; rfl
  rw [h0]
  iintro ⟨⟨H0, Hs⟩, H0', Hs'⟩
  isplitl [H0 H0' Hs]
  · isplitl [H0 H0']
    · isplitl [H0]; · iexact H0
      iexact H0'
    · iapply (src_fin I false c (Finset.Ico 1 17) fun i hi => by rw [Finset.mem_Ico] at hi; omega); iexact Hs
  · iapply (src_fin I true c (Finset.Ico 1 16) fun i hi => by rw [Finset.mem_Ico] at hi; omega); iexact Hs'

end Cert.KernelIdeal.Gen

end
-- ==== Proof.Body.lean ====
/-
  The whole body of one device.
-/
module

public import Idealize.ShloMosaic.Lib.VecWindow
public import proofs.«01_k».proof.Proof.Edge
public import proofs.«01_k».proof.Proof.Split

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

variable (c : Dev nD)

/-! ## The attention partials and the projection -/

/-- Storing all of an owned memref. -/
theorem store_full {s : Shape} {e : EltTy} {m : Memref sig .tc .vmem s e} {α : Type} {off : Fin s.rank → ℕ} (inb : ∀ a, off a + s.size a ≤ s.size a)
    {X : s.Idx → Elt F e} {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {k : PUnit → KP F α} {Q : α → SP F} :
    (owns (c : Thread nD τ) m fullShare X : SP F)
      ⊢ iprop((owns (c : Thread nD τ) m fullShare w -∗ WP c (k ⟨⟩) Q) -∗ WP c (.op (.store m (Rect.unit off s.size inb) w Finset.univ hx hm) k) Q) := by
  unfold owns
  iintro ⟨%f, %hf, H⟩ Hk
  iapply (wp_store 𝒱₀ (c : Thread nD τ) none Set.univ (m := m) (r := Rect.unit off s.size inb) (w := w) (Mk := Finset.univ) (S := m.view.set) (f := f)
    (View.set_slice_subset _ _)) $$ H
  iintro H
  iapply Hk
  iexists ((m.access (Rect.unit off s.size inb)).write (Elt F) f w Finset.univ)
  isplitr
  · ipureintro
    funext i
    have h := congrFun (View.read_write_univ (v := m.access (Rect.unit off s.size inb)) (Val := Elt F) f w) i
    rw [← h]
    exact congrArg (m.view.read (Elt F) _) (Rect.emb_unit_full inb i).symm
  iexact H

/-- One head's keys (or values) out of a cache window's contents. -/
def headOf (X : Vec F S1x2048x8x128 .f32) (h : Fin 8) : Vec F S1x2048x1x128 .f32 := fun j =>
  X ((Rect.unit (s := S1x2048x8x128) ![0, 0, h.val, 0] S1x2048x1x128.size (head_inb h)).emb j)

theorem of8_eq {α : Type} (f : Fin 8 → α) :
    of8 (f ⟨0, by decide⟩) (f ⟨1, by decide⟩) (f ⟨2, by decide⟩) (f ⟨3, by decide⟩) (f ⟨4, by decide⟩) (f ⟨5, by decide⟩) (f ⟨6, by decide⟩) (f ⟨7, by decide⟩) = f := by
  funext i; fin_cases i <;> rfl

/-- A run of one load. -/
theorem ld_head {m : Memref sig .tc .vmem S1x2048x8x128 .f32} {q : PosShare TreeShare} {X : Vec F S1x2048x8x128 .f32} (h : Fin 8) {α : Type}
    {k : Vec F S1x2048x1x128 .f32 → KP F α} {Q : α → SP F} :
    (owns (c : Thread nD τ) m q X : SP F) ⊢ iprop((owns (c : Thread nD τ) m q X -∗ WP c (k (headOf X h)) Q) -∗ WP c (ldHead m h >>= k) Q) :=
  load_part c (m := m) (Rect.unit (s := S1x2048x8x128) ![0, 0, h.val, 0] S1x2048x1x128.size (head_inb h))

theorem load_full {s : Shape} {e : EltTy} {m : Memref sig .tc .vmem s e} {α : Type} {off : Fin s.rank → ℕ} (inb : ∀ a, off a + s.size a ≤ s.size a)
    {q : PosShare TreeShare} {X : s.Idx → Elt F e} {hl : m.view.LoadsAt (Rect.unit off s.size inb).toLoadRect}
    {k : (s.Idx → Elt F e) → KP F α} {Q : α → SP F} :
    (owns (c : Thread nD τ) m q X : SP F)
      ⊢ iprop((owns (c : Thread nD τ) m q X -∗ WP c (k X) Q) -∗ WP c (.op (.load m (Rect.unit off s.size inb).toLoadRect hl) k) Q) := by
  have h := load_part (Q := Q) c (m := m) (Rect.unit off s.size inb) (q := q) (X := X) (hl := hl) (k := k)
  rw [show (fun j => X ((Rect.unit off s.size inb).emb j)) = X from funext fun j => congrArg X (Rect.emb_unit_full inb j)] at h
  exact h

section

variable (x : Memref sig .tc .vmem S1x512x1024 .f32) (wq wo : Memref sig .tc .vmem S1024x1024 .f32) (kk vv : Memref sig .tc .vmem S1x2048x8x128 .f32)
  (qs : PosShare TreeShare) (X : Vec F S1x512x1024 .f32) (W O : Vec F S1024x1024 .f32) (KX VX : Vec F S1x2048x8x128 .f32)

/-- The windows that are only read. -/
def inputs : SP F :=
  iprop(owns (c : Thread nD τ) x qs X ∗ owns (c : Thread nD τ) wq qs W ∗ owns (c : Thread nD τ) kk qs KX ∗ owns (c : Thread nD τ) vv qs VX)

theorem wp_attend :
    iprop(inputs c x wq kk vv qs X W KX VX ∗ (∃ A, owns (c : Thread nD τ) accM fullShare A))
      ⊢ WP c (attend x wq kk vv accM) (fun _ => iprop(inputs c x wq kk vv qs X W KX VX
          ∗ owns (c : Thread nD τ) accM fullShare (partials X W (headOf KX) (headOf VX)))) := by
  rw [← of8_eq (headOf KX), ← of8_eq (headOf VX)]
  unfold inputs attend
  iintro ⟨⟨Hx, Hw, Hk, Hv⟩, ⟨%A, Ha⟩⟩
  iapply (load_full c (m := x) inb_S1x512x1024_S1x512x1024_0_0_0) $$ Hx; iintro Hx
  iapply (load_full c (m := wq) inb_S1024x1024_S1024x1024_0_0) $$ Hw; iintro Hw
  iapply (ld_head c (m := kk) _) $$ Hk; iintro Hk
  iapply (ld_head c (m := vv) _) $$ Hv; iintro Hv
  iapply (ld_head c (m := kk) _) $$ Hk; iintro Hk
  iapply (ld_head c (m := vv) _) $$ Hv; iintro Hv
  iapply (ld_head c (m := kk) _) $$ Hk; iintro Hk
  iapply (ld_head c (m := vv) _) $$ Hv; iintro Hv
  iapply (ld_head c (m := kk) _) $$ Hk; iintro Hk
  iapply (ld_head c (m := vv) _) $$ Hv; iintro Hv
  iapply (ld_head c (m := kk) _) $$ Hk; iintro Hk
  iapply (ld_head c (m := vv) _) $$ Hv; iintro Hv
  iapply (ld_head c (m := kk) _) $$ Hk; iintro Hk
  iapply (ld_head c (m := vv) _) $$ Hv; iintro Hv
  iapply (ld_head c (m := kk) _) $$ Hk; iintro Hk
  iapply (ld_head c (m := vv) _) $$ Hv; iintro Hv
  iapply (ld_head c (m := kk) _) $$ Hk; iintro Hk
  iapply (ld_head c (m := vv) _) $$ Hv; iintro Hv
  iapply (load_full c (m := accM) inb_S32x16x1152_S32x16x1152_0_0_0) $$ Ha; iintro Ha
  iapply (store_full c (m := accM) inb_S32x16x1152_S32x16x1152_0_0_0) $$ Ha; iintro Ha
  iapply WP_ret
  isplitl [Hx Hw Hk Hv]
  · isplitl [Hx]; · iexact Hx
    isplitl [Hw]; · iexact Hw
    isplitl [Hk]; · iexact Hk
    iexact Hv
  iexact Ha

theorem wp_rows (j j' : Fin 32) {o : Fin 3 → ℕ} (ho : ∀ a, o a + S1x16x1152.size a ≤ S32x16x1152.size a) (hj : o = ![j.val, 0, 0])
    {o' : Fin 2 → ℕ} (ho' : ∀ a, o' a + S16x1024.size a ≤ S512x1024.size a) (hj' : o' = ![16 * j'.val, 0]) (a : Vec F S1x16x1152 .f32) :
    iprop(owns (c : Thread nD τ) (chunkM j) fullShare a ∗ owns (c : Thread nD τ) wo qs O ∗ rowsAny c j')
      ⊢ (WP c (do
          let b : Vec F S1x16x1152 .f32 ← Prog.lift (.load accM (Rect.unit (s := S32x16x1152) o S1x16x1152.size ho).toLoadRect (View.loadsAt_vmem h_S1x16x1152))
          let w : Vec F S1024x1024 .f32 ← Prog.lift (.load wo (Rect.unit (s := S1024x1024) ![0, 0] S1024x1024.size inb_S1024x1024_S1024x1024_0_0).toLoadRect (View.loadsAt_vmem h_S1024x1024))
          let _d : Vec F S16x1024 .f32 ← Prog.lift (.load outM (Rect.unit (s := S512x1024) o' S16x1024.size ho').toLoadRect (View.loadsAt_vmem h_S16x1024))
          Prog.lift (.store outM (Rect.unit (s := S512x1024) o' S16x1024.size ho') (k0_pay65 b w) Finset.univ (View.stores_vmem_bits_univ h_S16x1024 rfl) (.inl rfl)))
          (fun _ => iprop(owns (c : Thread nD τ) (chunkM j) fullShare a ∗ owns (c : Thread nD τ) wo qs O
            ∗ owns (c : Thread nD τ) (rowsM j') fullShare (k0_pay65 a O))) : SP F) := by
  subst hj; subst hj'
  unfold rowsAny
  simp only [Prog.lift, Prog.bind_op, Prog.bind_ret]
  iintro ⟨Ha, Hw, ⟨%b, Hb⟩⟩
  iapply (load_slice c (m := accM) (rectC j) (fun _ => rfl) (X := a)) $$ Ha; iintro Ha
  iapply (load_full c (m := wo) inb_S1024x1024_S1024x1024_0_0) $$ Hw; iintro Hw
  iapply (load_slice c (m := outM) (rectO j') (fun _ => rfl) (X := b)) $$ Hb; iintro Hb
  iapply (store_slice c (m := outM) (rectO j') (fun _ => rfl) (X := b)) $$ Hb; iintro Hb
  iapply WP_ret
  isplitl [Ha]; · iexact Ha
  isplitl [Hw]; · iexact Hw
  iexact Hb

theorem wp_project :
    iprop(owns (c : Thread nD τ) (chunkM (rsC true c 15)) fullShare (fin I c) ∗ owns (c : Thread nD τ) wo qs (I.wo c) ∗ rowsAny c (agC false c 0))
      ⊢ (WP c (project c accM wo outM) (fun _ => iprop(owns (c : Thread nD τ) (chunkM (rsC true c 15)) fullShare (fin I c) ∗ owns (c : Thread nD τ) wo qs (I.wo c)
          ∗ owns (c : Thread nD τ) (rowsM (agC false c 0)) fullShare (rowsOf I c))) : SP F) :=
  wp_rows c wo qs (I.wo c) (rsC true c 15) (agC false c 0) (k0_off5_inb c)
    ((k0_off5_eq c).trans (vec3 (by show (c.val + 1) % 32 = (c.val + 15 + 18) % 32; omega))) (k0_off6_inb c)
    ((k0_off6_eq c).trans (vec2 (by show 16 * ((c.val + 1) % 32) = 16 * ((c.val + 33 - 0) % 32); omega))) (fin I c)

/-! ## The body -/

/-- The ring's ghost state of one device. -/
def ghost : SP F :=
  iprop(ctx I K J ∗ barTok c ∗ (laneTok c (false, false) ∗ laneTok c (true, false)) ∗ (laneTok c (false, true) ∗ laneTok c (true, true)))

/-- The scratch buffers at any contents. -/
def scratch : SP F :=
  iprop((∃ A, owns (c : Thread nD τ) accM fullShare A) ∗ (bufAny (false, false) c ∗ bufAny (true, false) c) ∗ (bufAny (false, true) c ∗ bufAny (true, true) c))

/-- The kernel's cells, closed. -/
def sems : SP F :=
  iprop(semVal (cell c kBar) 0 ∗ bigSep Finset.univ fun ℓ : Lane => iprop((semVal (cell c (kSnd ℓ 0)) 0 ∗ semVal (cell c (kRcv ℓ 0)) 0)
    ∗ (semVal (cell c (kSnd ℓ 1)) 0 ∗ semVal (cell c (kRcv ℓ 1)) 0) ∗ semVal (cell c (kCrd ℓ)) 0))

theorem lanes (Φ : Lane → SP F) : bigSep Finset.univ Φ = iprop((Φ (false, false) ∗ Φ (true, false)) ∗ (Φ (false, true) ∗ Φ (true, true))) := by
  rw [bigSep_univ_eq_bigSepL [(false, false), (true, false), (false, true), (true, true)] (by decide) (by decide) Φ]
  exact BI.equiv_iff.mp ⟨by
    show iprop(Φ (false, false) ∗ Φ (true, false) ∗ Φ (false, true) ∗ Φ (true, true)) ⊢ iprop((Φ (false, false) ∗ Φ (true, false)) ∗ (Φ (false, true) ∗ Φ (true, true)))
    iintro ⟨H1, H2, H3, H4⟩
    isplitl [H1 H2]
    · isplitl [H1]; · iexact H1
      iexact H2
    isplitl [H3]; · iexact H3
    iexact H4, by
    show iprop((Φ (false, false) ∗ Φ (true, false)) ∗ (Φ (false, true) ∗ Φ (true, true))) ⊢ iprop(Φ (false, false) ∗ Φ (true, false) ∗ Φ (false, true) ∗ Φ (true, true))
    iintro ⟨⟨H1, H2⟩, H3, H4⟩
    isplitl [H1]; · iexact H1
    isplitl [H2]; · iexact H2
    isplitl [H3]; · iexact H3
    iexact H4⟩

/-- Give a lane's own slots away. -/
theorem lane_begin (ℓ : Lane) : iprop(ctx I K J ∗ bufAny ℓ c ∗ laneTok c ℓ) ⊢ (|={Set.univ}=> (laneOpen c ℓ ∗ firsts ℓ c 2) : SP F) := by
  iintro ⟨#Hc, Hb, Ht⟩
  ihave Hs := (buf_cut ℓ c) $$ Hb
  icases Hs with ⟨H0, H1⟩
  iapply (lane_open I K J c ℓ)
  isplitr; · iexact Hc
  isplitl [H0]; · iexact H0
  isplitl [H1]; · iexact H1
  iexact Ht

/-- A lane's cells back, and its buffer. -/
theorem lane_finish (ℓ : Lane) : iprop(ctx I K J ∗ lane ℓ c (hops ℓ)) ⊢ (|={Set.univ}=> (bufAny ℓ c ∗ ((semVal (cell c (kSnd ℓ 0)) 0 ∗ semVal (cell c (kRcv ℓ 0)) 0)
    ∗ (semVal (cell c (kSnd ℓ 1)) 0 ∗ semVal (cell c (kRcv ℓ 1)) 0) ∗ semVal (cell c (kCrd ℓ)) 0)) : SP F) := by
  iintro H
  imod (lane_shut I K J c ℓ) $$ H with H
  unfold laneShut shut
  icases H with ⟨⟨HS0, HV0, H0⟩, ⟨HS1, HV1, H1⟩, Hcr⟩
  imodintro
  isplitl [H0 H1]
  · iapply (buf_join ℓ c)
    isplitl [H0]; · iexact H0
    iexact H1
  isplitl [HS0 HV0]
  · isplitl [HS0]; · iexact HS0
    iexact HV0
  isplitl [HS1 HV1]
  · isplitl [HS1]; · iexact HS1
    iexact HV1
  iexact Hcr

/-- What the body starts from, and what it ends with. -/
def bodyPre : SP F :=
  iprop(ghost I K J c ∗ owesX c (O₀ c) ∗ scratch c ∗ inputs c x wq kk vv qs X W KX VX ∗ owns (c : Thread nD τ) wo qs (I.wo c)
    ∗ (∃ Y, owns (c : Thread nD τ) outM fullShare Y))
@[inherit_doc bodyPre] def bodyPost : SP F :=
  iprop(owesX c 0 ∗ scratch c ∗ sems c ∗ inputs c x wq kk vv qs X W KX VX ∗ owns (c : Thread nD τ) wo qs (I.wo c)
    ∗ owns (c : Thread nD τ) outM fullShare (outVal I))

theorem above_ag : Above (stC (false, false) 15) (restDue true c 16 0) := above_rest true c 16 (by decide) (by decide)

theorem wp_body (hA : I.A c = partials X W (headOf KX) (headOf VX)) :
    bodyPre I K J c x wq wo kk vv qs X W KX VX
      ⊢ WP c (bodyOf c x wq wo kk vv outM accM (bufA false) (bufA true) (bufG false) (bufG true)
          (sS (false, false)) (rS (false, false)) (sS (false, true)) (rS (false, true)) (sS (true, false)) (rS (true, false)) (sS (true, true)) (rS (true, true))
          (cS (false, false)) (cS (false, true)) (cS (true, false)) (cS (true, true)))
          (fun _ => bodyPost I c x wq wo kk vv qs X W KX VX) := by
  unfold bodyPre bodyOf ghost scratch
  iintro ⟨⟨#Hc, Hbar, ⟨Ht1, Ht2⟩, Ht3, Ht4⟩, HO, ⟨Hacc, ⟨Hb1, Hb2⟩, Hb3, Hb4⟩, Hin, Hwo, Hout⟩
  iapply fupd_WP
  imod (lane_begin I K J c (false, false)) $$ [Hb1 Ht1] with ⟨Hl1, #Hf1⟩
  · isplitr; · iexact Hc
    isplitl [Hb1]; · iexact Hb1
    iexact Ht1
  imod (lane_begin I K J c (true, false)) $$ [Hb2 Ht2] with ⟨Hl2, #Hf2⟩
  · isplitr; · iexact Hc
    isplitl [Hb2]; · iexact Hb2
    iexact Ht2
  imod (lane_begin I K J c (false, true)) $$ [Hb3 Ht3] with ⟨Hl3, #Hf3⟩
  · isplitr; · iexact Hc
    isplitl [Hb3]; · iexact Hb3
    iexact Ht3
  imod (lane_begin I K J c (true, true)) $$ [Hb4 Ht4] with ⟨Hl4, #Hf4⟩
  · isplitr; · iexact Hc
    isplitl [Hb4]; · iexact Hb4
    iexact Ht4
  imodintro
  iapply (run_then (wp_shake I K J c (above_ring c))) $$ [HO Hbar]
  · isplitr; · iexact Hc
    isplitl [HO]; · unfold O₀; iexact HO
    isplitr
    · unfold allFirsts
      isplitr; · iexact Hf1
      isplitr; · iexact Hf2
      isplitr; · iexact Hf3
      iexact Hf4
    iexact Hbar
  iintro %_ ⟨HO, Hn, Hbar⟩
  unfold allFirsts
  icases Hn with ⟨#Hn1, #Hn2, #Hn3, #Hn4⟩
  iapply (run_then (wp_attend c x wq kk vv qs X W KX VX)) $$ [Hin Hacc]
  · isplitl [Hin]; · iexact Hin
    iexact Hacc
  iintro %_ ⟨Hin, Hacc⟩
  rw [← hA]
  ihave Hm := (acc_cut I c) $$ Hacc
  icases Hm with ⟨Hm1, Hm3⟩
  unfold ringDue
  iapply (rs_run I K J c (above_ag c)) $$ [HO Hl1 Hl3 Hm1 Hm3]
  · isplitr; · iexact Hc
    isplitl [HO]; · iexact HO
    unfold phase
    isplitl [Hl1 Hm1]
    · isplitl [Hl1]
      · iapply (lane_ready c (false, false))
        isplitl [Hl1]; · iexact Hl1
        isplitr; · iexact Hf1
        iexact Hn1
      iexact Hm1
    · isplitl [Hl3]
      · iapply (lane_ready c (false, true))
        isplitl [Hl3]; · iexact Hl3
        isplitr; · iexact Hf3
        iexact Hn3
      iexact Hm3
  unfold rsEnd
  iintro ⟨HO, ⟨Hl1, Hs1⟩, ⟨Hl3, Hs3⟩, Hfin⟩
  ihave Ho := (out_cut I c) $$ Hout
  icases Ho with ⟨Hr, Hp, Hp'⟩
  iapply (run_then (wp_project I c wo qs)) $$ [Hfin Hwo Hr]
  · isplitl [Hfin]; · iexact Hfin
    isplitl [Hwo]; · iexact Hwo
    iexact Hr
  iintro %_ ⟨Hfin, Hwo, Hr⟩
  ihave Hm := (out_ready I c) $$ [Hr Hp Hp']
  · isplitl [Hr]; · iexact Hr
    isplitl [Hp]; · iexact Hp
    iexact Hp'
  icases Hm with ⟨Hm2, Hm4⟩
  iapply (ag_run I K J c (above_zero _)) $$ [HO Hl2 Hl4 Hm2 Hm4]
  · isplitr; · iexact Hc
    isplitl [HO]; · rw [add_zero]; iexact HO
    unfold phase
    isplitl [Hl2 Hm2]
    · isplitl [Hl2]
      · iapply (lane_ready c (true, false))
        isplitl [Hl2]; · iexact Hl2
        isplitr; · iexact Hf2
        iexact Hn2
      iexact Hm2
    · isplitl [Hl4]
      · iapply (lane_ready c (true, true))
        isplitl [Hl4]; · iexact Hl4
        isplitr; · iexact Hf4
        iexact Hn4
      iexact Hm4
  unfold agEnd
  iintro ⟨HO, ⟨Hl2, Hs2⟩, Hl4, Hs4⟩
  iapply fupd_WP
  imod (close_bar I K J c) $$ [Hbar] with Hbar
  · isplitr; · iexact Hc
    iexact Hbar
  imod (lane_finish I K J c (false, false)) $$ [Hl1] with ⟨Hb1, Hz1⟩
  · isplitr; · iexact Hc
    iexact Hl1
  imod (lane_finish I K J c (true, false)) $$ [Hl2] with ⟨Hb2, Hz2⟩
  · isplitr; · iexact Hc
    iexact Hl2
  imod (lane_finish I K J c (false, true)) $$ [Hl3] with ⟨Hb3, Hz3⟩
  · isplitr; · iexact Hc
    iexact Hl3
  imod (lane_finish I K J c (true, true)) $$ [Hl4] with ⟨Hb4, Hz4⟩
  · isplitr; · iexact Hc
    iexact Hl4
  imodintro
  iapply WP_ret
  unfold bodyPost scratch sems
  rw [lanes]
  isplitl [HO]; · iexact HO
  isplitl [Hs1 Hs3 Hfin Hb1 Hb2 Hb3 Hb4]
  · isplitl [Hs1 Hs3 Hfin]
    · iapply (acc_join I c)
      isplitl [Hs1]; · iexact Hs1
      isplitl [Hs3]; · iexact Hs3
      iexact Hfin
    isplitl [Hb1 Hb2]
    · isplitl [Hb1]; · iexact Hb1
      iexact Hb2
    · isplitl [Hb3]; · iexact Hb3
      iexact Hb4
  isplitl [Hbar Hz1 Hz2 Hz3 Hz4]
  · isplitl [Hbar]; · iexact Hbar
    isplitl [Hz1 Hz2]
    · isplitl [Hz1]; · iexact Hz1
      iexact Hz2
    · isplitl [Hz3]; · iexact Hz3
      iexact Hz4
  isplitl [Hin]; · iexact Hin
  isplitl [Hwo]; · iexact Hwo
  iapply (out_join I c)
  isplitl [Hs2]; · iexact Hs2
  iexact Hs4

end

end Cert.KernelIdeal.Gen

end
-- ==== Proof.Deal.lean ====
/-
  What the launch gives each device: tokens, places in the rounds, counts of the slots, and credits.
-/
module

public import Idealize.ShloMosaic.Lib.Pipeline.Launch
public import proofs.«01_k».proof.Proof.Gen.KernelIdeal.Launch
public import proofs.«01_k».proof.Proof.Body

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ) (J : SlotKey → ℕ)

variable (c : Dev nD)

/-! ## Conjunctions over finite types -/

/-- An injective relabelling into a set. -/
theorem big_into {A B : Type} [DecidableEq A] [DecidableEq B] (f : A → B) (hf : Function.Injective f) {S : Finset A} {T : Finset B}
    (h : ∀ a ∈ S, f a ∈ T) (Φ : B → SP F) : bigSep T Φ ⊢ bigSep S (fun a => Φ (f a)) := by
  have e : bigSep (S.map ⟨f, hf⟩) Φ = bigSep S (fun a => Φ (f a)) := BI.bigSep_map ⟨f, hf⟩
  refine BIBase.Entails.trans (BI.bigSep_subset (s := T) (t := S.map ⟨f, hf⟩) ?_) (Entails.of_eq e)
  intro b hb
  obtain ⟨a, ha, rfl⟩ := Finset.mem_map.mp hb
  exact h a ha

theorem big_range {n : ℕ} (hn : n ≤ 16) (Φ : ℕ → SP F) : bigSep Finset.univ (fun h : Fin 16 => Φ h.val) ⊢ bigSep (Finset.range n) Φ := by
  have e : bigSep (Finset.univ.map (Fin.valEmbedding (n := 16))) Φ = bigSep Finset.univ (fun h : Fin 16 => Φ h.val) := BI.bigSep_map _
  refine BIBase.Entails.trans (Entails.of_eq e.symm) (BI.bigSep_subset ?_)
  intro x hx
  exact Finset.mem_map.mpr ⟨⟨x, lt_of_lt_of_le (Finset.mem_range.mp hx) hn⟩, Finset.mem_univ _, rfl⟩

theorem big_two (Φ : Fin 2 → SP F) : bigSep Finset.univ Φ = iprop(Φ 0 ∗ Φ 1) := bigSep_univ_eq_bigSepL [0, 1] (by decide) (by decide) Φ
theorem big_bool (Φ : Bool → SP F) : bigSep Finset.univ Φ = iprop(Φ false ∗ Φ true) := bigSep_univ_eq_bigSepL [false, true] (by decide) (by decide) Φ

/-- Over the cells of a device. -/
theorem big_cells (Φ : CK → SP F) :
    bigSep Finset.univ Φ = iprop(Φ kBar ∗ bigSep Finset.univ (fun ℓ => iprop(Φ (kSnd ℓ 0) ∗ Φ (kSnd ℓ 1)))
      ∗ bigSep Finset.univ (fun ℓ => iprop(Φ (kRcv ℓ 0) ∗ Φ (kRcv ℓ 1))) ∗ bigSep Finset.univ (fun ℓ => Φ (kCrd ℓ))) := by
  rw [BI.bigSep_univ_sum, BI.bigSep_univ_sum, BI.bigSep_univ_sum, BI.bigSep_univ_prod (α := Lane) (β := Fin 2), BI.bigSep_univ_prod (α := Lane) (β := Fin 2),
    bigSep_univ_eq_bigSepL [()] (by decide) (by decide)]
  simp only [big_two]
  rfl

theorem big_mono {A : Type} {S : Finset A} {Φ Ψ : A → SP F} (h : ∀ a, Φ a ⊢ Ψ a) : bigSep S Φ ⊢ bigSep S Ψ := bigSep_mono fun a _ => h a
theorem big_sub {A : Type} [DecidableEq A] {S T : Finset A} (h : T ⊆ S) (Φ : A → SP F) : bigSep S Φ ⊢ bigSep T Φ := BI.bigSep_subset h

/-! ## The tokens, by who pays -/

abbrev PTok : Type := Bool ⊕ (Lane × Fin 16) ⊕ (Lane × Fin 16) ⊕ (Lane × Fin 16)

theorem big_toks (Φ : PTok → SP F) :
    bigSep Finset.univ Φ = iprop((Φ (.inl false) ∗ Φ (.inl true)) ∗ bigSep Finset.univ (fun ℓ : Lane => bigSep Finset.univ fun h : Fin 16 => Φ (.inr (.inl (ℓ, h))))
      ∗ bigSep Finset.univ (fun ℓ : Lane => bigSep Finset.univ fun h : Fin 16 => Φ (.inr (.inr (.inl (ℓ, h)))))
      ∗ bigSep Finset.univ (fun ℓ : Lane => bigSep Finset.univ fun h : Fin 16 => Φ (.inr (.inr (.inr (ℓ, h)))))) := by
  rw [BI.bigSep_univ_sum, BI.bigSep_univ_sum, BI.bigSep_univ_sum, BI.bigSep_univ_prod (α := Lane) (β := Fin 16), BI.bigSep_univ_prod (α := Lane) (β := Fin 16),
    BI.bigSep_univ_prod (α := Lane) (β := Fin 16), big_bool]
  rfl

/-- Whose cell device `c` pays, and which cell, round and duty. -/
def tokDev : PTok → (Dev nD ≃ Dev nD)
  | .inl b => ringE (false, b)
  | .inr (.inl (ℓ, _)) => ringE ℓ
  | .inr (.inr (.inl _)) => Equiv.refl _
  | .inr (.inr (.inr (ℓ, _))) => (ringE ℓ).symm
@[inherit_doc tokDev] def tokKey : PTok → CK × ℕ × ℕ
  | .inl b => (kBar, 0, bif b then 1 else 0)
  | .inr (.inl (ℓ, h)) => (kRcv ℓ (par h.val), h.val / 2, 0)
  | .inr (.inr (.inl (ℓ, h))) => (kSnd ℓ (par h.val), h.val / 2, 0)
  | .inr (.inr (.inr (ℓ, h))) => (kCrd ℓ, 0, h.val)

/-- The token back from its cell, round and duty. -/
def keyTok : CK × ℕ × ℕ → PTok
  | (kBar, _, d) => .inl (Nat.beq d 1)
  | (kRcv ℓ k, r, _) => .inr (.inl (ℓ, ⟨(2 * r + k.val) % 16, Nat.mod_lt _ (by decide)⟩))
  | (kSnd ℓ k, r, _) => .inr (.inr (.inl (ℓ, ⟨(2 * r + k.val) % 16, Nat.mod_lt _ (by decide)⟩)))
  | (kCrd ℓ, _, d) => .inr (.inr (.inr (ℓ, ⟨d % 16, Nat.mod_lt _ (by decide)⟩)))

theorem keyTok_tokKey (t : PTok) : keyTok (tokKey t) = t := by
  have hh (h : Fin 16) : (⟨(2 * (h.val / 2) + (par h.val).val) % 16, Nat.mod_lt _ (by decide)⟩ : Fin 16) = h :=
    Fin.ext (by show (2 * (h.val / 2) + (par h.val).val) % 16 = h.val; rw [half]; exact Nat.mod_eq_of_lt h.isLt)
  rcases t with b | ⟨ℓ, h⟩ | ⟨ℓ, h⟩ | ⟨ℓ, h⟩
  · cases b <;> rfl
  · exact congrArg (fun x => (Sum.inr (Sum.inl (ℓ, x)) : PTok)) (hh h)
  · exact congrArg (fun x => (Sum.inr (Sum.inr (Sum.inl (ℓ, x))) : PTok)) (hh h)
  · exact congrArg (fun x => (Sum.inr (Sum.inr (Sum.inr (ℓ, x))) : PTok)) (Fin.ext (Nat.mod_eq_of_lt h.isLt))

theorem tokKey_inj : Function.Injective tokKey := Function.LeftInverse.injective keyTok_tokKey

def tokOf (x : Dev nD × PTok) : GSem nD τ sig × ℕ × ℕ := (cell (tokDev x.2 x.1) (tokKey x.2).1, (tokKey x.2).2.1, (tokKey x.2).2.2)

theorem tokOf_inj : Function.Injective tokOf := by
  rintro ⟨c, t⟩ ⟨c', t'⟩ h
  have h1 := cell_inj (congrArg Prod.fst h)
  have h2 : (tokOf (c, t)).2 = (tokOf (c', t')).2 := congrArg Prod.snd h
  have ht : t = t' := tokKey_inj (Prod.ext h1.2 h2)
  subst ht
  exact Prod.ext ((tokDev t).injective h1.1) rfl

theorem kcell_inj : Function.Injective (fun x : Dev nD × CK => cell x.1 x.2) := fun x y h => Prod.ext (cell_inj h).1 (cell_inj h).2

def ringCells : Finset (GSem nD τ sig) := Finset.univ.map ⟨fun x : Dev nD × CK => cell x.1 x.2, kcell_inj⟩
def ringToks : Finset (GSem nD τ sig × ℕ × ℕ) := Finset.univ.map ⟨tokOf, tokOf_inj⟩

/-- The launch's element. -/
def u₀ : UU :=
  (initOf (Pipeline.cells cfgs cellOf_inj) (Pipeline.launchToks cfgs cellOf_inj), (initOf ringCells ringToks, initSlots (Finset.univ : Finset SlotKey) 8))

/-- The duty tokens device `c` pays with, its slots' counts, and its tokens for the neighbours' slots. -/
def payToks : SP F := bigSep Finset.univ fun t : PTok => dutyTok ER (tokOf (c, t)).1 (tokOf (c, t)).2.1 (tokOf (c, t)).2.2
@[inherit_doc payToks] def readers : SP F := bigSep Finset.univ fun ℓ : Lane => bigSep Finset.univ fun k : Fin 2 => readerAt EQ (c, ℓ, k) 0
@[inherit_doc payToks] def writers : SP F :=
  bigSep Finset.univ fun ℓ : Lane => bigSep Finset.univ fun h : Fin 16 => writeTok EQ (nbr ℓ c, ℓ, par h.val) (h.val / 2 + 1)

/-- What the launch's element gives device `c`. -/
def G : SP F :=
  iprop((bigSep Finset.univ fun k : CK => roundState ER (Rd I) (cell c k) 0)
    ∗ ((bigSep Finset.univ fun k : CK => atPos ER (cell c k) 0 ∅ 0) ∗ bigSep Finset.univ fun k : CK => begun (c, k))
    ∗ payToks c ∗ (∃ J, bigSep Finset.univ (slotI J)) ∗ readers c ∗ writers c)

theorem writers_deal : (bigSep ((Finset.univ : Finset SlotKey) ×ˢ Finset.range 8) (fun x => writeTok EQ x.1 (x.2 + 1)) : SP F)
    ⊢ bigSep Finset.univ (fun c : Dev nD => writers c) := by
  have e : (bigSep Finset.univ fun c : Dev nD => (writers c : SP F))
      = bigSep Finset.univ fun x : Dev nD × Lane × Fin 16 => writeTok EQ (nbr x.2.1 x.1, x.2.1, par x.2.2.val) (x.2.2.val / 2 + 1) := by
    unfold writers
    rw [BI.bigSep_univ_prod]
    exact bigSep_congr fun c _ => (BI.bigSep_univ_prod (fun x : Lane × Fin 16 => (writeTok EQ (nbr x.1 c, x.1, par x.2.val) (x.2.val / 2 + 1) : SP F))).symm
  refine BIBase.Entails.trans ?_ (Entails.of_eq e.symm)
  refine big_into (fun x : Dev nD × Lane × Fin 16 => (((nbr x.2.1 x.1, x.2.1, par x.2.2.val), x.2.2.val / 2) : SlotKey × ℕ)) ?_ ?_ _
  · rintro ⟨c, ℓ, h⟩ ⟨c', ℓ', h'⟩ e
    have e1 : nbr ℓ c = nbr ℓ' c' := congrArg (fun x : SlotKey × ℕ => x.1.1) e
    have e2 : ℓ = ℓ' := congrArg (fun x : SlotKey × ℕ => x.1.2.1) e
    have e3 : par h.val = par h'.val := congrArg (fun x : SlotKey × ℕ => x.1.2.2) e
    have e4 : h.val / 2 = h'.val / 2 := congrArg (fun x : SlotKey × ℕ => x.2) e
    subst e2
    have e5 : h.val = h'.val := by rw [← half h.val, ← half h'.val, e3, e4]
    have e6 : c = c' := (ringE ℓ).injective e1
    rw [e6, Fin.ext e5]
  · rintro ⟨c, ℓ, h⟩ _
    exact Finset.mem_product.mpr ⟨Finset.mem_univ _, Finset.mem_range.mpr (by show h.val / 2 < 8; have := h.isLt; omega)⟩

theorem readers_deal : (bigSep (Finset.univ : Finset SlotKey) (fun x => readerAt EQ x 0) : SP F) = bigSep Finset.univ (fun c : Dev nD => readers c) := by
  rw [BI.bigSep_univ_prod]
  exact bigSep_congr fun c _ => BI.bigSep_univ_prod (fun x : Lane × Fin 2 => (readerAt EQ (c, x.1, x.2) 0 : SP F))

theorem cells_deal (Φ : GSem nD τ sig → SP F) : bigSep ringCells Φ = bigSep Finset.univ fun c : Dev nD => bigSep Finset.univ fun k : CK => Φ (cell c k) := by
  unfold ringCells; rw [BI.bigSep_map, BI.bigSep_univ_prod]; rfl

theorem fund_ring : iprop(BI.own (ER (initOf ringCells ringToks)) ∗ BI.own (EQ (initSlots (Finset.univ : Finset SlotKey) 8)))
    ⊢ (|={Set.univ}=> bigSep Finset.univ (G I) : SP F) := by
  have hT : bigSep ringToks (fun x => (dutyTok ER x.1 x.2.1 x.2.2 : SP F)) = bigSep Finset.univ fun c : Dev nD => payToks c := by
    unfold ringToks; rw [BI.bigSep_map, BI.bigSep_univ_prod]; rfl
  iintro ⟨HX, HS⟩
  imod (Rounds.fund ER (Rd I) ringCells ringToks) $$ HX with ⟨Hst, Hr, Hat, Htok⟩
  imod (slots_init (Es := Set.univ) EQ (Finset.univ : Finset SlotKey) 8 (fun x => slotAny x.2.1 x.1 x.2.2) ∅) $$ HS with ⟨%J, -, #HI, Hrd, Hwr⟩
  imodintro
  ihave Hst' := (Entails.of_eq (cells_deal fun g => roundState ER (Rd I) g 0)) $$ Hst
  ihave Hat' := (Entails.of_eq (cells_deal fun g => atPos ER g 0 ∅ 0)) $$ Hat
  ihave Hr' := (Entails.of_eq (cells_deal fun g => reached ER g 0)) $$ Hr
  ihave Htok' := (Entails.of_eq hT) $$ Htok
  ihave Hrd' := (Entails.of_eq (readers_deal (F := F))) $$ Hrd
  ihave Hwr' := (writers_deal (F := F)) $$ Hwr
  unfold G
  simp only [BI.bigSep_sep']
  isplitl [Hst']; · iexact Hst'
  isplitl [Hat' Hr']
  · isplitl [Hat']; · iexact Hat'
    unfold begun; iexact Hr'
  isplitl [Htok']; · iexact Htok'
  isplitr
  · iapply (BI.bigSep_of_persistent Finset.univ iprop(∃ J, bigSep Finset.univ (slotI (F := F) J)))
    iexists J
    unfold slotI
    iexact HI
  isplitl [Hrd']; · iexact Hrd'
  iexact Hwr'

/-! ## Credits -/

theorem cred_one (e : Dev nD ≃ Dev nD) (k : CK) (i n : ℕ) :
    (Pipeline.launchCred (fun d => tallyAt (cell (e d) k) i n) c : SP F) = cred (tallyAt (cell c k) i n) :=
  Pipeline.launchCred_of_sum (fun d => tallyAt (cell (e d) k) i n) (fun d => tallyAt (cell d k) i n)
    (Equiv.sum_comp e fun d => (tallyAt (cell d k) i n : CellTallies nD τ sig ℕ))
    (fun d g h => by
      by_contra hg
      exact h (tallyAt_ne_cell (fun e => hg (congrArg Prod.fst e)) i n)) c

/-- The credit of a message, for its receiver. -/
def rcvTok (ℓ : Lane) (i : ℕ) : SP F := cred (tallyAt (cell c (kRcv ℓ (par i))) (stR ℓ i) (cN ℓ))
def optP (b : Bool) (P : SP F) : SP F := bif b then P else iprop(emp)

theorem cred_send (ℓ : Lane) (i : ℕ) : (Pipeline.launchCred (fun d => sendDue ℓ d i) c : SP F) = rcvTok c ℓ i := cred_one c (ringE ℓ) _ _ _
theorem cred_give (ℓ : Lane) (i : ℕ) : (Pipeline.launchCred (fun d => giveDue ℓ d i) c : SP F) = crdTok ℓ c i := cred_one c (ringE ℓ).symm _ _ _
theorem cred_opt (b : Bool) (O : Dev nD → CellTallies nD τ sig ℕ) :
    (Pipeline.launchCred (fun d => opt b (O d)) c : SP F) = optP b (Pipeline.launchCred O c) := by
  cases b
  · exact Pipeline.launchCred_zero c
  · rfl

/-- The credits of a step. -/
def stepTok (p : Bool) (i : ℕ) : SP F :=
  iprop(rcvTok c (p, false) i ∗ optP (Nat.ble i 14) (rcvTok c (p, true) i) ∗ optP (Nat.ble i 13) (crdTok (p, false) c i) ∗ optP (Nat.ble i 12) (crdTok (p, true) c i))

theorem cred_step (p : Bool) (i : ℕ) : (Pipeline.launchCred (fun d => stepDue p d i) c : SP F) = stepTok c p i := by
  unfold stepDue stepTok
  rw [Pipeline.launchCred_add (fun d => sendDue (p, false) d i), Pipeline.launchCred_add (fun d => opt (Nat.ble i 14) (sendDue (p, true) d i)),
    Pipeline.launchCred_add (fun d => opt (Nat.ble i 13) (giveDue (p, false) d i)), cred_opt, cred_opt, cred_opt, cred_send, cred_send, cred_give, cred_give]

theorem cred_rest (p : Bool) : ∀ n h : ℕ, (Pipeline.launchCred (fun d => restDue p d n h) c : SP F) = bigSep (Finset.Ico h (h + n)) (stepTok c p)
  | 0, h => by
    rw [Nat.add_zero, Finset.Ico_self, BI.bigSep_empty]
    exact Pipeline.launchCred_zero c
  | n + 1, h => by
    have e := Pipeline.launchCred_add (Name := ℕ) (U := UU) (Lvl := ℕ) (Val := Elt F) (fun d => stepDue p d h) (fun d => restDue p d n (h + 1)) c
    rw [show (fun d => restDue p d (n + 1) h) = fun d => stepDue p d h + restDue p d n (h + 1) from rfl, e, cred_step, cred_rest p n (h + 1),
      ico_head (show h < h + (n + 1) by omega), show h + 1 + n = h + (n + 1) by omega]

theorem cred_bar : (Pipeline.launchCred barDue c : SP F) ⊢ cred (tallyAt (cell c kBar) 1 2) := by
  rw [show (barDue : Dev nD → CellTallies nD τ sig ℕ) = fun d => tallyAt (cell (ringE (false, true) d) kBar) 1 1 + tallyAt (cell (ringE (false, false) d) kBar) 1 1 from rfl,
    Pipeline.launchCred_add, cred_one, cred_one, show (tallyAt (cell c kBar) 1 2 : CellTallies nD τ sig ℕ) = tallyAt (cell c kBar) 1 1 + tallyAt (cell c kBar) 1 1 from
      (tallyAt_add _ _ 1 1).symm]
  exact (cred_add _ _).2

/-- The credits of a lane. -/
def laneCred (ℓ : Lane) : SP F := iprop(bigSep (Finset.range (hops ℓ)) (rcvTok c ℓ) ∗ bigSep (Finset.range (hops ℓ - 2)) (crdTok ℓ c))

theorem opt_range {n : ℕ} (hn : n < 16) (Φ : ℕ → SP F) : bigSep (Finset.range 16) (fun i => optP (Nat.ble i n) (Φ i)) ⊢ bigSep (Finset.range (n + 1)) Φ :=
  BIBase.Entails.trans (BI.bigSep_subset (Finset.range_mono (by omega : n + 1 ≤ 16))) (bigSep_mono fun i hi => by
    rw [show Nat.ble i n = true from Nat.ble_eq.mpr (Nat.lt_succ_iff.mp (Finset.mem_range.mp hi))]; exact BI.Entails.refl _)

theorem cred_phase (p : Bool) : (Pipeline.launchCred (fun d => restDue p d 16 0) c : SP F) ⊢ iprop(laneCred c (p, false) ∗ laneCred c (p, true)) := by
  rw [cred_rest, Nat.zero_add, ← Finset.range_eq_Ico]
  unfold stepTok laneCred
  simp only [BI.bigSep_sep']
  iintro ⟨H1, H2, H3, H4⟩
  ihave H2 := (opt_range (n := 14) (by decide) _) $$ H2
  ihave H3 := (opt_range (n := 13) (by decide) _) $$ H3
  ihave H4 := (opt_range (n := 12) (by decide) _) $$ H4
  isplitl [H1 H3]
  · isplitl [H1]; · iexact H1
    iexact H3
  isplitl [H2]; · iexact H2
  iexact H4

theorem creds : (Pipeline.launchCred O₀ c : SP F) ⊢ iprop(cred (tallyAt (cell c kBar) 1 2) ∗ bigSep Finset.univ (laneCred c)) := by
  rw [lanes, show (O₀ : Dev nD → CellTallies nD τ sig ℕ) = fun d => barDue d + (ringDue d) from rfl, Pipeline.launchCred_add,
    show (ringDue : Dev nD → CellTallies nD τ sig ℕ) = fun d => restDue false d 16 0 + restDue true d 16 0 from rfl, Pipeline.launchCred_add]
  iintro ⟨Hb, H1, H2⟩
  isplitl [Hb]; · iapply (cred_bar c); iexact Hb
  ihave H1 := (cred_phase c false) $$ H1
  ihave H2 := (cred_phase c true) $$ H2
  icases H1 with ⟨H11, H12⟩
  icases H2 with ⟨H21, H22⟩
  isplitl [H11 H21]
  · isplitl [H11]; · iexact H11
    iexact H21
  isplitl [H12]; · iexact H12
  iexact H22

/-! ## A device's start -/

/-- What stays with one device. -/
def linear : SP F := iprop((bigSep Finset.univ fun k : CK => atPos ER (cell c k) 0 ∅ 0) ∗ payToks c ∗ readers c ∗ writers c)

theorem pay_split : (payToks c : SP F) ⊢ iprop((dutyTok ER (cell (rightOf c) kBar) 0 0 ∗ dutyTok ER (cell (leftOf c) kBar) 0 1)
    ∗ bigSep Finset.univ (fun ℓ : Lane => bigSep (Finset.range 16) fun h => dutyTok ER (cell (nbr ℓ c) (kRcv ℓ (par h))) (h / 2) 0)
    ∗ bigSep Finset.univ (fun ℓ : Lane => bigSep (Finset.range 16) fun h => dutyTok ER (cell c (kSnd ℓ (par h))) (h / 2) 0)
    ∗ bigSep Finset.univ (fun ℓ : Lane => bigSep (Finset.range 16) (giveTok ℓ c))) := by
  unfold payToks
  rw [big_toks]
  iintro ⟨Hb, H1, H2, H3⟩
  isplitl [Hb]; · iexact Hb
  isplitl [H1]
  · iapply (big_mono fun ℓ => big_range (n := 16) (le_refl _) fun h => (dutyTok ER (cell (nbr ℓ c) (kRcv ℓ (par h))) (h / 2) 0 : SP F)); iexact H1
  isplitl [H2]
  · iapply (big_mono fun ℓ => big_range (n := 16) (le_refl _) fun h => (dutyTok ER (cell c (kSnd ℓ (par h))) (h / 2) 0 : SP F)); iexact H2
  iapply (big_mono fun ℓ => big_range (n := 16) (le_refl _) (giveTok (F := F) ℓ c)); iexact H3

theorem lane_collect (ℓ : Lane) :
    iprop((atPos ER (cell c (kSnd ℓ 0)) 0 ∅ 0 ∗ atPos ER (cell c (kSnd ℓ 1)) 0 ∅ 0) ∗ (atPos ER (cell c (kRcv ℓ 0)) 0 ∅ 0 ∗ atPos ER (cell c (kRcv ℓ 1)) 0 ∅ 0)
        ∗ atPos ER (cell c (kCrd ℓ)) 0 ∅ 0
        ∗ (bigSep (Finset.range 16) fun h => dutyTok ER (cell (nbr ℓ c) (kRcv ℓ (par h))) (h / 2) 0)
        ∗ (bigSep (Finset.range 16) fun h => dutyTok ER (cell c (kSnd ℓ (par h))) (h / 2) 0)
        ∗ bigSep (Finset.range 16) (giveTok ℓ c)
        ∗ (bigSep Finset.univ fun k : Fin 2 => readerAt EQ (c, ℓ, k) 0)
        ∗ (bigSep Finset.univ fun h : Fin 16 => writeTok EQ (nbr ℓ c, ℓ, par h.val) (h.val / 2 + 1))
        ∗ laneCred c ℓ) ⊢ (laneTok c ℓ : SP F) := by
  have hh := (hops_pos ℓ).2
  have hs : Finset.range (hops ℓ) ⊆ Finset.range 16 := Finset.range_mono hh
  have hs' : Finset.range (hops ℓ - 2) ⊆ Finset.range 16 := Finset.range_mono (by omega)
  unfold laneTok laneCred
  rw [big_two, show (hopTok ℓ c : ℕ → SP F) = fun h => iprop(dutyTok ER (cell (nbr ℓ c) (kRcv ℓ (par h))) (h / 2) 0 ∗ dutyTok ER (cell c (kSnd ℓ (par h))) (h / 2) 0
    ∗ writeTok EQ (nbr ℓ c, ℓ, par h) (h / 2 + 1) ∗ rcvTok c ℓ h) from rfl]
  simp only [BI.bigSep_sep']
  iintro ⟨HS, HV, Hc, H1, H2, H3, Hr, Hw, H4, H5⟩
  isplitl [HS]; · iexact HS
  isplitl [HV]; · iexact HV
  isplitl [Hr]; · iexact Hr
  isplitl [Hc]; · iexact Hc
  isplitl [H1 H2 Hw H4]
  · isplitl [H1]; · iapply (big_sub hs _); iexact H1
    isplitl [H2]; · iapply (big_sub hs _); iexact H2
    isplitl [Hw]; · iapply (big_range hh fun h => (writeTok EQ (nbr ℓ c, ℓ, par h) (h / 2 + 1) : SP F)); iexact Hw
    iexact H4
  isplitl [H3]; · iapply (big_sub hs' _); iexact H3
  iexact H5

theorem toks_of : iprop(linear c ∗ Pipeline.launchCred O₀ c) ⊢ (iprop(barTok c ∗ bigSep Finset.univ (laneTok c)) : SP F) := by
  unfold linear readers writers barTok
  rw [big_cells]
  iintro ⟨⟨⟨Hb, HS, HV, HC⟩, Hp, Hr, Hw⟩, Hcr⟩
  ihave Hcr := (creds c) $$ Hcr
  icases Hcr with ⟨Hcb, Hcr⟩
  ihave Hp := (pay_split c) $$ Hp
  icases Hp with ⟨⟨HbR, HbL⟩, H1, H2, H3⟩
  isplitl [HbL HbR Hb Hcb]
  · isplitl [HbL]; · iexact HbL
    isplitl [HbR]; · iexact HbR
    isplitl [Hb]; · iexact Hb
    iexact Hcb
  iapply (big_mono fun ℓ => lane_collect c ℓ)
  simp only [BI.bigSep_sep']
  isplitl [HS]; · iexact HS
  isplitl [HV]; · iexact HV
  isplitl [HC]; · iexact HC
  isplitl [H1]; · iexact H1
  isplitl [H2]; · iexact H2
  isplitl [H3]; · iexact H3
  isplitl [Hr]; · iexact Hr
  isplitl [Hw]; · iexact Hw
  iexact Hcr

end Cert.KernelIdeal.Gen

end
-- ==== Proof.Run.lean ====
/-
  The launch of the 32 devices, and the run of the whole program from any memory.
-/
module

public import Idealize.ShloMosaic.Lib.Pipeline.Launch
public import Idealize.ShloMosaic.Lib.Pipeline.CollectiveSegs
public import proofs.«01_k».proof.Proof.Gen.KernelIdeal.Launch
public import proofs.«01_k».proof.Proof.Deal
public import proofs.«01_k».proof.Proof.Gen.KernelIdeal.Points

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The launch memory. -/
def s₀ : MemSt nD τ sig (Elt F) := ⟨m, fun _ => 0, ρ⟩

variable (c : Dev nD)

/-! ## Contents -/

/-- The blocks that device `c` stages. -/
def xBlk : Vec F S1x512x1024 .f32 := (win0_0.blk t0_0).view.read (Elt F) ((s₀ m ρ).mem ((c : Thread nD τ).loc main_arg0))
@[inherit_doc xBlk] def wqBlk : Vec F S1024x1024 .f32 := (win0_1.blk t0_0).view.read (Elt F) ((s₀ m ρ).mem ((c : Thread nD τ).loc main_arg1))
@[inherit_doc xBlk] def woBlk : Vec F S1024x1024 .f32 := (win0_2.blk t0_0).view.read (Elt F) ((s₀ m ρ).mem ((c : Thread nD τ).loc main_arg4))
@[inherit_doc xBlk] def kBlk : Vec F S1x2048x8x128 .f32 := (win0_3.blk t0_0).view.read (Elt F) ((s₀ m ρ).mem ((c : Thread nD τ).loc main_arg2))
@[inherit_doc xBlk] def vBlk : Vec F S1x2048x8x128 .f32 := (win0_4.blk t0_0).view.read (Elt F) ((s₀ m ρ).mem ((c : Thread nD τ).loc main_arg3))

/-- What the run depends on. -/
def insOf : Ins F where
  A c := partials (xBlk m ρ c) (wqBlk m ρ c) (headOf (kBlk m ρ c)) (headOf (vBlk m ρ c))
  wo c := woBlk m ρ c

/-! ## The pipeline's data -/

/-- Every cell's and every slot's invariant, and that every cell reached round 0. -/
def know (I : Ins F) (K : Dev nD × CK → ℕ) (J : SlotKey → ℕ) : SP F :=
  iprop((bigSep Finset.univ fun x : Dev nD × CK => cellInv ER (Rd I) (K x) (cell x.1 x.2)) ∗ (bigSep Finset.univ (slotI J)) ∗ (bigSep Finset.univ begun))

instance know_persistent (I : Ins F) (K : Dev nD × CK → ℕ) (J : SlotKey → ℕ) : BI.Persistent (know I K J) := by unfold know; infer_instance

/-- What a device holds after the global step. -/
def G' (I : Ins F) (c : Dev nD) : SP F := iprop(∃ K J, know I K J ∗ linear c)

def start (I : Ins F) (c : Dev nD) : SP F := iprop(∃ K J, ghost I K J c)

def Φ₀ : SP F := iprop(start (insOf m ρ) c ∗ scratch c)
def Φ₁ : SP F := iprop(scratch c ∗ sems c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xBlk m ρ c
    | ⟨1, _⟩ => wqBlk m ρ c
    | ⟨2, _⟩ => woBlk m ρ c
    | ⟨3, _⟩ => kBlk m ρ c
    | ⟨4, _⟩ => vBlk m ρ c
    | ⟨5, _⟩ => outVal (insOf m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem whole_eq (b : Ref sig .tc) (X : b.ty.Contents (Elt F)) :
    (owns (c : Thread nD τ) (Memref.whole b) fullShare X : SP F)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body's obligation -/

/-- A window's staging buffer before the point. -/
abbrev stgAt (b : Ref sig .tc) (X : b.ty.Contents (Elt F)) : SP F := owns (c : Thread nD τ) (Memref.whole b) fullShare X

def pre : SP F :=
  iprop(Φ₀ m ρ c ∗ (dats m ρ 0 c).owesAt 0 t0_0.castSucc
    ∗ (∃ d, stgAt c cc0_stg0_0 ((dats m ρ 0 c).before (0 : Fin 6) t0_0 d))
    ∗ (∃ d, stgAt c cc0_stg1_0 ((dats m ρ 0 c).before (1 : Fin 6) t0_0 d))
    ∗ (∃ d, stgAt c cc0_stg2_0 ((dats m ρ 0 c).before (2 : Fin 6) t0_0 d))
    ∗ (∃ d, stgAt c cc0_stg3_0 ((dats m ρ 0 c).before (3 : Fin 6) t0_0 d))
    ∗ (∃ d, stgAt c cc0_stg4_0 ((dats m ρ 0 c).before (4 : Fin 6) t0_0 d))
    ∗ (∃ d, stgAt c cc0_stg5_0 ((dats m ρ 0 c).before (5 : Fin 6) t0_0 d)))

def post : SP F :=
  iprop(Φ₁ c ∗ (dats m ρ 0 c).owesAt 0 t0_0.succ
    ∗ stgAt c cc0_stg0_0 (xBlk m ρ c) ∗ stgAt c cc0_stg1_0 (wqBlk m ρ c) ∗ stgAt c cc0_stg2_0 (woBlk m ρ c)
    ∗ stgAt c cc0_stg3_0 (kBlk m ρ c) ∗ stgAt c cc0_stg4_0 (vBlk m ρ c) ∗ stgAt c cc0_stg5_0 (outVal (insOf m ρ)))

abbrev bodyP (K : Dev nD × CK → ℕ) (J : SlotKey → ℕ) : SP F :=
  bodyPre (insOf m ρ) K J c (Memref.whole cc0_stg0_0) (Memref.whole cc0_stg1_0) (Memref.whole cc0_stg2_0) (Memref.whole cc0_stg3_0) (Memref.whole cc0_stg4_0)
    fullShare (xBlk m ρ c) (wqBlk m ρ c) (kBlk m ρ c) (vBlk m ρ c)
abbrev bodyQ : SP F :=
  bodyPost (insOf m ρ) c (Memref.whole cc0_stg0_0) (Memref.whole cc0_stg1_0) (Memref.whole cc0_stg2_0) (Memref.whole cc0_stg3_0) (Memref.whole cc0_stg4_0)
    fullShare (xBlk m ρ c) (wqBlk m ρ c) (kBlk m ρ c) (vBlk m ρ c)

theorem pre_body : pre m ρ c ⊢ iprop(∃ K J, bodyP m ρ c K J) := by
  have h0 : ∀ d, (dats m ρ 0 c).before (0 : Fin 6) t0_0 d = xBlk m ρ c := fun d => by unfold Dat.before; rw [if_pos (fetch0_0 t0_0)]; rfl
  have h1 : ∀ d, (dats m ρ 0 c).before (1 : Fin 6) t0_0 d = wqBlk m ρ c := fun d => by unfold Dat.before; rw [if_pos (fetch0_1 t0_0)]; rfl
  have h2 : ∀ d, (dats m ρ 0 c).before (2 : Fin 6) t0_0 d = woBlk m ρ c := fun d => by unfold Dat.before; rw [if_pos (fetch0_2 t0_0)]; rfl
  have h3 : ∀ d, (dats m ρ 0 c).before (3 : Fin 6) t0_0 d = kBlk m ρ c := fun d => by unfold Dat.before; rw [if_pos (fetch0_3 t0_0)]; rfl
  have h4 : ∀ d, (dats m ρ 0 c).before (4 : Fin 6) t0_0 d = vBlk m ρ c := fun d => by unfold Dat.before; rw [if_pos (fetch0_4 t0_0)]; rfl
  unfold pre Φ₀ start bodyP bodyPre inputs
  simp only [h0, h1, h2, h3, h4]
  unfold Dat.owesAt Pipeline.owesWithin owesX
  iintro ⟨⟨⟨%K, %J, Hg⟩, Hs⟩, ⟨%W, %hW, HO⟩, ⟨%d0, H0⟩, ⟨%d1, H1⟩, ⟨%d2, H2⟩, ⟨%d3, H3⟩, ⟨%d4, H4⟩, ⟨%d5, H5⟩⟩
  iexists K; iexists J
  isplitl [Hg]; · iexact Hg
  isplitl [HO]; · iexists W; iexact HO
  isplitl [Hs]; · iexact Hs
  isplitl [H0 H1 H3 H4]
  · isplitl [H0]; · iexact H0
    isplitl [H1]; · iexact H1
    isplitl [H3]; · iexact H3
    iexact H4
  isplitl [H2]; · iexact H2
  iexists _; iexact H5

theorem body_post : bodyQ m ρ c ⊢ post m ρ c := by
  unfold post Φ₁ bodyQ bodyPost inputs
  unfold Dat.owesAt Pipeline.owesWithin owesX
  iintro ⟨⟨%W, HO⟩, Hs, Hz, ⟨H0, H1, H3, H4⟩, H2, H5⟩
  isplitl [Hs Hz]
  · isplitl [Hs]; · iexact Hs
    iexact Hz
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

set_option maxRecDepth 100000 in
theorem wp_point : pre m ρ c ⊢ wp frame (wpE (defs₀ (F := F)) 𝒱₀ c none) Set.univ (bodyAt0 (F := F) t0_0) (fun _ => post m ρ c) := by
  have e : (bodyAt0 (F := F) t0_0) = Prog.lift .deviceId >>= fun c => bodyOf c (Memref.whole cc0_stg0_0) (Memref.whole cc0_stg1_0) (Memref.whole cc0_stg2_0)
      (Memref.whole cc0_stg3_0) (Memref.whole cc0_stg4_0) outM accM (bufA false) (bufA true) (bufG false) (bufG true)
          (sS (false, false)) (rS (false, false)) (sS (false, true)) (rS (false, true)) (sS (true, false)) (rS (true, false)) (sS (true, true)) (rS (true, true))
          (cS (false, false)) (cS (false, true)) (cS (true, false)) (cS (true, true)) := body_eq _ _ _ _ _ _ _ _ _ _ _ _ _ _ _ _ _ _ _ _ _ _ _ _ _ _ _ _ _ _ _ _ _ _
  rw [e]
  simp only [Prog.lift, Prog.bind_op, Prog.bind_ret, wp_deviceId]
  iintro H
  ihave H := (pre_body m ρ c) $$ H
  icases H with ⟨%K, %J, H⟩
  iapply (wp_wand frame (wpE (defs₀ (F := F)) 𝒱₀ (c : Thread nD τ) none) Set.univ) $$ [H]
  · iapply (wp_body (insOf m ρ) K J c (Memref.whole cc0_stg0_0) (Memref.whole cc0_stg1_0) (Memref.whole cc0_stg2_0) (Memref.whole cc0_stg3_0) (Memref.whole cc0_stg4_0)
      fullShare (xBlk m ρ c) (wqBlk m ρ c) (kBlk m ρ c) (vBlk m ρ c) rfl)
    iexact H
  iintro %a H
  iapply (body_post m ρ c); iexact H

set_option maxRecDepth 100000 in
theorem body_obligation : BodyObligation (dats (F := F) m ρ 0 c) (defs₀ (F := F)) 𝒱₀ 0 Set.univ := fun t => by
  rw [fin_N0 t]
  rw [bigSep_W0, bigSep_W0]
  exact wp_point m ρ c

/-! ## The global step -/

theorem ownSemFacts : Pipeline.OwnSemFacts cfg0.spec osem := by decide

theorem share_eq (w : Fin cfg0.W) : (dats m ρ 0 c).share w = fullShare := by unfold Dat.share; split <;> rfl

theorem unscopedSems0_eq : (unscopedSems0 c : SP F) = semVal (cell c kBar) 0 := by
  unfold unscopedSems0; rw [bigSep_eq_bigSepL_of_eq [SemLoc.reg barS] (by decide) (by decide)]; rfl

/-- The semaphores of a device are its cells. -/
theorem sems_cells : iprop(unscopedSems0 c ∗ Pipeline.ownSems0 (Ix := ℕ) (Name := ℕ) (U := UU) (Lvl := ℕ) (Val := Elt F) (τ := τ) osem c)
    = (bigSep Finset.univ fun k : CK => (semVal (cell c k) 0 : SP F)) := by
  rw [unscopedSems0_eq, BI.bigSep_univ_sum]
  congr 1
  exact (bigSep_univ_eq_bigSepL [()] (by decide) (by decide) fun k : Unit => (semVal (cell c (Sum.inl k)) 0 : SP F)).symm

theorem core_alloc (I : Ins F) : iprop(Pipeline.ownSems0 (Ix := ℕ) (Name := ℕ) (U := UU) (Lvl := ℕ) (Val := Elt F) (τ := τ) osem c ∗ unscopedSems0 c ∗ G I c)
    ⊢ |={Set.univ}=> (iprop((bigSep Finset.univ fun k : CK => iprop(∃ κ : ℕ, cellInv ER (Rd I) κ (cell c k)))
        ∗ (bigSep Finset.univ fun k : CK => begun (c, k)) ∗ (∃ J, bigSep Finset.univ (slotI J)) ∗ linear c) : SP F) := by
  unfold G linear
  iintro ⟨Hos, Hus, Hst, ⟨Hat, Hb⟩, Hp, HJ, Hr, Hw⟩
  ihave Hv := (Entails.of_eq (sems_cells (F := F) c)) $$ [Hos Hus]
  · isplitl [Hus] <;> iassumption
  imod (show iprop((bigSep Finset.univ fun k : CK => semVal (cell c k) 0) ∗ bigSep Finset.univ fun k : CK => roundState ER (Rd I) (cell c k) 0)
      ⊢ (|={Set.univ}=> bigSep Finset.univ fun k : CK => iprop(∃ κ : ℕ, cellInv ER (Rd I) κ (cell c k)) : SP F) from by
        rw [← BI.bigSep_sep']
        exact (bigSep_mono fun k _ => (Rounds.body_intro ER (Rd I) (cell c k)).trans inv_alloc).trans (bigSep_fupd _ _)) $$ [Hv Hst] with Hinv
  · isplitl [Hv] <;> iassumption
  imodintro
  isplitl [Hinv]; · iexact Hinv
  isplitl [Hb]; · iexact Hb
  isplitl [HJ]; · iexact HJ
  isplitl [Hat]; · iexact Hat
  isplitl [Hp]; · iexact Hp
  isplitl [Hr] <;> iassumption

theorem with_known {R : SP F} [BI.Persistent R] {Φ Ψ : Dev nD → SP F} (h : ∀ c, iprop(R ∗ Φ c) ⊢ Ψ c) :
    iprop(R ∗ bigSep Finset.univ Φ) ⊢ bigSep Finset.univ Ψ :=
  (sep_mono_left (BI.bigSep_of_persistent Finset.univ R)).trans (by rw [← BI.bigSep_sep']; exact bigSep_mono fun c _ => h c)

theorem regroup (I : Ins F) :
    (bigSep Finset.univ fun c : Dev nD => iprop((bigSep Finset.univ fun k : CK => iprop(∃ κ : ℕ, cellInv ER (Rd I) κ (cell c k)))
        ∗ (bigSep Finset.univ fun k : CK => begun (c, k)) ∗ (∃ J, bigSep Finset.univ (slotI J)) ∗ linear c) : SP F)
      ⊢ bigSep Finset.univ (G' I) := by
  rw [BI.bigSep_sep', BI.bigSep_sep', BI.bigSep_sep',
    ← BI.bigSep_univ_prod (α := Dev nD) (β := CK) (fun x => iprop(∃ κ : ℕ, cellInv ER (Rd I) κ (cell x.1 x.2))),
    ← BI.bigSep_univ_prod (α := Dev nD) (β := CK) (fun x => begun x)]
  iintro ⟨HI, #HB, HJ, HL⟩
  ihave HK := (BI.bigSep_exists_pi Finset.univ (fun (x : Dev nD × CK) (κ : ℕ) => (cellInv ER (Rd I) κ (cell x.1 x.2) : SP F))) $$ HI
  icases HK with ⟨%K, #HI⟩
  ihave HJ := (get_one (Φ := fun _ : Dev nD => (iprop(∃ J, bigSep Finset.univ (slotI J)) : SP F)) (Finset.mem_univ (0 : Dev nD))) $$ HJ
  icases HJ with ⟨%J, #HJ⟩
  iapply (with_known (R := know I K J) (Φ := linear) (Ψ := G' I) fun c => ?_)
  · unfold G'
    iintro ⟨H1, H2⟩
    iexists K; iexists J
    isplitl [H1] <;> iassumption
  · isplitr
    · unfold know
      isplitr; · iexact HI
      isplitr; · iexact HJ
      iexact HB
    · iexact HL

theorem glob (I : Ins F) :
    (bigSep Finset.univ fun c => iprop(Pipeline.ownSems0 (Ix := ℕ) (Name := ℕ) (U := UU) (Lvl := ℕ) (Val := Elt F) (τ := τ) osem c ∗ unscopedSems0 c ∗ G I c) : SP F)
    ⊢ |={Set.univ}=> bigSep Finset.univ (G' I) :=
  ((bigSep_mono fun c _ => core_alloc c I).trans (bigSep_fupd _ _)).trans (BI.fupd_mono (regroup I))

/-! ## The launch's side conditions -/

theorem start_intro (I : Ins F) :
    iprop(Pipeline.unscopedRestP Pipeline.Prefetch.none cfg0.spec c (fun b => m ((c : Thread nD τ).loc b)) ∗ levAts L lev
        ∗ Pipeline.launchCred O₀ c ∗ prngReg c (ρ c) ∗ G' I c)
      ⊢ (|={Set.univ}=> iprop(start I c ∗ emp) : SP F) := by
  iintro ⟨-, Hlev, Hcr, -, HG⟩
  unfold G'
  icases HG with ⟨%K, %J, Hk, Hl⟩
  ihave Ht := (toks_of c) $$ [Hl Hcr]
  · isplitl [Hl] <;> iassumption
  ihave Ht := (Entails.of_eq (show (iprop(barTok c ∗ bigSep Finset.univ (laneTok c)) : SP F)
    = iprop(barTok c ∗ (laneTok c (false, false) ∗ laneTok c (true, false)) ∗ (laneTok c (false, true) ∗ laneTok c (true, true))) from by rw [lanes])) $$ Ht
  imodintro
  unfold start ghost ctx know
  icases Hk with ⟨H1, H2, H3⟩
  isplitl
  · iexists K; iexists J
    isplitr [Ht]
    · isplitl [H1]; · iexact H1
      isplitl [H2]; · iexact H2
      isplitl [H3]; · iexact H3
      iexact Hlev
    · iexact Ht
  · iempintro

theorem any_whole (b : Ref sig .tc) : (iprop(∃ X, owns (c : Thread nD τ) (Memref.whole b) fullShare X) : SP F)
    = iprop(∃ f : Buf (Elt F) ((c : Thread nD τ).loc b), ((c : Thread nD τ).loc b) ↦{fullShare} f) := by
  have h := (Memref.isWhole_whole b).exists_owns_eq (Ix := ℕ) (Name := ℕ) (U := UU) (Lvl := ℕ) (Val := Elt F) (c := (c : Thread nD τ)) fullShare
  exact h

theorem scratch_eq : (Pipeline.scopedRest (Ix := ℕ) (Name := ℕ) (U := UU) (Lvl := ℕ) (Val := Elt F) spec0 c : SP F)
    = iprop((∃ X, owns (c : Thread nD τ) accM fullShare X) ∗ bufAny (false, false) c ∗ bufAny (false, true) c ∗ bufAny (true, false) c ∗ bufAny (true, true) c) := by
  rw [scopedRest0_eq]
  simp only [← any_whole]
  rfl

theorem phi0_intro :
    iprop(start (insOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : SP F) = _ from scratch_eq c]
  unfold Φ₀ scratch
  iintro ⟨Hs, -, Ha, H1, H2, H3, H4⟩
  isplitl [Hs]; · iexact Hs
  isplitl [Ha]; · iexact Ha
  isplitl [H1 H3]
  · isplitl [H1] <;> iassumption
  isplitl [H2] <;> iassumption

theorem sems_all : sems c ⊢ (bigSep Finset.univ fun k : CK => semVal (cell c k) 0 : SP F) := by
  unfold sems
  rw [big_cells]
  simp only [BI.bigSep_sep']
  iintro ⟨Hb, ⟨H1, H2⟩, ⟨H3, H4⟩, H5⟩
  isplitl [Hb]; · iexact Hb
  isplitl [H1 H3]
  · isplitl [H1] <;> iassumption
  isplitl [H2 H4]
  · isplitl [H2] <;> iassumption
  iexact H5

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : SP F) = _ from scratch_eq c]
  unfold Φ₁ scratch
  iintro ⟨⟨Ha, ⟨H1, H3⟩, H2, H4⟩, Hz⟩
  ihave Hz := (sems_all c) $$ Hz
  ihave Hz := (Entails.of_eq (sems_cells (F := F) c).symm) $$ Hz
  icases Hz with ⟨Hu, Ho⟩
  isplitl [Hu]; · iexact Hu
  isplitl [Ho]; · iexact Ho
  isplitl [Ha]; · iexact Ha
  isplitl [H1]; · iexact H1
  isplitl [H2]; · iexact H2
  isplitl [H3] <;> iassumption

theorem waits : (levAts L lev : SP F) ⊢ Pipeline.cellsWaits cfgs (dats m ρ) 0 0 c :=
  Pipeline.cellsWaits_intro cfgs (dats m ρ) 0 0 c fun w s t => by
    refine mayWait (by decide) ?_
    rcases t with ⟨_ | _, ht⟩
    · exact above_all c
    · intro g i h; exact absurd h (lt_irrefl _)

theorem fund_two (I : Ins F) : iprop(BI.own (((Emb.inl : Emb UB (UB × UQ)).trans (embR : Emb (UB × UQ) 𝕄)) (initOf ringCells ringToks))
      ∗ BI.own (((Emb.inr : Emb UQ (UB × UQ)).trans (embR : Emb (UB × UQ) 𝕄)) (initSlots (Finset.univ : Finset SlotKey) 8)))
    ⊢ (|={Set.univ}=> bigSep Finset.univ (G I) : SP F) := fund_ring I

/-! ## The run -/

/-- The arrays' final contents. -/
def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, for any float values: every weakly fair execution ends, every array at its final contents
    and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lev) (hL := L_of_ne) (hwaits := waits m ρ)
    (G := G (insOf m ρ)) (G' := G' (insOf m ρ)) (u₀ := u₀)
    (hu₀ := by
      unfold u₀
      iintro Hu
      ihave H := (ownU_pair _ _) $$ Hu
      icases H with ⟨HP, HX⟩
      ihave HX := (own_pair_emb _ _ _) $$ HX
      imod (fund_two (insOf m ρ)) $$ HX with HG
      imodintro
      isplitl [HP] <;> iassumption)
    (hglob := glob (insOf m ρ))
    (hA := fun _ _ => rfl) (hpf := fun _ k => k.elim0)
    (X := start (insOf m ρ)) (Y := fun c => unscopedSems0 c) (Z := fun _ => iprop(emp))
    (hX := fun c => start_intro m ρ c (insOf m ρ)) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Gen
end
-- ==== Proof.Frames.lean ====
/-
  The three programs' frames: arguments unchanged, every counter at zero. The two kernels have one text, so both frames are the same run, read
  over each kind of floats.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.ShloMosaic.TcCoe Idealize.SL.Sem

/-- The arguments after the run. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)}
    (h : Cert.KernelIdeal.Gen.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c (0 : Fin 6)).trans ((Cert.KernelIdeal.Gen.dats m ρ 0 c).arrAt_in (0 : Fin 6) rfl _),
   (h c (1 : Fin 6)).trans ((Cert.KernelIdeal.Gen.dats m ρ 0 c).arrAt_in (1 : Fin 6) rfl _),
   (h c (3 : Fin 6)).trans ((Cert.KernelIdeal.Gen.dats m ρ 0 c).arrAt_in (3 : Fin 6) rfl _),
   (h c (4 : Fin 6)).trans ((Cert.KernelIdeal.Gen.dats m ρ 0 c).arrAt_in (4 : Fin 6) rfl _),
   (h c (2 : Fin 6)).trans ((Cert.KernelIdeal.Gen.dats m ρ 0 c).arrAt_in (2 : Fin 6) rfl _)⟩

/-- The run, its arguments kept and its counters at zero. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨args_kept m ρ h.1, h.2⟩) (Cert.KernelIdeal.Gen.run_main m ρ)

theorem frame_kernelIdeal : Cert.quiescent_KernelIdeal := fun m ρ _ => run_kept (F := Ideal) m ρ

/-! ## The two kernels have one text -/

section
variable {F : FTy → Type} [FloatOps F]
set_option maxRecDepth 100000

theorem body_same (arg0 : Memref Cert.KernelIdeal.sig .tc .vmem Cert.KernelIdeal.S1x512x1024 .f32) (harg0 : arg0.IsWhole) (arg1 : Memref Cert.KernelIdeal.sig .tc .vmem Cert.KernelIdeal.S1024x1024 .f32) (harg1 : arg1.IsWhole) (arg2 : Memref Cert.KernelIdeal.sig .tc .vmem Cert.KernelIdeal.S1024x1024 .f32) (harg2 : arg2.IsWhole) (arg3 : Memref Cert.KernelIdeal.sig .tc .vmem Cert.KernelIdeal.S1x2048x8x128 .f32) (harg3 : arg3.IsWhole) (arg4 : Memref Cert.KernelIdeal.sig .tc .vmem Cert.KernelIdeal.S1x2048x8x128 .f32) (harg4 : arg4.IsWhole) (arg5 : Memref Cert.KernelIdeal.sig .tc .vmem Cert.KernelIdeal.S512x1024 .f32) (harg5 : arg5.IsWhole) (arg6 : Memref Cert.KernelIdeal.sig .tc .vmem Cert.KernelIdeal.S32x16x1152 .f32) (harg6 : arg6.IsWhole) (arg7 : Memref Cert.KernelIdeal.sig .tc .vmem Cert.KernelIdeal.S2x16x1152 .f32) (harg7 : arg7.IsWhole) (arg8 : Memref Cert.KernelIdeal.sig .tc .vmem Cert.KernelIdeal.S2x16x1152 .f32) (harg8 : arg8.IsWhole) (arg9 : Memref Cert.KernelIdeal.sig .tc .vmem Cert.KernelIdeal.S2x16x1024 .f32) (harg9 : arg9.IsWhole) (arg10 : Memref Cert.KernelIdeal.sig .tc .vmem Cert.KernelIdeal.S2x16x1024 .f32) (harg10 : arg10.IsWhole) (arg11 : DmaSems Cert.KernelIdeal.sig Cert.KernelIdeal.S2) (arg12 : DmaSems Cert.KernelIdeal.sig Cert.KernelIdeal.S2) (arg13 : DmaSems Cert.KernelIdeal.sig Cert.KernelIdeal.S2) (arg14 : DmaSems Cert.KernelIdeal.sig Cert.KernelIdeal.S2) (arg15 : DmaSems Cert.KernelIdeal.sig Cert.KernelIdeal.S2) (arg16 : DmaSems Cert.KernelIdeal.sig Cert.KernelIdeal.S2) (arg17 : DmaSems Cert.KernelIdeal.sig Cert.KernelIdeal.S2) (arg18 : DmaSems Cert.KernelIdeal.sig Cert.KernelIdeal.S2) (arg19 : Sems Cert.KernelIdeal.sig Cert.KernelIdeal.S_) (arg20 : Sems Cert.KernelIdeal.sig Cert.KernelIdeal.S_) (arg21 : Sems Cert.KernelIdeal.sig Cert.KernelIdeal.S_) (arg22 : Sems Cert.KernelIdeal.sig Cert.KernelIdeal.S_) :
    Cert.Kernel.cc0__body (F := F) arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22 = Cert.KernelIdeal.cc0__body (F := F) arg0 harg0 arg1 harg1 arg2 harg2 arg3 harg3 arg4 harg4 arg5 harg5 arg6 harg6 arg7 harg7 arg8 harg8 arg9 harg9 arg10 harg10 arg11 arg12 arg13 arg14 arg15 arg16 arg17 arg18 arg19 arg20 arg21 arg22 := rfl

theorem tables_same : Cert.Kernel.defs₀ (F := F) = Cert.KernelIdeal.defs₀ (F := F) := by
  unfold Cert.Kernel.defs₀ Cert.KernelIdeal.defs₀
  refine congrArg Defs.onTc ?_
  funext l a
  obtain ⟨l, hl⟩ := l
  rcases l with _ | l
  · obtain ⟨t, s⟩ := a
    exact body_same _ _ _ _ _ _ _ _ _ _ _ _ _ _ _ _ _ _ _ _ _ _ _ _ _ _ _ _ _ _ _ _ _ _
  · exact absurd hl (Nat.not_lt.2 (Nat.le_add_left _ _))
theorem defs_same : Cert.Kernel.defs (F := F) = Cert.KernelIdeal.defs (F := F) := congrArg (Pipeline.defs Cert.KernelIdeal.pcfgs) tables_same

end

theorem frame_kernel : Cert.quiescent_Kernel := by
  intro m ρ _
  rw [defs_same]
  exact run_kept (F := Bits) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Soft.lean ====
/-
  The softmax-weighted mean over the extended reals: with real scores it does not change when a real number is taken off every
  score, whatever the values it weighs.
-/
module

public import Idealize.ShloMosaic.PureOps.Ideal

@[expose] public section

noncomputable section

namespace Cert.Soft

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (T : Finset ι) (f : ι → EReal) (h : ∀ t, IsReal (f t)) : IsReal (∑ t ∈ T, f t) := by
  classical
  induction T using Finset.induction_on with
  | empty => exact ⟨0, by simp⟩
  | insert a T ha ih => rw [Finset.sum_insert ha]; exact (h a).add ih

/-- A magnitude below `+∞` is that of a real number. -/
theorem IsReal.of_abs_lt {x : EReal} (h : max x (-x) < ⊤) : IsReal x := by
  have h1 : x ≠ ⊤ := ((le_max_left _ _).trans_lt h).ne
  have h2 : x ≠ ⊥ := by
    rintro rfl
    exact ((le_max_right (⊥ : EReal) (-⊥)).trans_lt h).ne (by simp)
  exact ⟨x.toReal, (EReal.coe_toReal h1 h2).symm⟩

/-- The largest of finitely many reals, at least one of them, is real. -/
theorem IsReal.fold_max {ι : Type} [Fintype ι] [Nonempty ι] (s : ι → EReal) (hs : ∀ t, IsReal (s t)) :
    IsReal (Finset.univ.fold max ⊥ s) := by
  have h1 : Finset.univ.fold max ⊥ s ≠ ⊤ := (Finset.fold_max_lt ⊤ |>.2 ⟨bot_lt_top, fun t _ => by
    obtain ⟨r, hr⟩ := hs t; rw [hr]; exact EReal.coe_lt_top r⟩).ne
  have h2 : Finset.univ.fold max ⊥ s ≠ ⊥ := (Finset.lt_fold_max ⊥ |>.2 (Or.inr (by
    obtain ⟨t⟩ := ‹Nonempty ι›
    obtain ⟨r, hr⟩ := hs t
    exact ⟨t, Finset.mem_univ t, by rw [hr]; exact EReal.bot_lt_coe r⟩))).ne'
  exact ⟨_, (EReal.coe_toReal h1 h2).symm⟩

theorem real_mul_sum {ι : Type} (T : Finset ι) (c : ℝ) (hc : 0 ≤ c) (f : ι → EReal) :
    (c : EReal) * ∑ t ∈ T, f t = ∑ t ∈ T, (c : EReal) * f t := by
  classical
  induction T using Finset.induction_on with
  | empty => simp
  | insert a T ha ih =>
    rw [Finset.sum_insert ha, Finset.sum_insert ha, ← ih]
    exact EReal.left_distrib_of_nonneg_of_ne_top (EReal.coe_nonneg.2 hc) (EReal.coe_ne_top c) _ _

theorem coe_sum {ι : Type} (T : Finset ι) (f : ι → ℝ) : ((∑ t ∈ T, f t : ℝ) : EReal) = ∑ t ∈ T, (f t : EReal) := by
  classical
  induction T using Finset.induction_on with
  | empty => simp
  | insert a T ha ih => rw [Finset.sum_insert ha, Finset.sum_insert ha, EReal.coe_add, ih]

theorem exp_real (r : ℝ) : Ideal.exp (r : EReal) = (Real.exp r : EReal) := rfl

theorem sum_exp_pos {ι : Type} [Fintype ι] [Nonempty ι] (s : ι → EReal) (hs : ∀ t, IsReal (s t)) :
    ∃ b : ℝ, 0 < b ∧ ∑ t, Ideal.exp (s t) = (b : EReal) := by
  choose f hf using hs
  refine ⟨∑ t, Real.exp (f t), Finset.sum_pos (fun t _ => Real.exp_pos _) Finset.univ_nonempty, ?_⟩
  rw [coe_sum]
  exact Finset.sum_congr rfl fun t _ => by rw [hf t, exp_real]

theorem div_scaled (e b : ℝ) (he : 0 < e) (hb : 0 < b) (x : EReal) :
    Ideal.div ((e : EReal) * x) ((e : EReal) * (b : EReal)) = Ideal.div x b := by
  have h1 : ((e : EReal) * (b : EReal)) = ((e * b : ℝ) : EReal) := (EReal.coe_mul e b).symm
  have h2 : ((e * b : ℝ) : EReal) ≠ 0 := EReal.coe_ne_zero.2 (mul_pos he hb).ne'
  have h3 : (b : EReal) ≠ 0 := EReal.coe_ne_zero.2 hb.ne'
  have h4 : (e : EReal) * ((e * b : ℝ) : EReal)⁻¹ = (b : EReal)⁻¹ := by
    rw [← EReal.coe_inv, ← EReal.coe_inv, ← EReal.coe_mul]
    congr 1
    field_simp
  unfold Ideal.div
  rw [h1, if_neg h2, if_neg h3, mul_comm (e : EReal) x, mul_assoc, h4]

theorem mean_shift {ι : Type} [Fintype ι] [Nonempty ι] (s : ι → EReal) (hs : ∀ t, IsReal (s t)) (M : EReal) (hM : IsReal M)
    (v : ι → EReal) :
    Ideal.div (∑ t, v t * Ideal.exp (s t - M)) (∑ t, Ideal.exp (s t - M)) = Ideal.div (∑ t, Ideal.exp (s t) * v t) (∑ t, Ideal.exp (s t)) := by
  obtain ⟨μ, rfl⟩ := hM
  have he : ∀ t, Ideal.exp (s t - μ) = (Real.exp (-μ) : EReal) * Ideal.exp (s t) := fun t => by
    obtain ⟨r, hr⟩ := hs t
    rw [hr, ← EReal.coe_sub, exp_real, exp_real, ← EReal.coe_mul, ← Real.exp_add]
    congr 2
    ring
  obtain ⟨b, hb, hsum⟩ := sum_exp_pos s hs
  have e1 : ∑ t, v t * Ideal.exp (s t - μ) = (Real.exp (-μ) : EReal) * ∑ t, Ideal.exp (s t) * v t := by
    rw [real_mul_sum _ _ (Real.exp_pos _).le]
    exact Finset.sum_congr rfl fun t _ => by rw [he t, mul_comm, mul_assoc]
  have e2 : ∑ t, Ideal.exp (s t - μ) = (Real.exp (-μ) : EReal) * ∑ t, Ideal.exp (s t) := by
    rw [real_mul_sum _ _ (Real.exp_pos _).le]
    exact Finset.sum_congr rfl fun t _ => he t
  rw [e1, e2, hsum, div_scaled _ _ (Real.exp_pos _) hb]

end Cert.Soft

end
-- ==== Proof.Given.lean ====
/-
  The precondition, read: the side conditions its operations take, and that every element of `x`, `Wq` and a device's keys is a real
  number where it holds.
-/
module

public import proofs.«01_k».proof.Pre_finite_KernelIdeal
public import proofs.«01_k».proof.Pre_finite_ReferenceIdeal
public import proofs.«01_k».proof.Proof.Soft
public import Idealize.ShloMosaic.Lib.Pointwise

@[expose] public section

noncomputable section

namespace Cert.Soft

open Idealize.ShloMosaic

theorem factsK : Pre_finite_KernelIdeal.Facts where
  bcast_S_S1x512x1024 := by decide
  reducesTo_S1x512x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

theorem factsR : Pre_finite_ReferenceIdeal.Facts := by
  constructor <;> decide

theorem inf_top : FloatOps.ofBits (F := Ideal) .f32 0x7F800000#32 = (⊤ : EReal) := by
  show Ideal.ofBits .f32 0x7F800000#32 = ⊤
  simp [Ideal.ofBits, Ideal.ieee]

theorem and_one {a b : BitVec 1} (h : IntOp.andi a b = 1#1) : a = 1#1 ∧ b = 1#1 := by
  revert a b; decide

theorem fold_and_one {ι : Type} (T : Finset ι) (f : ι → BitVec 1) (b : BitVec 1) (h : T.fold IntOp.andi b f = 1#1) : ∀ t ∈ T, f t = 1#1 := by
  classical
  induction T using Finset.induction_on with
  | empty => intro t ht; exact absurd ht (Finset.notMem_empty t)
  | insert a T ha ih =>
    rw [Finset.fold_insert ha] at h
    intro t ht
    rcases Finset.mem_insert.1 ht with rfl | ht
    · exact (and_one h).1
    · exact ih (and_one h).2 t ht

theorem reduce_and_one {s u : Shape} {axes : List (Fin s.rank)} (x : IVec s 1) (b : IVec u 1) (h : s.ReducesTo axes ⟨0, ![]⟩) (hu : 0 < u.numel)
    (j : (⟨0, ![]⟩ : Shape).Idx) (e : Host.reduce IntOp.andi x b h hu j = 1#1) (i : s.Idx) : x i = 1#1 := by
  rw [Host.reduce_eq_fold] at e
  exact fold_and_one _ _ _ e i (Finset.mem_filter.2 ⟨Finset.mem_univ i, funext fun a => a.elim0⟩)

theorem real_of_olt {s : Shape} (x : FVec Ideal s .f32) (h : (⟨0, ![]⟩ : Shape).BroadcastsInDim s (![] : Fin 0 → Fin s.rank)) (i : s.Idx)
    (e : cmpf .olt (Host.absf x) (broadcastInDim s ![] h (constant ⟨0, ![]⟩ .f32 0x7F800000#32)) i = 1#1) : IsReal (x i) := by
  have e' : Ideal.cmp .olt (max (x i : EReal) (-(x i))) (FloatOps.ofBits (F := Ideal) .f32 0x7F800000#32) = 1#1 := e
  rw [inf_top] at e'
  exact IsReal.of_abs_lt ((Ideal.cmp_olt_eq_one _ _).1 e')

/-- Where the precondition holds of a device, its `x`, `Wq` and keys are real. -/
theorem given {x : FVec Ideal Pre_finite_KernelIdeal.S1x512x1024 .f32} {wq : FVec Ideal Pre_finite_KernelIdeal.S1024x1024 .f32}
    {k v : FVec Ideal Pre_finite_KernelIdeal.S1x2048x8x128 .f32} {wo : FVec Ideal Pre_finite_KernelIdeal.S1024x1024 .f32}
    (h : letI := factsK; Pre_finite_KernelIdeal.fn x wq k v wo = fun _ => 1#1) :
    (∀ i, IsReal (x i)) ∧ (∀ i, IsReal (wq i)) ∧ ∀ i, IsReal (k i) := by
  letI := factsK
  have h0 : Pre_finite_KernelIdeal.fn x wq k v wo (fun a => a.elim0) = 1#1 := congrFun h _
  obtain ⟨h12, h3⟩ := and_one h0
  obtain ⟨h1, h2⟩ := and_one h12
  exact ⟨fun i => real_of_olt x _ i (reduce_and_one _ _ _ _ _ h1 i), fun i => real_of_olt wq _ i (reduce_and_one _ _ _ _ _ h2 i),
    fun i => real_of_olt k _ i (reduce_and_one _ _ _ _ _ h3 i)⟩

end Cert.Soft

end
-- ==== Proof.Heads.lean ====
/-
  The attention partials of a device, over the extended reals, element by element: a head's exponentials of the scaled scores, its
  numerators (their products with the values, summed over the device's keys) and its denominators (their sums).

  The printed body has the eight heads one after the other; here a head is a function of its number.
-/
module

public import proofs.«01_k».proof.Proof.Prog
public import Idealize.ShloMosaic.Lib.Pointwise
public import Idealize.ShloMosaic.Lib.Pipeline.Value

@[expose] public section

noncomputable section

namespace Cert.KernelIdeal.Gen

open Idealize.ShloMosaic

/-- The scale of the scores, as the extended real its word denotes. -/
abbrev scale : EReal := Ideal.ofBits .f32 0x3DB504F3#32

theorem head_slices (h : Fin 8) : Shape.Slices S512x1024 ![0, 128 * h.val] S512x128 := by
  have := h.isLt
  refine ⟨rfl, fun a => ?_⟩
  fin_cases a
  · show 0 + 512 ≤ 512; omega
  · show 128 * h.val + 128 ≤ 1024; omega

/-- A head's columns of the projected queries, and its keys (or values) as a matrix. -/
def colsOf (h : Fin 8) (q : FVec Ideal S512x1024 .f32) : FVec Ideal S512x128 .f32 := extractStridedSlice S512x128 ![0, 128 * h.val] q (head_slices h)
@[inherit_doc colsOf] def matOf (K : Vec Ideal S1x2048x1x128 .f32) : FVec Ideal S2048x128 .f32 := shapeCast S2048x128 K shapeCasts_S1x2048x1x128_S2048x128

/-- A head's exponentials of its scaled scores. -/
def expOf (h : Fin 8) (q : FVec Ideal S512x1024 .f32) (K : Vec Ideal S1x2048x1x128 .f32) : FVec Ideal S512x2048 .f32 :=
  exp (mulf (matmul dot_S512x128_S2048x128_S512x2048_1_1_0_0_n_n none (colsOf h q) (matOf K) (constant S512x2048 .f32 0x00000000#32))
    (broadcast S512x2048 (Scalar.ofBits .f32 0x3DB504F3#32)))

/-- A head's numerators and denominators. -/
def numOf (h : Fin 8) (q : FVec Ideal S512x1024 .f32) (K V : Vec Ideal S1x2048x1x128 .f32) : FVec Ideal S512x128 .f32 :=
  matmul dot_S512x2048_S2048x128_S512x128_1_0_0_1_n_n none (expOf h q K) (matOf V) (constant S512x128 .f32 0x00000000#32)
@[inherit_doc numOf] def denOf (h : Fin 8) (q : FVec Ideal S512x1024 .f32) (K : Vec Ideal S1x2048x1x128 .f32) : FVec Ideal S512 .f32 :=
  multiReduction .add [1] S512 (expOf h q K) 0x00000000#32 reduces_S512x2048_S512 (.inl rfl) rfl

/-- Eight heads' columns, and eight heads' single columns, side by side. -/
def wide (f : Fin 8 → FVec Ideal S512x128 .f32) : FVec Ideal S512x1024 .f32 :=
  concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩]
    concatenates_S512x128_S512x128_S512x128_S512x128_S512x128_S512x128_S512x128_S512x128_S512x1024_d1
@[inherit_doc wide] def thin (f : Fin 8 → FVec Ideal S512x1 .f32) : FVec Ideal S512x8 .f32 :=
  concatenate S512x8 1 [⟨S512x1, f 0⟩, ⟨S512x1, f 1⟩, ⟨S512x1, f 2⟩, ⟨S512x1, f 3⟩, ⟨S512x1, f 4⟩, ⟨S512x1, f 5⟩, ⟨S512x1, f 6⟩, ⟨S512x1, f 7⟩]
    concatenates_S512x1_S512x1_S512x1_S512x1_S512x1_S512x1_S512x1_S512x1_S512x8_d1

theorem wide_apply (f : Fin 8 → FVec Ideal S512x128 .f32) (r : Fin 512) (h : Fin 8) (d : Fin 128) :
    wide f (ix2 r ⟨128 * h.val + d.val, by omega⟩) = f h (ix2 r d) :=
  concatenate_ofFn_apply (s₁ := S512x128) (t := S512x1024) 1 f concatenates_S512x128_S512x128_S512x128_S512x128_S512x128_S512x128_S512x128_S512x128_S512x1024_d1
    rfl 128 rfl (ix2 r ⟨128 * h.val + d.val, by omega⟩) h (by show (128 * h.val + d.val) / 128 = h.val; omega) (ix2 r d)
    (by show d.val = (128 * h.val + d.val) % 128; omega)
    (by intro b hb; fin_cases b; · rfl
        · exact absurd rfl hb)

theorem thin_apply (f : Fin 8 → FVec Ideal S512x1 .f32) (r : Fin 512) (h : Fin 8) : thin f (ix2 r h) = f h (ix2 r 0) :=
  concatenate_ofFn_apply (s₁ := S512x1) (t := S512x8) 1 f concatenates_S512x1_S512x1_S512x1_S512x1_S512x1_S512x1_S512x1_S512x1_S512x8_d1
    rfl 1 rfl (ix2 r h) h (by show h.val / 1 = h.val; omega) (ix2 r 0)
    (by show 0 = h.val % 1; omega)
    (by intro b hb; fin_cases b; · rfl
        · exact absurd rfl hb)

/-- The partials, from the heads. -/
theorem partials_eq (x : Vec Ideal S1x512x1024 .f32) (wq : Vec Ideal S1024x1024 .f32) (K V : Fin 8 → Vec Ideal S1x2048x1x128 .f32) :
    partials x wq K V = k0_pay27 (wide fun h => numOf h (k0_pay2 x wq) (K h) (V h))
      (concatenate S512x128 1 [⟨S512x8, thin fun h => shapeCast S512x1 (denOf h (k0_pay2 x wq) (K h)) shapeCasts_S512_S512x1⟩,
        ⟨S512x120, broadcast S512x120 (Scalar.ofBits .f32 0x00000000#32)⟩] concatenates_S512x8_S512x120_S512x128_d1) := rfl

theorem proj_apply (x : Vec Ideal S1x512x1024 .f32) (wq : Vec Ideal S1024x1024 .f32) (r : Fin 512) (n : Fin 1024) :
    k0_pay2 x wq (ix2 r n) = ∑ k : Fin 1024, x (ix3 0 r k) * wq (ix2 k n) := by
  pointwise [k0_pay2]

theorem expOf_apply (h : Fin 8) (q : FVec Ideal S512x1024 .f32) (K : Vec Ideal S1x2048x1x128 .f32) (r : Fin 512) (j : Fin 2048) :
    expOf h q K (ix2 r j) = Ideal.exp ((∑ d : Fin 128, q (ix2 r ⟨128 * h.val + d.val, by omega⟩) * K (ix4 0 j 0 d)) * scale) := by
  pointwise [expOf, colsOf, matOf]

theorem numOf_apply (h : Fin 8) (q : FVec Ideal S512x1024 .f32) (K V : Vec Ideal S1x2048x1x128 .f32) (r : Fin 512) (d : Fin 128) :
    numOf h q K V (ix2 r d) = ∑ j : Fin 2048, expOf h q K (ix2 r j) * V (ix4 0 j 0 d) := by
  pointwise [numOf, matOf]

theorem denOf_apply (h : Fin 8) (q : FVec Ideal S512x1024 .f32) (K : Vec Ideal S1x2048x1x128 .f32) (r : Fin 512) :
    denOf h q K (ix1 r) = ∑ j : Fin 2048, expOf h q K (ix2 r j) := by
  pointwise [denOf]

/-! ## The partials, the sum of two chunks and the projection, at an index -/

theorem partials_num (x : Vec Ideal S1x512x1024 .f32) (wq : Vec Ideal S1024x1024 .f32) (K V : Fin 8 → Vec Ideal S1x2048x1x128 .f32)
    (j : Fin 32) (i : Fin 16) (h : Fin 8) (d : Fin 128) :
    partials x wq K V (ix3 j i ⟨128 * h.val + d.val, by omega⟩) = numOf h (k0_pay2 x wq) (K h) (V h) (ix2 ⟨16 * j.val + i.val, by omega⟩ d) := by
  have hlt : 128 * h.val + d.val < 1024 := by omega
  rw [partials_eq, ← wide_apply (fun h => numOf h (k0_pay2 x wq) (K h) (V h)) ⟨16 * j.val + i.val, by omega⟩ h d]
  generalize (wide fun h => numOf h (k0_pay2 x wq) (K h) (V h)) = A
  pointwise [k0_pay27]
  rw [dif_pos hlt]
  congr 2
  exact Fin.ext (by show j.val * 16 + i.val = 16 * j.val + i.val; omega)

theorem partials_den (x : Vec Ideal S1x512x1024 .f32) (wq : Vec Ideal S1024x1024 .f32) (K V : Fin 8 → Vec Ideal S1x2048x1x128 .f32)
    (j : Fin 32) (i : Fin 16) (h : Fin 8) :
    partials x wq K V (ix3 j i ⟨1024 + h.val, by omega⟩) = denOf h (k0_pay2 x wq) (K h) (ix1 ⟨16 * j.val + i.val, by omega⟩) := by
  let D : Fin 8 → FVec Ideal S512x1 .f32 := fun h => shapeCast S512x1 (denOf h (k0_pay2 x wq) (K h)) shapeCasts_S512_S512x1
  have e : D h (ix2 ⟨16 * j.val + i.val, by omega⟩ 0) = denOf h (k0_pay2 x wq) (K h) (ix1 ⟨16 * j.val + i.val, by omega⟩) := by
    show shapeCast S512x1 (denOf h (k0_pay2 x wq) (K h)) shapeCasts_S512_S512x1 _ = _
    pointwise
  refine Eq.trans ?_ ((thin_apply D ⟨16 * j.val + i.val, by omega⟩ h).trans e)
  rw [partials_eq]
  show k0_pay27 _ (concatenate S512x128 1 [⟨S512x8, thin D⟩, _] _) _ = _
  generalize thin D = A
  generalize (wide fun h => numOf h (k0_pay2 x wq) (K h) (V h)) = B
  pointwise [k0_pay27]
  congr 2
  exact Fin.ext (by show j.val * 16 + i.val = 16 * j.val + i.val; omega)

theorem add_apply (a b : Vec Ideal S1x16x1152 .f32) (i : S1x16x1152.Idx) : k0_pay36 a b i = a i + b i := by
  pointwise [k0_pay36]

theorem project_apply (b : Vec Ideal S1x16x1152 .f32) (w : Vec Ideal S1024x1024 .f32) (i : Fin 16) (n : Fin 1024) :
    k0_pay65 b w (ix2 i n) = ∑ k : Fin 1024, Ideal.div (b (ix3 0 i ⟨k.val, by omega⟩)) (b (ix3 0 i ⟨1024 + k.val / 128, by omega⟩)) * w (ix2 k n) := by
  pointwise [k0_pay65]

end Cert.KernelIdeal.Gen

end
-- ==== Proof.Scatter.lean ====
/-
  What the reduce-scatter leaves, over the extended reals: a device's finished chunk is the sum of that chunk of all the devices' partials.
-/
module

public import proofs.«01_k».proof.Proof.Split
public import proofs.«01_k».proof.Proof.Heads

@[expose] public section

noncomputable section

namespace Cert.KernelIdeal.Gen

open Idealize.ShloMosaic

/-- The device `t` steps up a reduce-scatter lane from `c`. -/
def upLane (d : Bool) : Dev nD → ℕ → Dev nD
  | c, 0 => c
  | c, t + 1 => upLane d (src (false, d) c) t

theorem upLane_val (d : Bool) (t : ℕ) : ∀ c : Dev nD, (upLane d c t).val = (c.val + (bif d then t else 31 * t)) % 32 := by
  induction t with
  | zero => intro c; have h : c.val < 32 := c.isLt; cases d <;> (show c.val = (c.val + 0) % 32; omega)
  | succ t ih =>
    intro c
    rw [upLane, ih]
    cases d
    · show ((leftOf c).val + 31 * t) % 32 = (c.val + 31 * (t + 1)) % 32
      rw [leftOf_val]; omega
    · show ((rightOf c).val + t) % 32 = (c.val + (t + 1)) % 32
      rw [rightOf_val]; omega

theorem rsC_src (d : Bool) (c : Dev nD) (h : ℕ) (hh : h < 16) : rsC d (src (false, d) c) h = rsC d c (h + 1) := by
  cases d
  · refine Fin.ext ?_
    show ((leftOf c).val + 49 - h) % 32 = (c.val + 49 - (h + 1)) % 32
    rw [leftOf_val]; omega
  · refine Fin.ext ?_
    show ((rightOf c).val + h + 18) % 32 = (c.val + (h + 1) + 18) % 32
    rw [rightOf_val]; omega

variable (I : Ins Ideal)

theorem msgR_sum (d : Bool) (h : ℕ) (hh : h < 16) (i : S1x16x1152.Idx) : ∀ c : Dev nD,
    msgR I d c h i = ∑ t ∈ Finset.range (h + 1), I.A (upLane d c t) ((rectC (rsC d c h)).emb i) := by
  induction h with
  | zero => intro c; rw [Finset.sum_range_one]; rfl
  | succ h ih =>
    intro c
    rw [Finset.sum_range_succ', msgR, add_apply, ih (by omega), rsC_src d c h (by omega), add_comm]
    rfl

/-- A sum over the devices, from the sixteen above a device (itself the first) and the sixteen below. -/
theorem sum_ring {M : Type} [AddCommMonoid M] (f : Dev nD → M) (c : Dev nD) :
    (∑ t ∈ Finset.range 16, f (upLane true c t)) + ∑ t ∈ Finset.range 16, f (upLane false (leftOf c) t) = ∑ c', f c' := by
  have hc : c.val < 32 := c.isLt
  let g : ℕ → M := fun t => f (⟨(c.val + t) % 32, Nat.mod_lt _ (by decide)⟩ : Fin 32)
  have e1 : ∀ t ∈ Finset.range 16, f (upLane true c t) = g t := fun t _ =>
    congrArg f (Fin.ext (by rw [upLane_val]; rfl))
  have e2 : ∀ t ∈ Finset.range 16, f (upLane false (leftOf c) t) = g (16 + (16 - 1 - t)) := fun t ht =>
    congrArg f (Fin.ext (by
      rw [upLane_val, leftOf_val]
      have := Finset.mem_range.1 ht
      show ((c.val + 31) % 32 + 31 * t) % 32 = (c.val + (16 + (16 - 1 - t))) % 32
      omega))
  rw [Finset.sum_congr rfl e1, Finset.sum_congr rfl e2, Finset.sum_range_reflect (fun t => g (16 + t)) 16, ← Finset.sum_range_add g 16 16,
    ← Fin.sum_univ_eq_sum_range g 32]
  refine Fintype.sum_bijective (fun t : Fin 32 => (⟨(c.val + t.val) % 32, Nat.mod_lt _ (by decide)⟩ : Fin 32)) ?_ _ _ (fun t => rfl)
  refine Function.Injective.bijective_of_finite fun a b hab => Fin.ext ?_
  have h : (c.val + a.val) % 32 = (c.val + b.val) % 32 := congrArg Fin.val hab
  omega

/-- The chunk that device `c` finishes. -/
def mine (c : Dev nD) : Fin 32 := ⟨(c.val + 1) % 32, Nat.mod_lt _ (by decide)⟩

theorem fin_sum (c : Dev nD) (i : S1x16x1152.Idx) : fin I c i = ∑ c' : Dev nD, I.A c' ((rectC (mine c)).emb i) := by
  have hc : c.val < 32 := c.isLt
  have e1 : rsC true c 15 = mine c := Fin.ext (by show (c.val + 15 + 18) % 32 = (c.val + 1) % 32; omega)
  have e2 : rsC false (leftOf c) 15 = mine c := Fin.ext (by
    show ((leftOf c).val + 49 - 15) % 32 = (c.val + 1) % 32
    rw [leftOf_val]; omega)
  rw [fin, add_apply, msgR_sum I true 15 (by decide), msgR_sum I false 15 (by decide), e1, e2]
  exact sum_ring (fun c' => I.A c' ((rectC (mine c)).emb i)) c

end Cert.KernelIdeal.Gen

end
-- ==== Proof.RefAt.lean ====
/-
  The reference's result, read at an index.
-/
module

public import proofs.«01_k».proof.Proof.Gen.ReferenceIdeal
public import proofs.«01_k».proof.Proof.Soft
public import Idealize.ShloMosaic.Lib.Pointwise

@[expose] public section

noncomputable section

namespace Cert.ReferenceIdeal.Gen

open Idealize.ShloMosaic

/-- The factor on the scores. -/
def scale : EReal := FloatOps.ofBits (F := Ideal) .f32 0x3DB504F3#32

theorem scale_real : Soft.IsReal scale := by
  show Soft.IsReal (Ideal.ofBits .f32 0x3DB504F3#32)
  simp only [Ideal.ofBits, Ideal.ieee]
  rw [if_neg (by decide), if_neg (by decide)]
  exact ⟨_, rfl⟩

theorem bot_word : Ideal.ofBits .f32 0xFF800000#32 = ⊥ := by
  simp [Ideal.ofBits, Ideal.ieee]

variable (x : FVec Ideal S1x512x1024 .f32) (wq : FVec Ideal S1024x1024 .f32) (K V : FVec Ideal S1x65536x8x128 .f32) (wo : FVec Ideal S1024x1024 .f32)

/-- The scores of the queries against the keys. -/
def score : FVec Ideal S1x8x512x65536 .f32 :=
  mulf (Host.dotGeneral dot_S1x512x8x128_S1x65536x8x128_S1x8x512x65536_3_3_1_1_02_02 none
    (shapeCast S1x512x8x128 (Host.dotGeneral dot_S1x512x1024_S1024x1024_S1x512x1024_2_0_01_1_n_n none x wq : FVec Ideal S1x512x1024 .f32) shapeCasts_S1x512x1024_S1x512x8x128 : FVec Ideal S1x512x8x128 .f32)
    K : FVec Ideal S1x8x512x65536 .f32) (broadcastInDim S1x8x512x65536 ![] bcast_S_S1x8x512x65536 (constant S_ .f32 0x3DB504F3#32 : FVec Ideal S_ .f32))

/-- Their exponentials, the row's largest score taken off. -/
def weight (s : FVec Ideal S1x8x512x65536 .f32) : FVec Ideal S1x8x512x65536 .f32 :=
  Host.exp (subf s (broadcastInDim S1x8x512x65536 ![0, 1, 2, 3] bcast_S1x8x512x1_S1x8x512x65536_0_1_2_3
    (broadcastInDim S1x8x512x1 ![0, 1, 2] bcast_S1x8x512_S1x8x512x1_0_1_2
      (Host.reduce FloatOps.maximumf s (constant S_ .f32 0xFF800000#32 : FVec Ideal S_ .f32) reducesTo_S1x8x512x65536_S1x8x512_d3 h_S_ : FVec Ideal S1x8x512 .f32) : FVec Ideal S1x8x512x1 .f32)))

/-- The weighted mean of the values, a head's features side by side. -/
def mean (p : FVec Ideal S1x8x512x65536 .f32) : FVec Ideal S1x512x1024 .f32 :=
  shapeCast S1x512x1024 (Host.divf
    (transpose S1x512x8x128 [0, 3, 1, 2] (Host.dotGeneral dot_S1x65536x8x128_S1x8x512x65536_S1x8x128x512_1_3_3_2_02_01 none V p : FVec Ideal S1x8x128x512 .f32) transposes_S1x8x128x512_S1x512x8x128_0_3_1_2 : FVec Ideal S1x512x8x128 .f32)
    (broadcastInDim S1x512x8x128 ![0, 1, 2, 3] bcast_S1x512x8x1_S1x512x8x128_0_1_2_3
      (transpose S1x512x8x1 [0, 2, 1, 3] (broadcastInDim S1x8x512x1 ![0, 1, 2] bcast_S1x8x512_S1x8x512x1_0_1_2
        (Host.reduceAdd p (constant S_ .f32 0x00000000#32 : FVec Ideal S_ .f32) reducesTo_S1x8x512x65536_S1x8x512_d3 h_S_ : FVec Ideal S1x8x512 .f32) : FVec Ideal S1x8x512x1 .f32)
        transposes_S1x8x512x1_S1x512x8x1_0_2_1_3 : FVec Ideal S1x512x8x1 .f32)) : FVec Ideal S1x512x8x128 .f32) shapeCasts_S1x512x8x128_S1x512x1024

/-- The whole result. -/
def result : FVec Ideal S512x1024 .f32 :=
  shapeCast S512x1024 (Host.dotGeneral dot_S1x512x1024_S1024x1024_S1x512x1024_2_0_01_1_n_n none (mean V (weight (score x wq K))) wo : FVec Ideal S1x512x1024 .f32)
    shapeCasts_S1x512x1024_S512x1024

theorem score_apply (h : Fin 8) (r : Fin 512) (t : Fin 65536) :
    score x wq K (ix4 0 h r t) = (∑ d : Fin 128, (∑ k : Fin 1024, x (ix3 0 r k) * wq (ix2 k ⟨128 * h.val + d.val, by omega⟩)) * K (ix4 0 t h d)) * scale := by
  have e : ∀ d : Fin 128, (⟨h.val * 128 + d.val, by omega⟩ : Fin 1024) = ⟨128 * h.val + d.val, by omega⟩ := fun d =>
    Fin.ext (by show h.val * 128 + d.val = 128 * h.val + d.val; omega)
  pointwise [score, scale]
  simp only [e]

theorem weight_apply (s : FVec Ideal S1x8x512x65536 .f32) (h : Fin 8) (r : Fin 512) (t : Fin 65536) :
    weight s (ix4 0 h r t) = Ideal.exp (s (ix4 0 h r t) - Finset.univ.fold max ⊥ fun t' : Fin 65536 => s (ix4 0 h r t')) := by
  pointwise [weight]
  rw [bot_word]

theorem mean_apply (p : FVec Ideal S1x8x512x65536 .f32) (r : Fin 512) (h : Fin 8) (d : Fin 128) :
    mean V p (ix3 0 r ⟨128 * h.val + d.val, by omega⟩)
      = Ideal.div (∑ t : Fin 65536, V (ix4 0 t h d) * p (ix4 0 h r t)) (∑ t : Fin 65536, p (ix4 0 h r t)) := by
  pointwise [mean]

theorem result_apply (r : Fin 512) (n : Fin 1024) :
    result x wq K V wo (ix2 r n) = ∑ k : Fin 1024, mean V (weight (score x wq K)) (ix3 0 r k) * wo (ix2 k n) := by
  unfold result
  generalize mean V (weight (score x wq K)) = A
  pointwise

end Cert.ReferenceIdeal.Gen

end
-- ==== Proof.Agree.lean ====
/-
  The kernel's output is the reference's result: the sums over the devices and their keys are the sums over all keys, and the reference's
  softmax does not depend on the score it takes off.
-/
module

public import proofs.«01_k».proof.Proof.Scatter
public import proofs.«01_k».proof.Proof.Body
public import proofs.«01_k».proof.Proof.RefAt

@[expose] public section

noncomputable section

namespace Cert.KernelIdeal.Gen

open Idealize.ShloMosaic

/-- Key `j` of device `c`, among all keys. -/
def keyAt (c : Dev nD) (j : Fin 2048) : Fin 65536 := ⟨2048 * c.val + j.val, by have h : c.val < 32 := c.isLt; omega⟩

theorem sum_keys {M : Type} [AddCommMonoid M] (f : Fin 65536 → M) : ∑ c : Dev nD, ∑ j : Fin 2048, f (keyAt c j) = ∑ t, f t := by
  have h := (finProdFinEquiv (m := 32) (n := 2048)).sum_comp (fun t => f (t : Fin (32 * 2048)))
  rw [Fintype.sum_prod_type] at h
  refine Eq.trans ?_ h
  refine Finset.sum_congr rfl fun c _ => Finset.sum_congr rfl fun j _ => congrArg f (Fin.ext ?_)
  show 2048 * c.val + j.val = j.val + 2048 * c.val
  omega

theorem headOf_apply (X : Vec Ideal S1x2048x8x128 .f32) (h : Fin 8) (j : Fin 2048) (d : Fin 128) : headOf X h (ix4 0 j 0 d) = X (ix4 0 j h d) := by
  refine congrArg X (funext fun a => Fin.ext ?_)
  fin_cases a
  · rfl
  · show 0 + 1 * j.val = j.val; omega
  · show h.val + 1 * 0 = h.val; omega
  · show 0 + 1 * d.val = d.val; omega

theorem chunk_apply (j : Fin 32) (i : Fin 16) (n : Fin 1152) : (rectC j).emb (ix3 0 i n) = ix3 j i n := by
  refine funext fun a => Fin.ext ?_
  fin_cases a
  · show j.val + 1 * 0 = j.val; omega
  · show 0 + 1 * i.val = i.val; omega
  · show 0 + 1 * n.val = n.val; omega

theorem mine_owner (j : Fin 32) : mine (owner j) = j :=
  Fin.ext (by show ((j.val + 31) % 32 + 1) % 32 = j.val; omega)

theorem outVal_apply (I : Ins Ideal) (j : Fin 32) (i : Fin 16) (n : Fin 1024) :
    outVal I (ix2 ⟨16 * j.val + i.val, by omega⟩ n) = rowsOf I (owner j) (ix2 i n) := by
  refine Eq.trans (congrArg (outVal I) (funext fun a => Fin.ext ?_)) (congrFun (outVal_rows I j) (ix2 i n))
  fin_cases a
  · show 16 * j.val + i.val = 16 * j.val + 1 * i.val; omega
  · show n.val = 0 + 1 * n.val; omega

section
variable (I : Ins Ideal) (x : Vec Ideal S1x512x1024 .f32) (wq wo : Vec Ideal S1024x1024 .f32) (Kc Vc : Dev nD → Vec Ideal S1x2048x8x128 .f32)
  (K V : FVec Ideal Cert.ReferenceIdeal.S1x65536x8x128 .f32)
  (hA : ∀ c, I.A c = partials x wq (headOf (Kc c)) (headOf (Vc c))) (hw : ∀ c, I.wo c = wo)
  (hK : ∀ c j h d, Kc c (ix4 0 j h d) = K (ix4 0 (keyAt c j) h d)) (hV : ∀ c j h d, Vc c (ix4 0 j h d) = V (ix4 0 (keyAt c j) h d))

open Cert.ReferenceIdeal.Gen (score weight mean result)

include hK in
theorem exp_score (c : Dev nD) (h : Fin 8) (r : Fin 512) (j : Fin 2048) :
    expOf h (k0_pay2 x wq) (headOf (Kc c) h) (ix2 r j) = Ideal.exp (score x wq K (ix4 0 h r (keyAt c j))) := by
  rw [expOf_apply, Cert.ReferenceIdeal.Gen.score_apply]
  simp only [headOf_apply, hK, proj_apply]
  rfl

include hA hK hV in
theorem fin_num (j : Fin 32) (i : Fin 16) (h : Fin 8) (d : Fin 128) :
    fin I (owner j) (ix3 0 i ⟨128 * h.val + d.val, by omega⟩)
      = ∑ t, Ideal.exp (score x wq K (ix4 0 h ⟨16 * j.val + i.val, by omega⟩ t)) * V (ix4 0 t h d) := by
  rw [fin_sum, mine_owner, ← sum_keys]
  refine Finset.sum_congr rfl fun c _ => ?_
  rw [chunk_apply, hA, partials_num, numOf_apply]
  refine Finset.sum_congr rfl fun t _ => ?_
  rw [exp_score x wq Kc K hK, headOf_apply, hV]

include hA hK in
theorem fin_den (j : Fin 32) (i : Fin 16) (h : Fin 8) :
    fin I (owner j) (ix3 0 i ⟨1024 + h.val, by omega⟩)
      = ∑ t, Ideal.exp (score x wq K (ix4 0 h ⟨16 * j.val + i.val, by omega⟩ t)) := by
  rw [fin_sum, mine_owner, ← sum_keys]
  refine Finset.sum_congr rfl fun c _ => ?_
  rw [chunk_apply, hA, partials_den, denOf_apply]
  exact Finset.sum_congr rfl fun t _ => exp_score x wq Kc K hK c h _ t

theorem score_real (hx : ∀ i, Soft.IsReal (x i)) (hwq : ∀ i, Soft.IsReal (wq i)) (hKr : ∀ i, Soft.IsReal (K i)) (h : Fin 8) (r : Fin 512)
    (t : Fin 65536) : Soft.IsReal (score x wq K (ix4 0 h r t)) := by
  rw [Cert.ReferenceIdeal.Gen.score_apply]
  exact (Soft.IsReal.sum _ _ fun d => (Soft.IsReal.sum _ _ fun k => (hx _).mul (hwq _)).mul (hKr _)).mul Cert.ReferenceIdeal.Gen.scale_real

include hA hw hK hV in
theorem agree (hx : ∀ i, Soft.IsReal (x i)) (hwq : ∀ i, Soft.IsReal (wq i)) (hKr : ∀ i, Soft.IsReal (K i)) : outVal I = result x wq K V wo := by
  funext y
  obtain ⟨r, n, rfl⟩ : ∃ (r : Fin 512) (n : Fin 1024), y = ix2 r n := ⟨y 0, y 1, eq_ix2 y⟩
  obtain ⟨j, i, rfl⟩ : ∃ (j : Fin 32) (i : Fin 16), r = ⟨16 * j.val + i.val, by omega⟩ :=
    ⟨⟨r.val / 16, by omega⟩, ⟨r.val % 16, by omega⟩, Fin.ext (by show r.val = 16 * (r.val / 16) + r.val % 16; omega)⟩
  rw [outVal_apply, rowsOf, project_apply, Cert.ReferenceIdeal.Gen.result_apply, hw]
  refine Finset.sum_congr rfl fun k _ => congrArg (· * wo (ix2 k n)) ?_
  obtain ⟨h, d, rfl⟩ : ∃ (h : Fin 8) (d : Fin 128), k = ⟨128 * h.val + d.val, by omega⟩ :=
    ⟨⟨k.val / 128, by omega⟩, ⟨k.val % 128, by omega⟩, Fin.ext (by show k.val = 128 * (k.val / 128) + k.val % 128; omega)⟩
  have eh : (⟨1024 + (128 * h.val + d.val) / 128, by omega⟩ : Fin 1152) = ⟨1024 + h.val, by omega⟩ :=
    Fin.ext (by show 1024 + (128 * h.val + d.val) / 128 = 1024 + h.val; omega)
  have hs := score_real x wq K hx hwq hKr h ⟨16 * j.val + i.val, by omega⟩
  rw [Cert.ReferenceIdeal.Gen.mean_apply]
  simp only [Cert.ReferenceIdeal.Gen.weight_apply]
  rw [Soft.mean_shift _ hs _ (Soft.IsReal.fold_max _ hs)]
  refine congrArg₂ Ideal.div (fin_num I x wq Kc Vc K V hA hK hV j i h d) ?_
  exact (congrArg (fun q => fin I (owner j) (ix3 0 i q)) eh).trans (fin_den I x wq Kc Vc K hA hK j i h)

end

end Cert.KernelIdeal.Gen

end
-- ==== Proof.Value.lean ====
/-
  The value claim: every device ends with the reference's result.
-/
module

public import proofs.«01_k».proof.Proof.Frames
public import proofs.«01_k».proof.Proof.Agree
public import proofs.«01_k».proof.Proof.Given
public import Idealize.ShloMosaic.Lib.Pipeline.ValueKit.Geometry

@[expose] public section

noncomputable section

namespace Cert.KernelIdeal.Gen

open Idealize.ShloMosaic Idealize.ShloMosaic.TcCoe Idealize.SL.Sem

/-! ## The staged blocks are the whole arrays -/

section
variable {F : FTy → Type} [FloatOps F] (m : (ℓ : Loc nD τ sig) → Buf (Elt F) ℓ) (ρ : Dev nD → PrngReg) (c : Dev nD)

theorem xBlk_eq : xBlk m ρ c = m ((c : Thread nD τ).loc main_arg0) :=
  Memref.read_access_unit_zero (Elt F) main_arg0 (funext fun a => by fin_cases a <;> rfl) _ _
theorem wqBlk_eq : wqBlk m ρ c = m ((c : Thread nD τ).loc main_arg1) :=
  Memref.read_access_unit_zero (Elt F) main_arg1 (funext fun a => by fin_cases a <;> rfl) _ _
theorem woBlk_eq : woBlk m ρ c = m ((c : Thread nD τ).loc main_arg4) :=
  Memref.read_access_unit_zero (Elt F) main_arg4 (funext fun a => by fin_cases a <;> rfl) _ _
theorem kBlk_eq : kBlk m ρ c = m ((c : Thread nD τ).loc main_arg2) :=
  Memref.read_access_unit_zero (Elt F) main_arg2 (funext fun a => by fin_cases a <;> rfl) _ _
theorem vBlk_eq : vBlk m ρ c = m ((c : Thread nD τ).loc main_arg3) :=
  Memref.read_access_unit_zero (Elt F) main_arg3 (funext fun a => by fin_cases a <;> rfl) _ _

theorem final_out : finalA m ρ c (5 : Fin 6) = outVal (insOf m ρ) := by
  unfold finalA
  refine (dats m ρ 0 c).arrAt_eq_of_after_last (5 : Fin 6) t0_0 (by decide +kernel) (outVal (insOf m ρ)) (fun j => ?_)
  rfl
end

end Cert.KernelIdeal.Gen

namespace Cert.Proof

open Idealize.ShloMosaic Idealize.ShloMosaic.TcCoe Idealize.SL.Sem

/-- Device `c`'s part of a whole cache, at an index. -/
theorem block_keys (X : FVec Ideal Cert.ReferenceIdeal.S1x65536x8x128 .f32) (c : Dev Cert.KernelIdeal.nD) (j : Fin 2048) (h : Fin 8) (d : Fin 128) :
    Layout.block ⟨4, ![1, 2048, 8, 128]⟩ ⟨4, ![1, 65536, 8, 128]⟩ 1 32 c X (by decide) (ix4 0 j h d) = X (ix4 0 (Cert.KernelIdeal.Gen.keyAt c j) h d) := by
  refine congrArg X (funext fun a => Fin.ext ?_)
  fin_cases a
  · rfl
  · show c.val * 2048 + j.val = 2048 * c.val + j.val; omega
  · rfl
  · rfl

/-- Every key of the whole cache is one of some device's. -/
theorem exists_key (y : Cert.ReferenceIdeal.S1x65536x8x128.Idx) :
    ∃ (c : Dev Cert.KernelIdeal.nD) (j : Fin 2048) (h : Fin 8) (d : Fin 128), y = ix4 0 (Cert.KernelIdeal.Gen.keyAt c j) h d := by
  have h1 : (y 1).val < 65536 := (y 1).isLt
  refine ⟨(⟨(y 1).val / 2048, by omega⟩ : Fin 32), ⟨(y 1).val % 2048, Nat.mod_lt _ (by decide)⟩, y 2, y 3, funext fun a => Fin.ext ?_⟩
  fin_cases a
  · have h0 : (y 0).val < 1 := (y 0).isLt
    show (y 0).val = 0; omega
  · show (y 1).val = 2048 * ((y 1).val / 2048) + (y 1).val % 2048; omega
  · rfl
  · rfl

theorem algebraic : letI := Cert.Soft.factsK; Cert.algebraic_KernelIdeal_ReferenceIdeal_pre_finite_KernelIdeal := by
  letI := Cert.Soft.factsK
  intro m g m' g' hpre hargs
  have hout : Cert.KernelIdeal.Gen.outVal (Cert.KernelIdeal.Gen.insOf m g) = Cert.ReferenceIdeal.Gen.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    have hg := fun c => Cert.Soft.given (hpre c)
    refine Cert.KernelIdeal.Gen.agree _ _ _ _ (fun c => Cert.KernelIdeal.Gen.kBlk m g c) (fun c => Cert.KernelIdeal.Gen.vBlk m g c) _ _
      (fun c => ?_) (fun c => ?_) (fun c j h d => ?_) (fun c j h d => ?_) (fun i => ?_) (fun i => ?_) (fun i => ?_)
    · show Cert.KernelIdeal.Gen.partials (Cert.KernelIdeal.Gen.xBlk m g c) (Cert.KernelIdeal.Gen.wqBlk m g c) _ _ = _
      rw [Cert.KernelIdeal.Gen.xBlk_eq, Cert.KernelIdeal.Gen.wqBlk_eq]
      exact congrArg₂ (fun a b => Cert.KernelIdeal.Gen.partials a b (Cert.KernelIdeal.Gen.headOf (Cert.KernelIdeal.Gen.kBlk m g c))
        (Cert.KernelIdeal.Gen.headOf (Cert.KernelIdeal.Gen.vBlk m g c))) (hargs c).1 (hargs c).2.1
    · show Cert.KernelIdeal.Gen.woBlk m g c = _
      rw [Cert.KernelIdeal.Gen.woBlk_eq]
      exact (hargs c).2.2.2.2
    · show Cert.KernelIdeal.Gen.kBlk m g c _ = _
      rw [Cert.KernelIdeal.Gen.kBlk_eq]
      exact (congrFun (hargs c).2.2.1 _).trans (block_keys _ c j h d)
    · show Cert.KernelIdeal.Gen.vBlk m g c _ = _
      rw [Cert.KernelIdeal.Gen.vBlk_eq]
      exact (congrFun (hargs c).2.2.2.1 _).trans (block_keys _ c j h d)
    · exact (congrFun (hargs (0 : Fin 32)).1 i) ▸ (hg (0 : Fin 32)).1 i
    · exact (congrFun (hargs (0 : Fin 32)).2.1 i) ▸ (hg (0 : Fin 32)).2.1 i
    · obtain ⟨c, j, h, d, rfl⟩ := exists_key i
      exact ((congrFun (hargs c).2.2.1 (ix4 0 j h d)).trans (block_keys _ c j h d)) ▸ (hg c).2.2 (ix4 0 j h d)
  refine ⟨_, (θ_run Cert.KernelIdeal.defs _ _).mono (fun r h c => ⟨(h.1 c (5 : Fin 6)).trans ((Cert.KernelIdeal.Gen.final_out m g c).trans hout), args_kept m g h.1 c⟩)
    (Cert.KernelIdeal.Gen.run_main m g), ?_⟩
  exact (θ_run Cert.ReferenceIdeal.defs _ _).mono (fun r h => h 0) (Cert.ReferenceIdeal.Value.run (F := Ideal) m' g')

end Cert.Proof

end
-- ==== Proof.lean ====
/-
  The claim: the frames of the three programs, with and without the precondition, that the idealization keeps the kernel, and that the
  kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Given
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Soft.factsK, Cert.Soft.factsR,
    frame_kernel, frame_kernelIdeal, fun m g _ => frame_kernelIdeal m g trivial, frame_reference, fun m g _ => frame_reference m g trivial,
    trivial, algebraic⟩

end Cert.Proof

end
